-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_ExpertsIdeal (m : (ℓ : Loc Cert.ExpertsIdeal.nD Cert.ExpertsIdeal.τ Cert.ExpertsIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_bounds [hPre_finite_bounds : Cert.Pre_finite_bounds.Facts] (m : (ℓ : Loc Cert.ProjIdeal.nD Cert.ProjIdeal.τ Cert.ProjIdeal.sig) → Buf (Elt Ideal) ℓ) : Prop :=
  ∀ c : Dev Cert.ProjIdeal.nD,
    (Cert.Pre_finite_bounds.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))) = (fun _ => 1#1)

def Pre_ProjectionsIdeal (m : (ℓ : Loc Cert.ProjectionsIdeal.nD Cert.ProjectionsIdeal.τ Cert.ProjectionsIdeal.sig) → Buf (Elt Ideal) ℓ) : Prop :=
  True

def Pre_ProjectionsIdeal_finite_bounds [hPre_finite_bounds : Cert.Pre_finite_bounds.Facts] (m : (ℓ : Loc Cert.ProjectionsIdeal.nD Cert.ProjectionsIdeal.τ Cert.ProjectionsIdeal.sig) → Buf (Elt Ideal) ℓ) : Prop :=
  ∀ c : Dev Cert.ProjectionsIdeal.nD,
    (Cert.Pre_finite_bounds.fn (F := Ideal) (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)) (m ((c.tc : Thread Cert.ProjectionsIdeal.nD Cert.ProjectionsIdeal.τ).loc Cert.ProjectionsIdeal.main_arg5)) (m ((c.tc : Thread Cert.ProjectionsIdeal.nD Cert.ProjectionsIdeal.τ).loc Cert.ProjectionsIdeal.main_arg6)) (m ((c.tc : Thread Cert.ProjectionsIdeal.nD Cert.ProjectionsIdeal.τ).loc Cert.ProjectionsIdeal.main_arg7))) = (fun _ => 1#1)

def Pre_FinalPrompt (m : (ℓ : Loc Cert.FinalPrompt.nD Cert.FinalPrompt.τ Cert.FinalPrompt.sig) → Buf (Elt Bits) ℓ) : Prop :=
  True

def Pre_FinalPromptIdeal (m : (ℓ : Loc Cert.FinalPromptIdeal.nD Cert.FinalPromptIdeal.τ Cert.FinalPromptIdeal.sig) → Buf (Elt Ideal) ℓ) : Prop :=
  True

def Pre_ResultPromptIdeal (m : (ℓ : Loc Cert.ResultPromptIdeal.nD Cert.ResultPromptIdeal.τ Cert.ResultPromptIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_ResultSampleIdeal (m : (ℓ : Loc Cert.ResultSampleIdeal.nD Cert.ResultSampleIdeal.τ Cert.ResultSampleIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_MergeIdeal (m : (ℓ : Loc Cert.MergeIdeal.nD Cert.MergeIdeal.τ Cert.MergeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjIdeal_pre_finite_bounds [hProjIdeal : Cert.ProjIdeal.Facts] [hPre_finite_bounds : Cert.Pre_finite_bounds.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_bounds m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ r.2.sem = fun _ => 0)

def quiescent_ProjectionsIdeal_pre_finite_bounds [hProjectionsIdeal : Cert.ProjectionsIdeal.Facts] [hPre_finite_bounds : Cert.Pre_finite_bounds.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal_finite_bounds m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ r.2.sem = fun _ => 0)

def quiescent_FinalPrompt [hFinalPrompt : Cert.FinalPrompt.Facts] : Prop :=
  ∀ (m : (ℓ : Loc Cert.FinalPrompt.nD Cert.FinalPrompt.τ Cert.FinalPrompt.sig) → Buf (Elt Bits) ℓ) (g : Dev Cert.FinalPrompt.nD → PrngReg), Pre_FinalPrompt m →
    θ_run (Cert.FinalPrompt.defs (F := Bits)) (onTc (τ := Cert.FinalPrompt.τ) (Cert.FinalPrompt.main (F := Bits))) ⟨m, fun _ => 0, g⟩ (fun r => (∀ c : Dev Cert.FinalPrompt.nD,
      r.2.mem ((c.tc : Thread Cert.FinalPrompt.nD Cert.FinalPrompt.τ).loc Cert.FinalPrompt.main_arg0) = m ((c.tc : Thread Cert.FinalPrompt.nD Cert.FinalPrompt.τ).loc Cert.FinalPrompt.main_arg0)
      ∧ r.2.mem ((c.tc : Thread Cert.FinalPrompt.nD Cert.FinalPrompt.τ).loc Cert.FinalPrompt.main_arg1) = m ((c.tc : Thread Cert.FinalPrompt.nD Cert.FinalPrompt.τ).loc Cert.FinalPrompt.main_arg1)
      ∧ r.2.mem ((c.tc : Thread Cert.FinalPrompt.nD Cert.FinalPrompt.τ).loc Cert.FinalPrompt.main_arg2) = m ((c.tc : Thread Cert.FinalPrompt.nD Cert.FinalPrompt.τ).loc Cert.FinalPrompt.main_arg2)
      ∧ r.2.mem ((c.tc : Thread Cert.FinalPrompt.nD Cert.FinalPrompt.τ).loc Cert.FinalPrompt.main_arg3) = m ((c.tc : Thread Cert.FinalPrompt.nD Cert.FinalPrompt.τ).loc Cert.FinalPrompt.main_arg3))
      ∧ r.2.sem = fun _ => 0)

def quiescent_FinalPromptIdeal [hFinalPromptIdeal : Cert.FinalPromptIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg), Pre_FinalPromptIdeal m →
    θ_run (Cert.FinalPromptIdeal.defs (F := Ideal)) (onTc (τ := Cert.FinalPromptIdeal.τ) (Cert.FinalPromptIdeal.main (F := Ideal))) ⟨m, fun _ => 0, g⟩ (fun r => (∀ c : Dev Cert.FinalPromptIdeal.nD,
      r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
      ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1)
      ∧ r.2.mem ((c.tc : Thread Cert.FinalPromptIdeal.nD Cert.FinalPromptIdeal.τ).loc Cert.FinalPromptIdeal.main_arg2) = m ((c.tc : Thread Cert.FinalPromptIdeal.nD Cert.FinalPromptIdeal.τ).loc Cert.FinalPromptIdeal.main_arg2)
      ∧ r.2.mem ((c.tc : Thread Cert.FinalPromptIdeal.nD Cert.FinalPromptIdeal.τ).loc Cert.FinalPromptIdeal.main_arg3) = m ((c.tc : Thread Cert.FinalPromptIdeal.nD Cert.FinalPromptIdeal.τ).loc Cert.FinalPromptIdeal.main_arg3))
      ∧ r.2.sem = fun _ => 0)

def quiescent_ResultPromptIdeal [hResultPromptIdeal : Cert.ResultPromptIdeal.Facts] : Prop :=
  ∀ (m : (ℓ : Loc Cert.ResultPromptIdeal.nD Cert.ResultPromptIdeal.τ Cert.ResultPromptIdeal.sig) → Buf (Elt Ideal) ℓ) (g : Dev Cert.ResultPromptIdeal.nD → PrngReg), Pre_ResultPromptIdeal m →
    θ_run (Cert.ResultPromptIdeal.defs (F := Ideal)) (onTc (τ := Cert.ResultPromptIdeal.τ) (Cert.ResultPromptIdeal.main (F := Ideal))) ⟨m, fun _ => 0, g⟩ (fun r => (∀ c : Dev Cert.ResultPromptIdeal.nD,
      r.2.mem ((c.tc : Thread Cert.ResultPromptIdeal.nD Cert.ResultPromptIdeal.τ).loc Cert.ResultPromptIdeal.main_arg0) = m ((c.tc : Thread Cert.ResultPromptIdeal.nD Cert.ResultPromptIdeal.τ).loc Cert.ResultPromptIdeal.main_arg0)
      ∧ r.2.mem ((c.tc : Thread Cert.ResultPromptIdeal.nD Cert.ResultPromptIdeal.τ).loc Cert.ResultPromptIdeal.main_arg1) = m ((c.tc : Thread Cert.ResultPromptIdeal.nD Cert.ResultPromptIdeal.τ).loc Cert.ResultPromptIdeal.main_arg1)
      ∧ r.2.mem ((c.tc : Thread Cert.ResultPromptIdeal.nD Cert.ResultPromptIdeal.τ).loc Cert.ResultPromptIdeal.main_arg2) = m ((c.tc : Thread Cert.ResultPromptIdeal.nD Cert.ResultPromptIdeal.τ).loc Cert.ResultPromptIdeal.main_arg2)
      ∧ r.2.mem ((c.tc : Thread Cert.ResultPromptIdeal.nD Cert.ResultPromptIdeal.τ).loc Cert.ResultPromptIdeal.main_arg3) = m ((c.tc : Thread Cert.ResultPromptIdeal.nD Cert.ResultPromptIdeal.τ).loc Cert.ResultPromptIdeal.main_arg3))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1)
      ∧ r.2.mem ((c.tc : Thread Cert.FinalSample.nD Cert.FinalSample.τ).loc Cert.FinalSample.main_arg2) = m ((c.tc : Thread Cert.FinalSample.nD Cert.FinalSample.τ).loc Cert.FinalSample.main_arg2)
      ∧ r.2.mem ((c.tc : Thread Cert.FinalSample.nD Cert.FinalSample.τ).loc Cert.FinalSample.main_arg3) = m ((c.tc : Thread Cert.FinalSample.nD Cert.FinalSample.τ).loc Cert.FinalSample.main_arg3))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
      ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
      ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3))
      ∧ r.2.sem = fun _ => 0)

def quiescent_ResultSampleIdeal [hResultSampleIdeal : Cert.ResultSampleIdeal.Facts] : Prop :=
  ∀ (m : (ℓ : Loc Cert.ResultSampleIdeal.nD Cert.ResultSampleIdeal.τ Cert.ResultSampleIdeal.sig) → Buf (Elt Ideal) ℓ) (g : Dev Cert.ResultSampleIdeal.nD → PrngReg), Pre_ResultSampleIdeal m →
    θ_run (Cert.ResultSampleIdeal.defs (F := Ideal)) (onTc (τ := Cert.ResultSampleIdeal.τ) (Cert.ResultSampleIdeal.main (F := Ideal))) ⟨m, fun _ => 0, g⟩ (fun r => (∀ c : Dev Cert.ResultSampleIdeal.nD,
      r.2.mem ((c.tc : Thread Cert.ResultSampleIdeal.nD Cert.ResultSampleIdeal.τ).loc Cert.ResultSampleIdeal.main_arg0) = m ((c.tc : Thread Cert.ResultSampleIdeal.nD Cert.ResultSampleIdeal.τ).loc Cert.ResultSampleIdeal.main_arg0)
      ∧ r.2.mem ((c.tc : Thread Cert.ResultSampleIdeal.nD Cert.ResultSampleIdeal.τ).loc Cert.ResultSampleIdeal.main_arg1) = m ((c.tc : Thread Cert.ResultSampleIdeal.nD Cert.ResultSampleIdeal.τ).loc Cert.ResultSampleIdeal.main_arg1)
      ∧ r.2.mem ((c.tc : Thread Cert.ResultSampleIdeal.nD Cert.ResultSampleIdeal.τ).loc Cert.ResultSampleIdeal.main_arg2) = m ((c.tc : Thread Cert.ResultSampleIdeal.nD Cert.ResultSampleIdeal.τ).loc Cert.ResultSampleIdeal.main_arg2)
      ∧ r.2.mem ((c.tc : Thread Cert.ResultSampleIdeal.nD Cert.ResultSampleIdeal.τ).loc Cert.ResultSampleIdeal.main_arg3) = m ((c.tc : Thread Cert.ResultSampleIdeal.nD Cert.ResultSampleIdeal.τ).loc Cert.ResultSampleIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_ExpertsIdeal [hFfnIdeal : Cert.FfnIdeal.Facts] [hExpertsIdeal : Cert.ExpertsIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.ExpertsIdeal.nD Cert.ExpertsIdeal.τ Cert.ExpertsIdeal.sig) → Buf (Elt Ideal) ℓ) (g' : Dev Cert.ExpertsIdeal.nD → PrngReg), Pre_FfnIdeal m →
    (∀ c : Dev Cert.FfnIdeal.nD,
      m' ((c.tc : Thread Cert.ExpertsIdeal.nD Cert.ExpertsIdeal.τ).loc Cert.ExpertsIdeal.main_arg0) = m ((c.tc : Thread Cert.FfnIdeal.nD Cert.FfnIdeal.τ).loc Cert.FfnIdeal.main_arg0)
      ∧ m' ((c.tc : Thread Cert.ExpertsIdeal.nD Cert.ExpertsIdeal.τ).loc Cert.ExpertsIdeal.main_arg1) = m ((c.tc : Thread Cert.FfnIdeal.nD Cert.FfnIdeal.τ).loc Cert.FfnIdeal.main_arg1)
      ∧ m' ((c.tc : Thread Cert.ExpertsIdeal.nD Cert.ExpertsIdeal.τ).loc Cert.ExpertsIdeal.main_arg2) = m ((c.tc : Thread Cert.FfnIdeal.nD Cert.FfnIdeal.τ).loc Cert.FfnIdeal.main_arg2)
      ∧ m' ((c.tc : Thread Cert.ExpertsIdeal.nD Cert.ExpertsIdeal.τ).loc Cert.ExpertsIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.ExpertsIdeal.defs (F := Ideal)) (onTc (τ := Cert.ExpertsIdeal.τ) (Cert.ExpertsIdeal.main (F := Ideal))) ⟨m', fun _ => 0, g'⟩ (fun r => ∀ c : Dev Cert.ExpertsIdeal.nD,
          r.2.mem ((c.tc : Thread Cert.ExpertsIdeal.nD Cert.ExpertsIdeal.τ).loc Cert.ExpertsIdeal.main_v15) = v0 c
          ∧ r.2.mem ((c.tc : Thread Cert.ExpertsIdeal.nD Cert.ExpertsIdeal.τ).loc Cert.ExpertsIdeal.main_arg0) = m' ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m' ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m' ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m' ((c.tc : Thread Cert.ExpertsIdeal.nD Cert.ExpertsIdeal.τ).loc Cert.ExpertsIdeal.main_arg3))

def preserves_Proj_ProjIdeal : Prop :=
  IdealRules.named_const.Statement Cert.ProjIdeal.κ "s" .f32 0x3FB8AA3B#32 (((Real.log 2)⁻¹ : ℝ) : EReal)

def algebraic_ProjIdeal_ProjectionsIdeal_pre_finite_bounds [hProjIdeal : Cert.ProjIdeal.Facts] [hProjectionsIdeal : Cert.ProjectionsIdeal.Facts] [hPre_finite_bounds : Cert.Pre_finite_bounds.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjectionsIdeal.nD Cert.ProjectionsIdeal.τ Cert.ProjectionsIdeal.sig) → Buf (Elt Ideal) ℓ) (g' : Dev Cert.ProjectionsIdeal.nD → PrngReg), Pre_ProjIdeal_finite_bounds m →
    (∀ c : Dev Cert.ProjIdeal.nD,
      m' ((c.tc : Thread Cert.ProjectionsIdeal.nD Cert.ProjectionsIdeal.τ).loc Cert.ProjectionsIdeal.main_arg0) = m ((c.tc : Thread Cert.ProjIdeal.nD Cert.ProjIdeal.τ).loc Cert.ProjIdeal.main_arg0)
      ∧ m' ((c.tc : Thread Cert.ProjectionsIdeal.nD Cert.ProjectionsIdeal.τ).loc Cert.ProjectionsIdeal.main_arg1) = m ((c.tc : Thread Cert.ProjIdeal.nD Cert.ProjIdeal.τ).loc Cert.ProjIdeal.main_arg1)
      ∧ m' ((c.tc : Thread Cert.ProjectionsIdeal.nD Cert.ProjectionsIdeal.τ).loc Cert.ProjectionsIdeal.main_arg2) = m ((c.tc : Thread Cert.ProjIdeal.nD Cert.ProjIdeal.τ).loc Cert.ProjIdeal.main_arg2)
      ∧ m' ((c.tc : Thread Cert.ProjectionsIdeal.nD Cert.ProjectionsIdeal.τ).loc Cert.ProjectionsIdeal.main_arg3) = m ((c.tc : Thread Cert.ProjIdeal.nD Cert.ProjIdeal.τ).loc Cert.ProjIdeal.main_arg3)
      ∧ m' ((c.tc : Thread Cert.ProjectionsIdeal.nD Cert.ProjectionsIdeal.τ).loc Cert.ProjectionsIdeal.main_arg4) = m ((c.tc : Thread Cert.ProjIdeal.nD Cert.ProjIdeal.τ).loc Cert.ProjIdeal.main_arg4)
      ∧ m' ((c.tc : Thread Cert.ProjectionsIdeal.nD Cert.ProjectionsIdeal.τ).loc Cert.ProjectionsIdeal.main_arg5) = m ((c.tc : Thread Cert.ProjIdeal.nD Cert.ProjIdeal.τ).loc Cert.ProjIdeal.main_arg5)
      ∧ m' ((c.tc : Thread Cert.ProjectionsIdeal.nD Cert.ProjectionsIdeal.τ).loc Cert.ProjectionsIdeal.main_arg6) = m ((c.tc : Thread Cert.ProjIdeal.nD Cert.ProjIdeal.τ).loc Cert.ProjIdeal.main_arg6)
      ∧ m' ((c.tc : Thread Cert.ProjectionsIdeal.nD Cert.ProjectionsIdeal.τ).loc Cert.ProjectionsIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v7_1)) (v2 : (c : Dev Cert.ProjIdeal.nD) → Buf (Elt Ideal) ((c.tc : Thread Cert.ProjIdeal.nD Cert.ProjIdeal.τ).loc Cert.ProjIdeal.main_v7_2)) (v3 : (c : Dev Cert.ProjIdeal.nD) → Buf (Elt Ideal) ((c.tc : Thread Cert.ProjIdeal.nD Cert.ProjIdeal.τ).loc Cert.ProjIdeal.main_v7_3)) (v4 : (c : Dev Cert.ProjIdeal.nD) → Buf (Elt Ideal) ((c.tc : Thread Cert.ProjIdeal.nD Cert.ProjIdeal.τ).loc Cert.ProjIdeal.main_v7_4)) (v5 : (c : Dev Cert.ProjIdeal.nD) → Buf (Elt Ideal) ((c.tc : Thread Cert.ProjIdeal.nD Cert.ProjIdeal.τ).loc Cert.ProjIdeal.main_v7_5)) (v6 : (c : Dev Cert.ProjIdeal.nD) → Buf (Elt Ideal) ((c.tc : Thread Cert.ProjIdeal.nD Cert.ProjIdeal.τ).loc Cert.ProjIdeal.main_v7_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v7_1) = v1 c
          ∧ r.2.mem ((c.tc : Thread Cert.ProjIdeal.nD Cert.ProjIdeal.τ).loc Cert.ProjIdeal.main_v7_2) = v2 c
          ∧ r.2.mem ((c.tc : Thread Cert.ProjIdeal.nD Cert.ProjIdeal.τ).loc Cert.ProjIdeal.main_v7_3) = v3 c
          ∧ r.2.mem ((c.tc : Thread Cert.ProjIdeal.nD Cert.ProjIdeal.τ).loc Cert.ProjIdeal.main_v7_4) = v4 c
          ∧ r.2.mem ((c.tc : Thread Cert.ProjIdeal.nD Cert.ProjIdeal.τ).loc Cert.ProjIdeal.main_v7_5) = v5 c
          ∧ r.2.mem ((c.tc : Thread Cert.ProjIdeal.nD Cert.ProjIdeal.τ).loc Cert.ProjIdeal.main_v7_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjectionsIdeal.defs (F := Ideal)) (onTc (τ := Cert.ProjectionsIdeal.τ) (Cert.ProjectionsIdeal.main (F := Ideal))) ⟨m', fun _ => 0, g'⟩ (fun r => ∀ c : Dev Cert.ProjectionsIdeal.nD,
          r.2.mem ((c.tc : Thread Cert.ProjectionsIdeal.nD Cert.ProjectionsIdeal.τ).loc Cert.ProjectionsIdeal.main_v89) = v0 c
          ∧ r.2.mem ((c.tc : Thread Cert.ProjectionsIdeal.nD Cert.ProjectionsIdeal.τ).loc Cert.ProjectionsIdeal.main_v93) = v1 c
          ∧ r.2.mem ((c.tc : Thread Cert.ProjectionsIdeal.nD Cert.ProjectionsIdeal.τ).loc Cert.ProjectionsIdeal.main_v116) = v2 c
          ∧ r.2.mem ((c.tc : Thread Cert.ProjectionsIdeal.nD Cert.ProjectionsIdeal.τ).loc Cert.ProjectionsIdeal.main_v139) = v3 c
          ∧ r.2.mem ((c.tc : Thread Cert.ProjectionsIdeal.nD Cert.ProjectionsIdeal.τ).loc Cert.ProjectionsIdeal.main_v142) = v4 c
          ∧ r.2.mem ((c.tc : Thread Cert.ProjectionsIdeal.nD Cert.ProjectionsIdeal.τ).loc Cert.ProjectionsIdeal.main_v146) = v5 c
          ∧ r.2.mem ((c.tc : Thread Cert.ProjectionsIdeal.nD Cert.ProjectionsIdeal.τ).loc Cert.ProjectionsIdeal.main_v153) = v6 c
          ∧ r.2.mem ((c.tc : Thread Cert.ProjectionsIdeal.nD Cert.ProjectionsIdeal.τ).loc Cert.ProjectionsIdeal.main_arg0) = m' ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m' ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m' ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m' ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m' ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m' ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m' ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m' ((c.tc : Thread Cert.ProjectionsIdeal.nD Cert.ProjectionsIdeal.τ).loc Cert.ProjectionsIdeal.main_arg7))

def preserves_FinalPrompt_FinalPromptIdeal : Prop :=
  True

def algebraic_FinalPromptIdeal_ResultPromptIdeal [hFinalPromptIdeal : Cert.FinalPromptIdeal.Facts] [hResultPromptIdeal : Cert.ResultPromptIdeal.Facts] : Prop :=
  ∀ (m : (ℓ : Loc Cert.FinalPromptIdeal.nD Cert.FinalPromptIdeal.τ Cert.FinalPromptIdeal.sig) → Buf (Elt Ideal) ℓ) (g : Dev Cert.FinalPromptIdeal.nD → PrngReg)
    (m' : (ℓ : Loc Cert.ResultPromptIdeal.nD Cert.ResultPromptIdeal.τ Cert.ResultPromptIdeal.sig) → Buf (Elt Ideal) ℓ) (g' : Dev Cert.ResultPromptIdeal.nD → PrngReg), Pre_FinalPromptIdeal m →
    (∀ c : Dev Cert.FinalPromptIdeal.nD,
      m' ((c.tc : Thread Cert.ResultPromptIdeal.nD Cert.ResultPromptIdeal.τ).loc Cert.ResultPromptIdeal.main_arg0) = m ((c.tc : Thread Cert.FinalPromptIdeal.nD Cert.FinalPromptIdeal.τ).loc Cert.FinalPromptIdeal.main_arg0)
      ∧ m' ((c.tc : Thread Cert.ResultPromptIdeal.nD Cert.ResultPromptIdeal.τ).loc Cert.ResultPromptIdeal.main_arg1) = m ((c.tc : Thread Cert.FinalPromptIdeal.nD Cert.FinalPromptIdeal.τ).loc Cert.FinalPromptIdeal.main_arg1)
      ∧ m' ((c.tc : Thread Cert.ResultPromptIdeal.nD Cert.ResultPromptIdeal.τ).loc Cert.ResultPromptIdeal.main_arg2) = m ((c.tc : Thread Cert.FinalPromptIdeal.nD Cert.FinalPromptIdeal.τ).loc Cert.FinalPromptIdeal.main_arg2)
      ∧ m' ((c.tc : Thread Cert.ResultPromptIdeal.nD Cert.ResultPromptIdeal.τ).loc Cert.ResultPromptIdeal.main_arg3) = m ((c.tc : Thread Cert.FinalPromptIdeal.nD Cert.FinalPromptIdeal.τ).loc Cert.FinalPromptIdeal.main_arg3)) →
    ∃ (v0 : (c : Dev Cert.FinalPromptIdeal.nD) → Buf (Elt Ideal) ((c.tc : Thread Cert.FinalPromptIdeal.nD Cert.FinalPromptIdeal.τ).loc Cert.FinalPromptIdeal.main_v2)),
      θ_run (Cert.FinalPromptIdeal.defs (F := Ideal)) (onTc (τ := Cert.FinalPromptIdeal.τ) (Cert.FinalPromptIdeal.main (F := Ideal))) ⟨m, fun _ => 0, g⟩ (fun r => ∀ c : Dev Cert.FinalPromptIdeal.nD,
          r.2.mem ((c.tc : Thread Cert.FinalPromptIdeal.nD Cert.FinalPromptIdeal.τ).loc Cert.FinalPromptIdeal.main_v2) = v0 c
          ∧ r.2.mem ((c.tc : Thread Cert.FinalPromptIdeal.nD Cert.FinalPromptIdeal.τ).loc Cert.FinalPromptIdeal.main_arg0) = m ((c.tc : Thread Cert.FinalPromptIdeal.nD Cert.FinalPromptIdeal.τ).loc Cert.FinalPromptIdeal.main_arg0)
          ∧ r.2.mem ((c.tc : Thread Cert.FinalPromptIdeal.nD Cert.FinalPromptIdeal.τ).loc Cert.FinalPromptIdeal.main_arg1) = m ((c.tc : Thread Cert.FinalPromptIdeal.nD Cert.FinalPromptIdeal.τ).loc Cert.FinalPromptIdeal.main_arg1)
          ∧ r.2.mem ((c.tc : Thread Cert.FinalPromptIdeal.nD Cert.FinalPromptIdeal.τ).loc Cert.FinalPromptIdeal.main_arg2) = m ((c.tc : Thread Cert.FinalPromptIdeal.nD Cert.FinalPromptIdeal.τ).loc Cert.FinalPromptIdeal.main_arg2)
          ∧ r.2.mem ((c.tc : Thread Cert.FinalPromptIdeal.nD Cert.FinalPromptIdeal.τ).loc Cert.FinalPromptIdeal.main_arg3) = m ((c.tc : Thread Cert.FinalPromptIdeal.nD Cert.FinalPromptIdeal.τ).loc Cert.FinalPromptIdeal.main_arg3))
      ∧ θ_run (Cert.ResultPromptIdeal.defs (F := Ideal)) (onTc (τ := Cert.ResultPromptIdeal.τ) (Cert.ResultPromptIdeal.main (F := Ideal))) ⟨m', fun _ => 0, g'⟩ (fun r => ∀ c : Dev Cert.ResultPromptIdeal.nD,
          r.2.mem ((c.tc : Thread Cert.ResultPromptIdeal.nD Cert.ResultPromptIdeal.τ).loc Cert.ResultPromptIdeal.main_v19) = v0 c
          ∧ r.2.mem ((c.tc : Thread Cert.ResultPromptIdeal.nD Cert.ResultPromptIdeal.τ).loc Cert.ResultPromptIdeal.main_arg0) = m' ((c.tc : Thread Cert.ResultPromptIdeal.nD Cert.ResultPromptIdeal.τ).loc Cert.ResultPromptIdeal.main_arg0)
          ∧ r.2.mem ((c.tc : Thread Cert.ResultPromptIdeal.nD Cert.ResultPromptIdeal.τ).loc Cert.ResultPromptIdeal.main_arg1) = m' ((c.tc : Thread Cert.ResultPromptIdeal.nD Cert.ResultPromptIdeal.τ).loc Cert.ResultPromptIdeal.main_arg1)
          ∧ r.2.mem ((c.tc : Thread Cert.ResultPromptIdeal.nD Cert.ResultPromptIdeal.τ).loc Cert.ResultPromptIdeal.main_arg2) = m' ((c.tc : Thread Cert.ResultPromptIdeal.nD Cert.ResultPromptIdeal.τ).loc Cert.ResultPromptIdeal.main_arg2)
          ∧ r.2.mem ((c.tc : Thread Cert.ResultPromptIdeal.nD Cert.ResultPromptIdeal.τ).loc Cert.ResultPromptIdeal.main_arg3) = m' ((c.tc : Thread Cert.ResultPromptIdeal.nD Cert.ResultPromptIdeal.τ).loc Cert.ResultPromptIdeal.main_arg3))

def preserves_FinalSample_FinalSampleIdeal : Prop :=
  True

def algebraic_FinalSampleIdeal_ResultSampleIdeal [hFinalSampleIdeal : Cert.FinalSampleIdeal.Facts] [hResultSampleIdeal : Cert.ResultSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.ResultSampleIdeal.nD Cert.ResultSampleIdeal.τ Cert.ResultSampleIdeal.sig) → Buf (Elt Ideal) ℓ) (g' : Dev Cert.ResultSampleIdeal.nD → PrngReg), Pre_FinalSampleIdeal m →
    (∀ c : Dev Cert.FinalSampleIdeal.nD,
      m' ((c.tc : Thread Cert.ResultSampleIdeal.nD Cert.ResultSampleIdeal.τ).loc Cert.ResultSampleIdeal.main_arg0) = m ((c.tc : Thread Cert.FinalSampleIdeal.nD Cert.FinalSampleIdeal.τ).loc Cert.FinalSampleIdeal.main_arg0)
      ∧ m' ((c.tc : Thread Cert.ResultSampleIdeal.nD Cert.ResultSampleIdeal.τ).loc Cert.ResultSampleIdeal.main_arg1) = m ((c.tc : Thread Cert.FinalSampleIdeal.nD Cert.FinalSampleIdeal.τ).loc Cert.FinalSampleIdeal.main_arg1)
      ∧ m' ((c.tc : Thread Cert.ResultSampleIdeal.nD Cert.ResultSampleIdeal.τ).loc Cert.ResultSampleIdeal.main_arg2) = m ((c.tc : Thread Cert.FinalSampleIdeal.nD Cert.FinalSampleIdeal.τ).loc Cert.FinalSampleIdeal.main_arg2)
      ∧ m' ((c.tc : Thread Cert.ResultSampleIdeal.nD Cert.ResultSampleIdeal.τ).loc Cert.ResultSampleIdeal.main_arg3) = m ((c.tc : Thread Cert.FinalSampleIdeal.nD Cert.FinalSampleIdeal.τ).loc Cert.FinalSampleIdeal.main_arg3)) →
    ∃ (v0 : (c : Dev Cert.FinalSampleIdeal.nD) → Buf (Elt Ideal) ((c.tc : Thread Cert.FinalSampleIdeal.nD Cert.FinalSampleIdeal.τ).loc Cert.FinalSampleIdeal.main_v2)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v2) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
          ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
          ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3))
      ∧ θ_run (Cert.ResultSampleIdeal.defs (F := Ideal)) (onTc (τ := Cert.ResultSampleIdeal.τ) (Cert.ResultSampleIdeal.main (F := Ideal))) ⟨m', fun _ => 0, g'⟩ (fun r => ∀ c : Dev Cert.ResultSampleIdeal.nD,
          r.2.mem ((c.tc : Thread Cert.ResultSampleIdeal.nD Cert.ResultSampleIdeal.τ).loc Cert.ResultSampleIdeal.main_v19) = v0 c
          ∧ r.2.mem ((c.tc : Thread Cert.ResultSampleIdeal.nD Cert.ResultSampleIdeal.τ).loc Cert.ResultSampleIdeal.main_arg0) = m' ((c.tc : Thread Cert.ResultSampleIdeal.nD Cert.ResultSampleIdeal.τ).loc Cert.ResultSampleIdeal.main_arg0)
          ∧ r.2.mem ((c.tc : Thread Cert.ResultSampleIdeal.nD Cert.ResultSampleIdeal.τ).loc Cert.ResultSampleIdeal.main_arg1) = m' ((c.tc : Thread Cert.ResultSampleIdeal.nD Cert.ResultSampleIdeal.τ).loc Cert.ResultSampleIdeal.main_arg1)
          ∧ r.2.mem ((c.tc : Thread Cert.ResultSampleIdeal.nD Cert.ResultSampleIdeal.τ).loc Cert.ResultSampleIdeal.main_arg2) = m' ((c.tc : Thread Cert.ResultSampleIdeal.nD Cert.ResultSampleIdeal.τ).loc Cert.ResultSampleIdeal.main_arg2)
          ∧ r.2.mem ((c.tc : Thread Cert.ResultSampleIdeal.nD Cert.ResultSampleIdeal.τ).loc Cert.ResultSampleIdeal.main_arg3) = m' ((c.tc : Thread Cert.ResultSampleIdeal.nD Cert.ResultSampleIdeal.τ).loc Cert.ResultSampleIdeal.main_arg3))

def preserves_Post_PostIdeal : Prop :=
  IdealRules.bf16_pair.BufferStatement Cert.PostIdeal.S16384x2x512 Cert.PostIdeal.S16384x1x512
  ∧ IdealRules.bf16_pair.BufferStatement Cert.PostIdeal.S512x2x512 Cert.PostIdeal.S512x1x512
  ∧ IdealRules.bf16_pair.Statement Cert.PostIdeal.S512x2x512 Cert.PostIdeal.S512x1x512
  ∧ IdealRules.bf16_pack.Statement Cert.PostIdeal.S512x512

def algebraic_PostIdeal_MergeIdeal [hPostIdeal : Cert.PostIdeal.Facts] [hMergeIdeal : Cert.MergeIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.MergeIdeal.nD Cert.MergeIdeal.τ Cert.MergeIdeal.sig) → Buf (Elt Ideal) ℓ) (g' : Dev Cert.MergeIdeal.nD → PrngReg), Pre_PostIdeal m →
    (∀ c : Dev Cert.PostIdeal.nD,
      m' ((c.tc : Thread Cert.MergeIdeal.nD Cert.MergeIdeal.τ).loc Cert.MergeIdeal.main_arg0) = m ((c.tc : Thread Cert.PostIdeal.nD Cert.PostIdeal.τ).loc Cert.PostIdeal.main_arg0)
      ∧ m' ((c.tc : Thread Cert.MergeIdeal.nD Cert.MergeIdeal.τ).loc Cert.MergeIdeal.main_arg1) = m ((c.tc : Thread Cert.PostIdeal.nD Cert.PostIdeal.τ).loc Cert.PostIdeal.main_arg1)
      ∧ m' ((c.tc : Thread Cert.MergeIdeal.nD Cert.MergeIdeal.τ).loc Cert.MergeIdeal.main_arg2) = m ((c.tc : Thread Cert.PostIdeal.nD Cert.PostIdeal.τ).loc Cert.PostIdeal.main_arg2)
      ∧ m' ((c.tc : Thread Cert.MergeIdeal.nD Cert.MergeIdeal.τ).loc Cert.MergeIdeal.main_arg3) = m ((c.tc : Thread Cert.PostIdeal.nD Cert.PostIdeal.τ).loc Cert.PostIdeal.main_arg3)
      ∧ m' ((c.tc : Thread Cert.MergeIdeal.nD Cert.MergeIdeal.τ).loc Cert.MergeIdeal.main_arg4) = m ((c.tc : Thread Cert.PostIdeal.nD Cert.PostIdeal.τ).loc Cert.PostIdeal.main_arg4)
      ∧ m' ((c.tc : Thread Cert.MergeIdeal.nD Cert.MergeIdeal.τ).loc Cert.MergeIdeal.main_arg5) = m ((c.tc : Thread Cert.PostIdeal.nD Cert.PostIdeal.τ).loc Cert.PostIdeal.main_arg5)
      ∧ m' ((c.tc : Thread Cert.MergeIdeal.nD Cert.MergeIdeal.τ).loc Cert.MergeIdeal.main_arg6) = m ((c.tc : Thread Cert.PostIdeal.nD Cert.PostIdeal.τ).loc Cert.PostIdeal.main_arg6)
      ∧ m' ((c.tc : Thread Cert.MergeIdeal.nD Cert.MergeIdeal.τ).loc Cert.MergeIdeal.main_arg7) = m ((c.tc : Thread Cert.PostIdeal.nD Cert.PostIdeal.τ).loc Cert.PostIdeal.main_arg7)
      ∧ m' ((c.tc : Thread Cert.MergeIdeal.nD Cert.MergeIdeal.τ).loc Cert.MergeIdeal.main_arg8) = m ((c.tc : Thread Cert.PostIdeal.nD Cert.PostIdeal.τ).loc Cert.PostIdeal.main_arg8)
      ∧ m' ((c.tc : Thread Cert.MergeIdeal.nD Cert.MergeIdeal.τ).loc Cert.MergeIdeal.main_arg9) = m ((c.tc : Thread Cert.PostIdeal.nD Cert.PostIdeal.τ).loc Cert.PostIdeal.main_arg9)
      ∧ m' ((c.tc : Thread Cert.MergeIdeal.nD Cert.MergeIdeal.τ).loc Cert.MergeIdeal.main_arg10) = m ((c.tc : Thread Cert.PostIdeal.nD Cert.PostIdeal.τ).loc Cert.PostIdeal.main_arg10)
      ∧ m' ((c.tc : Thread Cert.MergeIdeal.nD Cert.MergeIdeal.τ).loc Cert.MergeIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v7_0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v7_0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.MergeIdeal.defs (F := Ideal)) (onTc (τ := Cert.MergeIdeal.τ) (Cert.MergeIdeal.main (F := Ideal))) ⟨m', fun _ => 0, g'⟩ (fun r => ∀ c : Dev Cert.MergeIdeal.nD,
          r.2.mem ((c.tc : Thread Cert.MergeIdeal.nD Cert.MergeIdeal.τ).loc Cert.MergeIdeal.main_v38) = v0 c
          ∧ r.2.mem ((c.tc : Thread Cert.MergeIdeal.nD Cert.MergeIdeal.τ).loc Cert.MergeIdeal.main_arg0) = m' ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m' ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m' ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m' ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m' ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m' ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m' ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m' ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m' ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m' ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m' ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m' ((c.tc : Thread Cert.MergeIdeal.nD Cert.MergeIdeal.τ).loc Cert.MergeIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hExpertsIdeal : Cert.ExpertsIdeal.Facts) (hProj : Cert.Proj.Facts) (hProjIdeal : Cert.ProjIdeal.Facts) (hProjectionsIdeal : Cert.ProjectionsIdeal.Facts) (hFinalPrompt : Cert.FinalPrompt.Facts) (hFinalPromptIdeal : Cert.FinalPromptIdeal.Facts) (hResultPromptIdeal : Cert.ResultPromptIdeal.Facts) (hFinalSample : Cert.FinalSample.Facts) (hFinalSampleIdeal : Cert.FinalSampleIdeal.Facts) (hResultSampleIdeal : Cert.ResultSampleIdeal.Facts) (hPost : Cert.Post.Facts) (hPostIdeal : Cert.PostIdeal.Facts) (hMergeIdeal : Cert.MergeIdeal.Facts) (hPre_finite : Cert.Pre_finite.Facts) (hPre_finite_bounds : Cert.Pre_finite_bounds.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_ExpertsIdeal (hExpertsIdeal := hExpertsIdeal)
    ∧ quiescent_Proj (hProj := hProj)
    ∧ quiescent_ProjIdeal (hProjIdeal := hProjIdeal)
    ∧ quiescent_ProjIdeal_pre_finite_bounds (hProjIdeal := hProjIdeal) (hPre_finite_bounds := hPre_finite_bounds)
    ∧ quiescent_ProjectionsIdeal (hProjectionsIdeal := hProjectionsIdeal)
    ∧ quiescent_ProjectionsIdeal_pre_finite_bounds (hProjectionsIdeal := hProjectionsIdeal) (hPre_finite_bounds := hPre_finite_bounds)
    ∧ quiescent_FinalPrompt (hFinalPrompt := hFinalPrompt)
    ∧ quiescent_FinalPromptIdeal (hFinalPromptIdeal := hFinalPromptIdeal)
    ∧ quiescent_ResultPromptIdeal (hResultPromptIdeal := hResultPromptIdeal)
    ∧ quiescent_FinalSample (hFinalSample := hFinalSample)
    ∧ quiescent_FinalSampleIdeal (hFinalSampleIdeal := hFinalSampleIdeal)
    ∧ quiescent_ResultSampleIdeal (hResultSampleIdeal := hResultSampleIdeal)
    ∧ quiescent_Post (hPost := hPost)
    ∧ quiescent_PostIdeal (hPostIdeal := hPostIdeal)
    ∧ quiescent_MergeIdeal (hMergeIdeal := hMergeIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_ExpertsIdeal (hFfnIdeal := hFfnIdeal) (hExpertsIdeal := hExpertsIdeal)
    ∧ preserves_Proj_ProjIdeal
    ∧ algebraic_ProjIdeal_ProjectionsIdeal_pre_finite_bounds (hProjIdeal := hProjIdeal) (hProjectionsIdeal := hProjectionsIdeal) (hPre_finite_bounds := hPre_finite_bounds)
    ∧ preserves_FinalPrompt_FinalPromptIdeal
    ∧ algebraic_FinalPromptIdeal_ResultPromptIdeal (hFinalPromptIdeal := hFinalPromptIdeal) (hResultPromptIdeal := hResultPromptIdeal)
    ∧ preserves_FinalSample_FinalSampleIdeal
    ∧ algebraic_FinalSampleIdeal_ResultSampleIdeal (hFinalSampleIdeal := hFinalSampleIdeal) (hResultSampleIdeal := hResultSampleIdeal)
    ∧ preserves_Post_PostIdeal
    ∧ algebraic_PostIdeal_MergeIdeal (hPostIdeal := hPostIdeal) (hMergeIdeal := hMergeIdeal)
-- ==== Pre_finite.lean ====
abbrev S32x256x8x128 : Shape := ⟨4, ![32, 256, 8, 128]⟩
abbrev S_ : Shape := ⟨0, ![]⟩

class Facts : Prop where
  bcast_S_S32x256x8x128 : S_.BroadcastsInDim S32x256x8x128 (![] : Fin 0 → Fin S32x256x8x128.rank)
  reducesTo_S32x256x8x128_S_d0_1_2_3 : S32x256x8x128.ReducesTo [0, 1, 2, 3] S_
  h_S_ : 0 < S_.numel

variable [Facts]

def fn_part1 {F : FTy → Type} [FloatOps F] (main_v13 : IVec S_ 1) (main_v16 : IVec S32x256x8x128 1) : IVec S_ 1 :=
  let main_c_5 : IVec S_ 1 := constantI S_ 1 1#1
  let main_v17 : IVec S_ 1 := (fun x v => Host.reduce IntOp.andi x v reducesTo_S32x256x8x128_S_d0_1_2_3 h_S_) main_v16 main_c_5
  let main_v18 : IVec S_ 1 := andi main_v13 main_v17
  main_v18

def fn {F : FTy → Type} [FloatOps F] (main_arg0 : FVec F S32x256x8x128 .f32) (main_arg1 : FVec F S32x256x8x128 .f32) (main_arg2 : FVec F S32x256x8x128 .f32) (main_arg3 : FVec F S32x256x8x128 .f32) : IVec S_ 1 :=
  let main_v0 : FVec F S32x256x8x128 .f32 := Host.absf main_arg0
  let main_cst : FVec F S_ .f32 := constant S_ .f32 0x7F800000#32
  let main_v1 : FVec F S32x256x8x128 .f32 := broadcastInDim S32x256x8x128 ![] bcast_S_S32x256x8x128 main_cst
  let main_v2 : IVec S32x256x8x128 1 := cmpf .olt main_v0 main_v1
  let main_c : IVec S_ 1 := constantI S_ 1 1#1
  let main_v3 : IVec S_ 1 := (fun x v => Host.reduce IntOp.andi x v reducesTo_S32x256x8x128_S_d0_1_2_3 h_S_) main_v2 main_c
  let main_v4 : FVec F S32x256x8x128 .f32 := Host.absf main_arg1
  let main_cst_0 : FVec F S_ .f32 := constant S_ .f32 0x7F800000#32
  let main_v5 : FVec F S32x256x8x128 .f32 := broadcastInDim S32x256x8x128 ![] bcast_S_S32x256x8x128 main_cst_0
  let main_v6 : IVec S32x256x8x128 1 := cmpf .olt main_v4 main_v5
  let main_c_1 : IVec S_ 1 := constantI S_ 1 1#1
  let main_v7 : IVec S_ 1 := (fun x v => Host.reduce IntOp.andi x v reducesTo_S32x256x8x128_S_d0_1_2_3 h_S_) main_v6 main_c_1
  let main_v8 : IVec S_ 1 := andi main_v3 main_v7
  let main_v9 : FVec F S32x256x8x128 .f32 := Host.absf main_arg2
  let main_cst_2 : FVec F S_ .f32 := constant S_ .f32 0x7F800000#32
  let main_v10 : FVec F S32x256x8x128 .f32 := broadcastInDim S32x256x8x128 ![] bcast_S_S32x256x8x128 main_cst_2
  let main_v11 : IVec S32x256x8x128 1 := cmpf .olt main_v9 main_v10
  let main_c_3 : IVec S_ 1 := constantI S_ 1 1#1
  let main_v12 : IVec S_ 1 := (fun x v => Host.reduce IntOp.andi x v reducesTo_S32x256x8x128_S_d0_1_2_3 h_S_) main_v11 main_c_3
  let main_v13 : IVec S_ 1 := andi main_v8 main_v12
  let main_v14 : FVec F S32x256x8x128 .f32 := Host.absf main_arg3
  let main_cst_4 : FVec F S_ .f32 := constant S_ .f32 0x7F800000#32
  let main_v15 : FVec F S32x256x8x128 .f32 := broadcastInDim S32x256x8x128 ![] bcast_S_S32x256x8x128 main_cst_4
  let main_v16 : IVec S32x256x8x128 1 := cmpf .olt main_v14 main_v15
  fn_part1 (F := F) main_v13 main_v16
-- ==== Pre_finite_bounds.lean ====
abbrev S4x4096x1024 : Shape := ⟨3, ![4, 4096, 1024]⟩
abbrev S8x6144 : Shape := ⟨2, ![8, 6144]⟩
abbrev S1x1024 : Shape := ⟨2, ![1, 1024]⟩
abbrev S2x2x1024 : Shape := ⟨3, ![2, 2, 1024]⟩
abbrev S1x3x1024 : Shape := ⟨3, ![1, 3, 1024]⟩
abbrev S1x1024x10240 : Shape := ⟨3, ![1, 1024, 10240]⟩
abbrev S1x1024x1024 : Shape := ⟨3, ![1, 1024, 1024]⟩
abbrev S_ : Shape := ⟨0, ![]⟩

class Facts : Prop where
  bcast_S_S2x2x1024 : S_.BroadcastsInDim S2x2x1024 (![] : Fin 0 → Fin S2x2x1024.rank)
  reducesTo_S2x2x1024_S_d0_1_2 : S2x2x1024.ReducesTo [0, 1, 2] S_
  h_S_ : 0 < S_.numel

variable [Facts]

def fn {F : FTy → Type} [FloatOps F] (main_arg0 : FVec F S4x4096x1024 .f32) (main_arg1 : FVec F S8x6144 .f32) (main_arg2 : FVec F S1x1024 .f32) (main_arg3 : FVec F S2x2x1024 .f32) (main_arg4 : FVec F S1x3x1024 .f32) (main_arg5 : FVec F S1x1024 .f32) (main_arg6 : FVec F S1x1024x10240 .f32) (main_arg7 : FVec F S1x1024x1024 .f32) : IVec S_ 1 :=
  let main_v0 : FVec F S2x2x1024 .f32 := Host.absf main_arg3
  let main_cst : FVec F S_ .f32 := constant S_ .f32 0x7F800000#32
  let main_v1 : FVec F S2x2x1024 .f32 := broadcastInDim S2x2x1024 ![] bcast_S_S2x2x1024 main_cst
  let main_v2 : IVec S2x2x1024 1 := cmpf .olt main_v0 main_v1
  let main_c : IVec S_ 1 := constantI S_ 1 1#1
  let main_v3 : IVec S_ 1 := (fun x v => Host.reduce IntOp.andi x v reducesTo_S2x2x1024_S_d0_1_2 h_S_) main_v2 main_c
  main_v3
-- ==== Kernel.lean ====
abbrev S32x256x8x128 : Shape := ⟨4, ![32, 256, 8, 128]⟩
abbrev S8x32x256x128 : Shape := ⟨4, ![8, 32, 256, 128]⟩
abbrev S8x8192x128 : Shape := ⟨3, ![8, 8192, 128]⟩
abbrev S32x2x8x128x128 : Shape := ⟨5, ![32, 2, 8, 128, 128]⟩
abbrev S8x1x256x128 : Shape := ⟨4, ![8, 1, 256, 128]⟩
abbrev S1x2x8x128x128 : Shape := ⟨5, ![1, 2, 8, 128, 128]⟩
abbrev S2x8x128x128 : Shape := ⟨4, ![2, 8, 128, 128]⟩
abbrev S2x8x64x64 : Shape := ⟨4, ![2, 8, 64, 64]⟩
abbrev S2x8x64x128 : Shape := ⟨4, ![2, 8, 64, 128]⟩
abbrev S2x8x1x128 : Shape := ⟨4, ![2, 8, 1, 128]⟩
abbrev S64x128 : Shape := ⟨2, ![64, 128]⟩
abbrev S64x64 : Shape := ⟨2, ![64, 64]⟩
abbrev S1x1x64x128 : Shape := ⟨4, ![1, 1, 64, 128]⟩
abbrev S1x128 : Shape := ⟨2, ![1, 128]⟩
abbrev S1x1x1x128 : Shape := ⟨4, ![1, 1, 1, 128]⟩
abbrev S1x1x64x64 : Shape := ⟨4, ![1, 1, 64, 64]⟩
abbrev S1x1x128x128 : Shape := ⟨4, ![1, 1, 128, 128]⟩
abbrev S128x128 : Shape := ⟨2, ![128, 128]⟩
abbrev S1x1x1x128x128 : Shape := ⟨5, ![1, 1, 1, 128, 128]⟩

abbrev nBuf : Space → Nat
  | .hbm => 21
  | .vmem => 30
  | .smem => 0
  | _ => 0

abbrev bufTy : (tb : Table) → Fin (tcTables nBuf tb) → BufTy
  | .hbm, ⟨0, _⟩ => ⟨S32x256x8x128, .f32⟩
  | .hbm, ⟨1, _⟩ => ⟨S32x256x8x128, .f32⟩
  | .hbm, ⟨2, _⟩ => ⟨S32x256x8x128, .f32⟩
  | .hbm, ⟨3, _⟩ => ⟨S32x256x8x128, .f32⟩
  | .hbm, ⟨4, _⟩ => ⟨S8x32x256x128, .f32⟩
  | .hbm, ⟨5, _⟩ => ⟨S8x8192x128, .f32⟩
  | .hbm, ⟨6, _⟩ => ⟨S8x8192x128, .bf16⟩
  | .hbm, ⟨7, _⟩ => ⟨S8x32x256x128, .f32⟩
  | .hbm, ⟨8, _⟩ => ⟨S8x8192x128, .f32⟩
  | .hbm, ⟨9, _⟩ => ⟨S8x32x256x128, .f32⟩
  | .hbm, ⟨10, _⟩ => ⟨S8x8192x128, .f32⟩
  | .hbm, ⟨11, _⟩ => ⟨S8x32x256x128, .f32⟩
  | .hbm, ⟨12, _⟩ => ⟨S8x8192x128, .f32⟩
  | .hbm, ⟨13, _⟩ => ⟨S8x8192x128, .bf16⟩
  | .hbm, ⟨14, _⟩ => ⟨S8x32x256x128, .bf16⟩
  | .hbm, ⟨15, _⟩ => ⟨S8x32x256x128, .f32⟩
  | .hbm, ⟨16, _⟩ => ⟨S8x32x256x128, .f32⟩
  | .hbm, ⟨17, _⟩ => ⟨S8x32x256x128, .bf16⟩
  | .hbm, ⟨18, _⟩ => ⟨S8x32x256x128, .bf16⟩
  | .hbm, ⟨19, _⟩ => ⟨S8x32x256x128, .bf16⟩
  | .hbm, ⟨20, _⟩ => ⟨S32x2x8x128x128, .f32⟩
  | .local _ .vmem, ⟨0, _⟩ => ⟨S8x1x256x128, .bf16⟩
  | .local _ .vmem, ⟨1, _⟩ => ⟨S8x1x256x128, .bf16⟩
  | .local _ .vmem, ⟨2, _⟩ => ⟨S8x1x256x128, .bf16⟩
  | .local _ .vmem, ⟨3, _⟩ => ⟨S8x1x256x128, .bf16⟩
  | .local _ .vmem, ⟨4, _⟩ => ⟨S8x1x256x128, .f32⟩
  | .local _ .vmem, ⟨5, _⟩ => ⟨S8x1x256x128, .f32⟩
  | .local _ .vmem, ⟨6, _⟩ => ⟨S8x1x256x128, .f32⟩
  | .local _ .vmem, ⟨7, _⟩ => ⟨S8x1x256x128, .f32⟩
  | .local _ .vmem, ⟨8, _⟩ => ⟨S8x1x256x128, .bf16⟩
  | .local _ .vmem, ⟨9, _⟩ => ⟨S8x1x256x128, .bf16⟩
  | .local _ .vmem, ⟨10, _⟩ => ⟨S8x1x256x128, .bf16⟩
  | .local _ .vmem, ⟨11, _⟩ => ⟨S8x1x256x128, .bf16⟩
  | .local _ .vmem, ⟨12, _⟩ => ⟨S8x1x256x128, .bf16⟩
  | .local _ .vmem, ⟨13, _⟩ => ⟨S8x1x256x128, .bf16⟩
  | .local _ .vmem, ⟨14, _⟩ => ⟨S8x1x256x128, .bf16⟩
  | .local _ .vmem, ⟨15, _⟩ => ⟨S8x1x256x128, .bf16⟩
  | .local _ .vmem, ⟨16, _⟩ => ⟨S1x2x8x128x128, .f32⟩
  | .local _ .vmem, ⟨17, _⟩ => ⟨S1x2x8x128x128, .f32⟩
  | .local _ .vmem, ⟨18, _⟩ => ⟨S2x8x128x128, .f32⟩
  | .local _ .vmem, ⟨19, _⟩ => ⟨S2x8x64x64, .bf16⟩
  | .local _ .vmem, ⟨20, _⟩ => ⟨S2x8x64x128, .bf16⟩
  | .local _ .vmem, ⟨21, _⟩ => ⟨S2x8x64x128, .bf16⟩
  | .local _ .vmem, ⟨22, _⟩ => ⟨S2x8x64x128, .bf16⟩
  | .local _ .vmem, ⟨23, _⟩ => ⟨S2x8x64x128, .bf16⟩
  | .local _ .vmem, ⟨24, _⟩ => ⟨S2x8x1x128, .f32⟩
  | .local _ .vmem, ⟨25, _⟩ => ⟨S2x8x64x128, .bf16⟩
  | .local _ .vmem, ⟨26, _⟩ => ⟨S2x8x64x128, .bf16⟩
  | .local _ .vmem, ⟨27, _⟩ => ⟨S2x8x64x128, .bf16⟩
  | .local _ .vmem, ⟨28, _⟩ => ⟨S2x8x64x128, .bf16⟩
  | .local _ .vmem, ⟨29, _⟩ => ⟨S2x8x1x128, .f32⟩
  | _, _ => ⟨S32x256x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 1], ![false, false]⟩

def k0_mult1 : BitVec 32 :=
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let c64_i32 : BitVec 32 := 64#32
  let v1302 : BitVec 32 := Scalar.muli v1290 c64_i32
  v1302
def k0_off1 (c1_i32_751 : BitVec 32) : Fin 4 → Nat :=
  let c0_766 : Index := 0#32
  let c0_767 : Index := 0#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let c64_i32 : BitVec 32 := 64#32
  let v1302 : BitVec 32 := Scalar.muli v1290 c64_i32
  let v1303 : BitVec 32 := v1302
  let v1304 : Index := Scalar.indexCast v1303
  let c0_768 : Index := 0#32
  ![0, 0, v1304.toNat, 0]
def k0_mult2 : BitVec 32 :=
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let c64_i32_826 : BitVec 32 := 64#32
  let v1397 : BitVec 32 := Scalar.muli v1290 c64_i32_826
  v1397
def k0_off2 (c1_i32_751 : BitVec 32) : Fin 4 → Nat :=
  let c1_827 : Index := 1#32
  let c0_828 : Index := 0#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let c64_i32_826 : BitVec 32 := 64#32
  let v1397 : BitVec 32 := Scalar.muli v1290 c64_i32_826
  let v1398 : BitVec 32 := v1397
  let v1399 : Index := Scalar.indexCast v1398
  let c0_829 : Index := 0#32
  ![1, 0, v1399.toNat, 0]
def k0_mult3 : BitVec 32 :=
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let c64_i32_887 : BitVec 32 := 64#32
  let v1492 : BitVec 32 := Scalar.muli v1290 c64_i32_887
  v1492
def k0_off3 (c1_i32_751 : BitVec 32) : Fin 4 → Nat :=
  let c2_888 : Index := 2#32
  let c0_889 : Index := 0#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let c64_i32_887 : BitVec 32 := 64#32
  let v1492 : BitVec 32 := Scalar.muli v1290 c64_i32_887
  let v1493 : BitVec 32 := v1492
  let v1494 : Index := Scalar.indexCast v1493
  let c0_890 : Index := 0#32
  ![2, 0, v1494.toNat, 0]
def k0_mult4 : BitVec 32 :=
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let c64_i32_948 : BitVec 32 := 64#32
  let v1587 : BitVec 32 := Scalar.muli v1290 c64_i32_948
  v1587
def k0_off4 (c1_i32_751 : BitVec 32) : Fin 4 → Nat :=
  let c3_949 : Index := 3#32
  let c0_950 : Index := 0#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let c64_i32_948 : BitVec 32 := 64#32
  let v1587 : BitVec 32 := Scalar.muli v1290 c64_i32_948
  let v1588 : BitVec 32 := v1587
  let v1589 : Index := Scalar.indexCast v1588
  let c0_951 : Index := 0#32
  ![3, 0, v1589.toNat, 0]
def k0_mult5 : BitVec 32 :=
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let c64_i32_1009 : BitVec 32 := 64#32
  let v1682 : BitVec 32 := Scalar.muli v1290 c64_i32_1009
  v1682
def k0_off5 (c1_i32_751 : BitVec 32) : Fin 4 → Nat :=
  let c4_1010 : Index := 4#32
  let c0_1011 : Index := 0#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let c64_i32_1009 : BitVec 32 := 64#32
  let v1682 : BitVec 32 := Scalar.muli v1290 c64_i32_1009
  let v1683 : BitVec 32 := v1682
  let v1684 : Index := Scalar.indexCast v1683
  let c0_1012 : Index := 0#32
  ![4, 0, v1684.toNat, 0]
def k0_mult6 : BitVec 32 :=
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let c64_i32_1070 : BitVec 32 := 64#32
  let v1777 : BitVec 32 := Scalar.muli v1290 c64_i32_1070
  v1777
def k0_off6 (c1_i32_751 : BitVec 32) : Fin 4 → Nat :=
  let c5_1071 : Index := 5#32
  let c0_1072 : Index := 0#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let c64_i32_1070 : BitVec 32 := 64#32
  let v1777 : BitVec 32 := Scalar.muli v1290 c64_i32_1070
  let v1778 : BitVec 32 := v1777
  let v1779 : Index := Scalar.indexCast v1778
  let c0_1073 : Index := 0#32
  ![5, 0, v1779.toNat, 0]
def k0_mult7 : BitVec 32 :=
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let c64_i32_1131 : BitVec 32 := 64#32
  let v1872 : BitVec 32 := Scalar.muli v1290 c64_i32_1131
  v1872
def k0_off7 (c1_i32_751 : BitVec 32) : Fin 4 → Nat :=
  let c6_1132 : Index := 6#32
  let c0_1133 : Index := 0#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let c64_i32_1131 : BitVec 32 := 64#32
  let v1872 : BitVec 32 := Scalar.muli v1290 c64_i32_1131
  let v1873 : BitVec 32 := v1872
  let v1874 : Index := Scalar.indexCast v1873
  let c0_1134 : Index := 0#32
  ![6, 0, v1874.toNat, 0]
def k0_mult8 : BitVec 32 :=
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let c64_i32_1192 : BitVec 32 := 64#32
  let v1967 : BitVec 32 := Scalar.muli v1290 c64_i32_1192
  v1967
def k0_off8 (c1_i32_751 : BitVec 32) : Fin 4 → Nat :=
  let c7_1193 : Index := 7#32
  let c0_1194 : Index := 0#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let c64_i32_1192 : BitVec 32 := 64#32
  let v1967 : BitVec 32 := Scalar.muli v1290 c64_i32_1192
  let v1968 : BitVec 32 := v1967
  let v1969 : Index := Scalar.indexCast v1968
  let c0_1195 : Index := 0#32
  ![7, 0, v1969.toNat, 0]
def k0_mult9 : BitVec 32 :=
  let c2_i32_749 : BitVec 32 := 2#32
  let c0_i32_748 : BitVec 32 := 0#32
  let v1288 : BitVec 32 := Scalar.muli c2_i32_749 c0_i32_748
  let c64_i32_1351 : BitVec 32 := 64#32
  let v2139 : BitVec 32 := Scalar.muli v1288 c64_i32_1351
  v2139
def k0_off9 : Fin 4 → Nat :=
  let c0_1352 : Index := 0#32
  let c0_1353 : Index := 0#32
  let c2_i32_749 : BitVec 32 := 2#32
  let c0_i32_748 : BitVec 32 := 0#32
  let v1288 : BitVec 32 := Scalar.muli c2_i32_749 c0_i32_748
  let c64_i32_1351 : BitVec 32 := 64#32
  let v2139 : BitVec 32 := Scalar.muli v1288 c64_i32_1351
  let v2140 : BitVec 32 := v2139
  let v2141 : Index := Scalar.indexCast v2140
  let c0_1354 : Index := 0#32
  ![0, 0, v2141.toNat, 0]
def k0_mult10 : BitVec 32 :=
  let c2_i32_749 : BitVec 32 := 2#32
  let c0_i32_748 : BitVec 32 := 0#32
  let v1288 : BitVec 32 := Scalar.muli c2_i32_749 c0_i32_748
  let c64_i32_1385 : BitVec 32 := 64#32
  let v2170 : BitVec 32 := Scalar.muli v1288 c64_i32_1385
  v2170
def k0_off10 : Fin 4 → Nat :=
  let c1_1386 : Index := 1#32
  let c0_1387 : Index := 0#32
  let c2_i32_749 : BitVec 32 := 2#32
  let c0_i32_748 : BitVec 32 := 0#32
  let v1288 : BitVec 32 := Scalar.muli c2_i32_749 c0_i32_748
  let c64_i32_1385 : BitVec 32 := 64#32
  let v2170 : BitVec 32 := Scalar.muli v1288 c64_i32_1385
  let v2171 : BitVec 32 := v2170
  let v2172 : Index := Scalar.indexCast v2171
  let c0_1388 : Index := 0#32
  ![1, 0, v2172.toNat, 0]
def k0_mult11 : BitVec 32 :=
  let c2_i32_749 : BitVec 32 := 2#32
  let c0_i32_748 : BitVec 32 := 0#32
  let v1288 : BitVec 32 := Scalar.muli c2_i32_749 c0_i32_748
  let c64_i32_1419 : BitVec 32 := 64#32
  let v2201 : BitVec 32 := Scalar.muli v1288 c64_i32_1419
  v2201
def k0_off11 : Fin 4 → Nat :=
  let c2_1420 : Index := 2#32
  let c0_1421 : Index := 0#32
  let c2_i32_749 : BitVec 32 := 2#32
  let c0_i32_748 : BitVec 32 := 0#32
  let v1288 : BitVec 32 := Scalar.muli c2_i32_749 c0_i32_748
  let c64_i32_1419 : BitVec 32 := 64#32
  let v2201 : BitVec 32 := Scalar.muli v1288 c64_i32_1419
  let v2202 : BitVec 32 := v2201
  let v2203 : Index := Scalar.indexCast v2202
  let c0_1422 : Index := 0#32
  ![2, 0, v2203.toNat, 0]
def k0_mult12 : BitVec 32 :=
  let c2_i32_749 : BitVec 32 := 2#32
  let c0_i32_748 : BitVec 32 := 0#32
  let v1288 : BitVec 32 := Scalar.muli c2_i32_749 c0_i32_748
  let c64_i32_1453 : BitVec 32 := 64#32
  let v2232 : BitVec 32 := Scalar.muli v1288 c64_i32_1453
  v2232
def k0_off12 : Fin 4 → Nat :=
  let c3_1454 : Index := 3#32
  let c0_1455 : Index := 0#32
  let c2_i32_749 : BitVec 32 := 2#32
  let c0_i32_748 : BitVec 32 := 0#32
  let v1288 : BitVec 32 := Scalar.muli c2_i32_749 c0_i32_748
  let c64_i32_1453 : BitVec 32 := 64#32
  let v2232 : BitVec 32 := Scalar.muli v1288 c64_i32_1453
  let v2233 : BitVec 32 := v2232
  let v2234 : Index := Scalar.indexCast v2233
  let c0_1456 : Index := 0#32
  ![3, 0, v2234.toNat, 0]
def k0_mult13 : BitVec 32 :=
  let c2_i32_749 : BitVec 32 := 2#32
  let c0_i32_748 : BitVec 32 := 0#32
  let v1288 : BitVec 32 := Scalar.muli c2_i32_749 c0_i32_748
  let c64_i32_1487 : BitVec 32 := 64#32
  let v2263 : BitVec 32 := Scalar.muli v1288 c64_i32_1487
  v2263
def k0_off13 : Fin 4 → Nat :=
  let c4_1488 : Index := 4#32
  let c0_1489 : Index := 0#32
  let c2_i32_749 : BitVec 32 := 2#32
  let c0_i32_748 : BitVec 32 := 0#32
  let v1288 : BitVec 32 := Scalar.muli c2_i32_749 c0_i32_748
  let c64_i32_1487 : BitVec 32 := 64#32
  let v2263 : BitVec 32 := Scalar.muli v1288 c64_i32_1487
  let v2264 : BitVec 32 := v2263
  let v2265 : Index := Scalar.indexCast v2264
  let c0_1490 : Index := 0#32
  ![4, 0, v2265.toNat, 0]
def k0_mult14 : BitVec 32 :=
  let c2_i32_749 : BitVec 32 := 2#32
  let c0_i32_748 : BitVec 32 := 0#32
  let v1288 : BitVec 32 := Scalar.muli c2_i32_749 c0_i32_748
  let c64_i32_1521 : BitVec 32 := 64#32
  let v2294 : BitVec 32 := Scalar.muli v1288 c64_i32_1521
  v2294
def k0_off14 : Fin 4 → Nat :=
  let c5_1522 : Index := 5#32
  let c0_1523 : Index := 0#32
  let c2_i32_749 : BitVec 32 := 2#32
  let c0_i32_748 : BitVec 32 := 0#32
  let v1288 : BitVec 32 := Scalar.muli c2_i32_749 c0_i32_748
  let c64_i32_1521 : BitVec 32 := 64#32
  let v2294 : BitVec 32 := Scalar.muli v1288 c64_i32_1521
  let v2295 : BitVec 32 := v2294
  let v2296 : Index := Scalar.indexCast v2295
  let c0_1524 : Index := 0#32
  ![5, 0, v2296.toNat, 0]
def k0_mult15 : BitVec 32 :=
  let c2_i32_749 : BitVec 32 := 2#32
  let c0_i32_748 : BitVec 32 := 0#32
  let v1288 : BitVec 32 := Scalar.muli c2_i32_749 c0_i32_748
  let c64_i32_1555 : BitVec 32 := 64#32
  let v2325 : BitVec 32 := Scalar.muli v1288 c64_i32_1555
  v2325
def k0_off15 : Fin 4 → Nat :=
  let c6_1556 : Index := 6#32
  let c0_1557 : Index := 0#32
  let c2_i32_749 : BitVec 32 := 2#32
  let c0_i32_748 : BitVec 32 := 0#32
  let v1288 : BitVec 32 := Scalar.muli c2_i32_749 c0_i32_748
  let c64_i32_1555 : BitVec 32 := 64#32
  let v2325 : BitVec 32 := Scalar.muli v1288 c64_i32_1555
  let v2326 : BitVec 32 := v2325
  let v2327 : Index := Scalar.indexCast v2326
  let c0_1558 : Index := 0#32
  ![6, 0, v2327.toNat, 0]
def k0_mult16 : BitVec 32 :=
  let c2_i32_749 : BitVec 32 := 2#32
  let c0_i32_748 : BitVec 32 := 0#32
  let v1288 : BitVec 32 := Scalar.muli c2_i32_749 c0_i32_748
  let c64_i32_1589 : BitVec 32 := 64#32
  let v2356 : BitVec 32 := Scalar.muli v1288 c64_i32_1589
  v2356
def k0_off16 : Fin 4 → Nat :=
  let c7_1590 : Index := 7#32
  let c0_1591 : Index := 0#32
  let c2_i32_749 : BitVec 32 := 2#32
  let c0_i32_748 : BitVec 32 := 0#32
  let v1288 : BitVec 32 := Scalar.muli c2_i32_749 c0_i32_748
  let c64_i32_1589 : BitVec 32 := 64#32
  let v2356 : BitVec 32 := Scalar.muli v1288 c64_i32_1589
  let v2357 : BitVec 32 := v2356
  let v2358 : Index := Scalar.indexCast v2357
  let c0_1592 : Index := 0#32
  ![7, 0, v2358.toNat, 0]
def k0_mult17 : BitVec 32 :=
  let c3_i32 : BitVec 32 := 3#32
  let c2_i32_749 : BitVec 32 := 2#32
  let c0_i32_748 : BitVec 32 := 0#32
  let v1288 : BitVec 32 := Scalar.muli c2_i32_749 c0_i32_748
  let v2387 : BitVec 32 := Scalar.subi c3_i32 v1288
  let c64_i32_1623 : BitVec 32 := 64#32
  let v2388 : BitVec 32 := Scalar.muli v2387 c64_i32_1623
  v2388
def k0_off17 : Fin 4 → Nat :=
  let c0_1624 : Index := 0#32
  let c0_1625 : Index := 0#32
  let c3_i32 : BitVec 32 := 3#32
  let c2_i32_749 : BitVec 32 := 2#32
  let c0_i32_748 : BitVec 32 := 0#32
  let v1288 : BitVec 32 := Scalar.muli c2_i32_749 c0_i32_748
  let v2387 : BitVec 32 := Scalar.subi c3_i32 v1288
  let c64_i32_1623 : BitVec 32 := 64#32
  let v2388 : BitVec 32 := Scalar.muli v2387 c64_i32_1623
  let v2389 : BitVec 32 := v2388
  let v2390 : Index := Scalar.indexCast v2389
  let c0_1626 : Index := 0#32
  ![0, 0, v2390.toNat, 0]
def k0_mult18 : BitVec 32 :=
  let c3_i32_1657 : BitVec 32 := 3#32
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let v2419 : BitVec 32 := Scalar.subi c3_i32_1657 v1290
  let c64_i32_1658 : BitVec 32 := 64#32
  let v2420 : BitVec 32 := Scalar.muli v2419 c64_i32_1658
  v2420
def k0_off18 (c1_i32_751 : BitVec 32) : Fin 4 → Nat :=
  let c0_1659 : Index := 0#32
  let c0_1660 : Index := 0#32
  let c3_i32_1657 : BitVec 32 := 3#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let v2419 : BitVec 32 := Scalar.subi c3_i32_1657 v1290
  let c64_i32_1658 : BitVec 32 := 64#32
  let v2420 : BitVec 32 := Scalar.muli v2419 c64_i32_1658
  let v2421 : BitVec 32 := v2420
  let v2422 : Index := Scalar.indexCast v2421
  let c0_1661 : Index := 0#32
  ![0, 0, v2422.toNat, 0]
def k0_mult19 : BitVec 32 :=
  let c3_i32_1705 : BitVec 32 := 3#32
  let c2_i32_749 : BitVec 32 := 2#32
  let c0_i32_748 : BitVec 32 := 0#32
  let v1288 : BitVec 32 := Scalar.muli c2_i32_749 c0_i32_748
  let v2504 : BitVec 32 := Scalar.subi c3_i32_1705 v1288
  let c64_i32_1706 : BitVec 32 := 64#32
  let v2505 : BitVec 32 := Scalar.muli v2504 c64_i32_1706
  v2505
def k0_off19 : Fin 4 → Nat :=
  let c1_1707 : Index := 1#32
  let c0_1708 : Index := 0#32
  let c3_i32_1705 : BitVec 32 := 3#32
  let c2_i32_749 : BitVec 32 := 2#32
  let c0_i32_748 : BitVec 32 := 0#32
  let v1288 : BitVec 32 := Scalar.muli c2_i32_749 c0_i32_748
  let v2504 : BitVec 32 := Scalar.subi c3_i32_1705 v1288
  let c64_i32_1706 : BitVec 32 := 64#32
  let v2505 : BitVec 32 := Scalar.muli v2504 c64_i32_1706
  let v2506 : BitVec 32 := v2505
  let v2507 : Index := Scalar.indexCast v2506
  let c0_1709 : Index := 0#32
  ![1, 0, v2507.toNat, 0]
def k0_mult20 : BitVec 32 :=
  let c3_i32_1740 : BitVec 32 := 3#32
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let v2536 : BitVec 32 := Scalar.subi c3_i32_1740 v1290
  let c64_i32_1741 : BitVec 32 := 64#32
  let v2537 : BitVec 32 := Scalar.muli v2536 c64_i32_1741
  v2537
def k0_off20 (c1_i32_751 : BitVec 32) : Fin 4 → Nat :=
  let c1_1742 : Index := 1#32
  let c0_1743 : Index := 0#32
  let c3_i32_1740 : BitVec 32 := 3#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let v2536 : BitVec 32 := Scalar.subi c3_i32_1740 v1290
  let c64_i32_1741 : BitVec 32 := 64#32
  let v2537 : BitVec 32 := Scalar.muli v2536 c64_i32_1741
  let v2538 : BitVec 32 := v2537
  let v2539 : Index := Scalar.indexCast v2538
  let c0_1744 : Index := 0#32
  ![1, 0, v2539.toNat, 0]
def k0_mult21 : BitVec 32 :=
  let c3_i32_1788 : BitVec 32 := 3#32
  let c2_i32_749 : BitVec 32 := 2#32
  let c0_i32_748 : BitVec 32 := 0#32
  let v1288 : BitVec 32 := Scalar.muli c2_i32_749 c0_i32_748
  let v2621 : BitVec 32 := Scalar.subi c3_i32_1788 v1288
  let c64_i32_1789 : BitVec 32 := 64#32
  let v2622 : BitVec 32 := Scalar.muli v2621 c64_i32_1789
  v2622
def k0_off21 : Fin 4 → Nat :=
  let c2_1790 : Index := 2#32
  let c0_1791 : Index := 0#32
  let c3_i32_1788 : BitVec 32 := 3#32
  let c2_i32_749 : BitVec 32 := 2#32
  let c0_i32_748 : BitVec 32 := 0#32
  let v1288 : BitVec 32 := Scalar.muli c2_i32_749 c0_i32_748
  let v2621 : BitVec 32 := Scalar.subi c3_i32_1788 v1288
  let c64_i32_1789 : BitVec 32 := 64#32
  let v2622 : BitVec 32 := Scalar.muli v2621 c64_i32_1789
  let v2623 : BitVec 32 := v2622
  let v2624 : Index := Scalar.indexCast v2623
  let c0_1792 : Index := 0#32
  ![2, 0, v2624.toNat, 0]
def k0_mult22 : BitVec 32 :=
  let c3_i32_1823 : BitVec 32 := 3#32
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let v2653 : BitVec 32 := Scalar.subi c3_i32_1823 v1290
  let c64_i32_1824 : BitVec 32 := 64#32
  let v2654 : BitVec 32 := Scalar.muli v2653 c64_i32_1824
  v2654
def k0_off22 (c1_i32_751 : BitVec 32) : Fin 4 → Nat :=
  let c2_1825 : Index := 2#32
  let c0_1826 : Index := 0#32
  let c3_i32_1823 : BitVec 32 := 3#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let v2653 : BitVec 32 := Scalar.subi c3_i32_1823 v1290
  let c64_i32_1824 : BitVec 32 := 64#32
  let v2654 : BitVec 32 := Scalar.muli v2653 c64_i32_1824
  let v2655 : BitVec 32 := v2654
  let v2656 : Index := Scalar.indexCast v2655
  let c0_1827 : Index := 0#32
  ![2, 0, v2656.toNat, 0]
def k0_mult23 : BitVec 32 :=
  let c3_i32_1871 : BitVec 32 := 3#32
  let c2_i32_749 : BitVec 32 := 2#32
  let c0_i32_748 : BitVec 32 := 0#32
  let v1288 : BitVec 32 := Scalar.muli c2_i32_749 c0_i32_748
  let v2738 : BitVec 32 := Scalar.subi c3_i32_1871 v1288
  let c64_i32_1872 : BitVec 32 := 64#32
  let v2739 : BitVec 32 := Scalar.muli v2738 c64_i32_1872
  v2739
def k0_off23 : Fin 4 → Nat :=
  let c3_1873 : Index := 3#32
  let c0_1874 : Index := 0#32
  let c3_i32_1871 : BitVec 32 := 3#32
  let c2_i32_749 : BitVec 32 := 2#32
  let c0_i32_748 : BitVec 32 := 0#32
  let v1288 : BitVec 32 := Scalar.muli c2_i32_749 c0_i32_748
  let v2738 : BitVec 32 := Scalar.subi c3_i32_1871 v1288
  let c64_i32_1872 : BitVec 32 := 64#32
  let v2739 : BitVec 32 := Scalar.muli v2738 c64_i32_1872
  let v2740 : BitVec 32 := v2739
  let v2741 : Index := Scalar.indexCast v2740
  let c0_1875 : Index := 0#32
  ![3, 0, v2741.toNat, 0]
def k0_mult24 : BitVec 32 :=
  let c3_i32_1906 : BitVec 32 := 3#32
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let v2770 : BitVec 32 := Scalar.subi c3_i32_1906 v1290
  let c64_i32_1907 : BitVec 32 := 64#32
  let v2771 : BitVec 32 := Scalar.muli v2770 c64_i32_1907
  v2771
def k0_off24 (c1_i32_751 : BitVec 32) : Fin 4 → Nat :=
  let c3_1908 : Index := 3#32
  let c0_1909 : Index := 0#32
  let c3_i32_1906 : BitVec 32 := 3#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let v2770 : BitVec 32 := Scalar.subi c3_i32_1906 v1290
  let c64_i32_1907 : BitVec 32 := 64#32
  let v2771 : BitVec 32 := Scalar.muli v2770 c64_i32_1907
  let v2772 : BitVec 32 := v2771
  let v2773 : Index := Scalar.indexCast v2772
  let c0_1910 : Index := 0#32
  ![3, 0, v2773.toNat, 0]
def k0_mult25 : BitVec 32 :=
  let c3_i32_1954 : BitVec 32 := 3#32
  let c2_i32_749 : BitVec 32 := 2#32
  let c0_i32_748 : BitVec 32 := 0#32
  let v1288 : BitVec 32 := Scalar.muli c2_i32_749 c0_i32_748
  let v2855 : BitVec 32 := Scalar.subi c3_i32_1954 v1288
  let c64_i32_1955 : BitVec 32 := 64#32
  let v2856 : BitVec 32 := Scalar.muli v2855 c64_i32_1955
  v2856
def k0_off25 : Fin 4 → Nat :=
  let c4_1956 : Index := 4#32
  let c0_1957 : Index := 0#32
  let c3_i32_1954 : BitVec 32 := 3#32
  let c2_i32_749 : BitVec 32 := 2#32
  let c0_i32_748 : BitVec 32 := 0#32
  let v1288 : BitVec 32 := Scalar.muli c2_i32_749 c0_i32_748
  let v2855 : BitVec 32 := Scalar.subi c3_i32_1954 v1288
  let c64_i32_1955 : BitVec 32 := 64#32
  let v2856 : BitVec 32 := Scalar.muli v2855 c64_i32_1955
  let v2857 : BitVec 32 := v2856
  let v2858 : Index := Scalar.indexCast v2857
  let c0_1958 : Index := 0#32
  ![4, 0, v2858.toNat, 0]
def k0_mult26 : BitVec 32 :=
  let c3_i32_1989 : BitVec 32 := 3#32
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let v2887 : BitVec 32 := Scalar.subi c3_i32_1989 v1290
  let c64_i32_1990 : BitVec 32 := 64#32
  let v2888 : BitVec 32 := Scalar.muli v2887 c64_i32_1990
  v2888
def k0_off26 (c1_i32_751 : BitVec 32) : Fin 4 → Nat :=
  let c4_1991 : Index := 4#32
  let c0_1992 : Index := 0#32
  let c3_i32_1989 : BitVec 32 := 3#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let v2887 : BitVec 32 := Scalar.subi c3_i32_1989 v1290
  let c64_i32_1990 : BitVec 32 := 64#32
  let v2888 : BitVec 32 := Scalar.muli v2887 c64_i32_1990
  let v2889 : BitVec 32 := v2888
  let v2890 : Index := Scalar.indexCast v2889
  let c0_1993 : Index := 0#32
  ![4, 0, v2890.toNat, 0]
def k0_mult27 : BitVec 32 :=
  let c3_i32_2037 : BitVec 32 := 3#32
  let c2_i32_749 : BitVec 32 := 2#32
  let c0_i32_748 : BitVec 32 := 0#32
  let v1288 : BitVec 32 := Scalar.muli c2_i32_749 c0_i32_748
  let v2972 : BitVec 32 := Scalar.subi c3_i32_2037 v1288
  let c64_i32_2038 : BitVec 32 := 64#32
  let v2973 : BitVec 32 := Scalar.muli v2972 c64_i32_2038
  v2973
def k0_off27 : Fin 4 → Nat :=
  let c5_2039 : Index := 5#32
  let c0_2040 : Index := 0#32
  let c3_i32_2037 : BitVec 32 := 3#32
  let c2_i32_749 : BitVec 32 := 2#32
  let c0_i32_748 : BitVec 32 := 0#32
  let v1288 : BitVec 32 := Scalar.muli c2_i32_749 c0_i32_748
  let v2972 : BitVec 32 := Scalar.subi c3_i32_2037 v1288
  let c64_i32_2038 : BitVec 32 := 64#32
  let v2973 : BitVec 32 := Scalar.muli v2972 c64_i32_2038
  let v2974 : BitVec 32 := v2973
  let v2975 : Index := Scalar.indexCast v2974
  let c0_2041 : Index := 0#32
  ![5, 0, v2975.toNat, 0]
def k0_mult28 : BitVec 32 :=
  let c3_i32_2072 : BitVec 32 := 3#32
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let v3004 : BitVec 32 := Scalar.subi c3_i32_2072 v1290
  let c64_i32_2073 : BitVec 32 := 64#32
  let v3005 : BitVec 32 := Scalar.muli v3004 c64_i32_2073
  v3005
def k0_off28 (c1_i32_751 : BitVec 32) : Fin 4 → Nat :=
  let c5_2074 : Index := 5#32
  let c0_2075 : Index := 0#32
  let c3_i32_2072 : BitVec 32 := 3#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let v3004 : BitVec 32 := Scalar.subi c3_i32_2072 v1290
  let c64_i32_2073 : BitVec 32 := 64#32
  let v3005 : BitVec 32 := Scalar.muli v3004 c64_i32_2073
  let v3006 : BitVec 32 := v3005
  let v3007 : Index := Scalar.indexCast v3006
  let c0_2076 : Index := 0#32
  ![5, 0, v3007.toNat, 0]
def k0_mult29 : BitVec 32 :=
  let c3_i32_2120 : BitVec 32 := 3#32
  let c2_i32_749 : BitVec 32 := 2#32
  let c0_i32_748 : BitVec 32 := 0#32
  let v1288 : BitVec 32 := Scalar.muli c2_i32_749 c0_i32_748
  let v3089 : BitVec 32 := Scalar.subi c3_i32_2120 v1288
  let c64_i32_2121 : BitVec 32 := 64#32
  let v3090 : BitVec 32 := Scalar.muli v3089 c64_i32_2121
  v3090
def k0_off29 : Fin 4 → Nat :=
  let c6_2122 : Index := 6#32
  let c0_2123 : Index := 0#32
  let c3_i32_2120 : BitVec 32 := 3#32
  let c2_i32_749 : BitVec 32 := 2#32
  let c0_i32_748 : BitVec 32 := 0#32
  let v1288 : BitVec 32 := Scalar.muli c2_i32_749 c0_i32_748
  let v3089 : BitVec 32 := Scalar.subi c3_i32_2120 v1288
  let c64_i32_2121 : BitVec 32 := 64#32
  let v3090 : BitVec 32 := Scalar.muli v3089 c64_i32_2121
  let v3091 : BitVec 32 := v3090
  let v3092 : Index := Scalar.indexCast v3091
  let c0_2124 : Index := 0#32
  ![6, 0, v3092.toNat, 0]
def k0_mult30 : BitVec 32 :=
  let c3_i32_2155 : BitVec 32 := 3#32
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let v3121 : BitVec 32 := Scalar.subi c3_i32_2155 v1290
  let c64_i32_2156 : BitVec 32 := 64#32
  let v3122 : BitVec 32 := Scalar.muli v3121 c64_i32_2156
  v3122
def k0_off30 (c1_i32_751 : BitVec 32) : Fin 4 → Nat :=
  let c6_2157 : Index := 6#32
  let c0_2158 : Index := 0#32
  let c3_i32_2155 : BitVec 32 := 3#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let v3121 : BitVec 32 := Scalar.subi c3_i32_2155 v1290
  let c64_i32_2156 : BitVec 32 := 64#32
  let v3122 : BitVec 32 := Scalar.muli v3121 c64_i32_2156
  let v3123 : BitVec 32 := v3122
  let v3124 : Index := Scalar.indexCast v3123
  let c0_2159 : Index := 0#32
  ![6, 0, v3124.toNat, 0]
def k0_mult31 : BitVec 32 :=
  let c3_i32_2203 : BitVec 32 := 3#32
  let c2_i32_749 : BitVec 32 := 2#32
  let c0_i32_748 : BitVec 32 := 0#32
  let v1288 : BitVec 32 := Scalar.muli c2_i32_749 c0_i32_748
  let v3206 : BitVec 32 := Scalar.subi c3_i32_2203 v1288
  let c64_i32_2204 : BitVec 32 := 64#32
  let v3207 : BitVec 32 := Scalar.muli v3206 c64_i32_2204
  v3207
def k0_off31 : Fin 4 → Nat :=
  let c7_2205 : Index := 7#32
  let c0_2206 : Index := 0#32
  let c3_i32_2203 : BitVec 32 := 3#32
  let c2_i32_749 : BitVec 32 := 2#32
  let c0_i32_748 : BitVec 32 := 0#32
  let v1288 : BitVec 32 := Scalar.muli c2_i32_749 c0_i32_748
  let v3206 : BitVec 32 := Scalar.subi c3_i32_2203 v1288
  let c64_i32_2204 : BitVec 32 := 64#32
  let v3207 : BitVec 32 := Scalar.muli v3206 c64_i32_2204
  let v3208 : BitVec 32 := v3207
  let v3209 : Index := Scalar.indexCast v3208
  let c0_2207 : Index := 0#32
  ![7, 0, v3209.toNat, 0]
def k0_mult32 : BitVec 32 :=
  let c3_i32_2238 : BitVec 32 := 3#32
  let c2_i32_750 : BitVec 32 := 2#32
  let c0_i32_748 : BitVec 32 := 0#32
  let v1289 : BitVec 32 := Scalar.muli c2_i32_750 c0_i32_748
  let c1_i32_751 : BitVec 32 := 1#32
  let v1290 : BitVec 32 := Scalar.addi v1289 c1_i32_751
  let v3238 : BitVec 32 := Scalar.subi c3_i32_2238 v1290
  let c64_i32_2239 : BitVec 32 := 64#32
  let v3239 : BitVec 32 := Scalar.muli v3238 c64_i32_2239
  v3239
def k0_off32 (c1_i32_751 : BitVec 32) : Fin 4 → Nat :=
  let c7_2240 : Index := 7#32
  let c0_2241 : Index := 0#32
  let c3_i32_2238 : BitVec 32 := 3#32
  let c2_i32_750 : BitVec 32 := 2#32
  let c0_i32_748 : BitVec 32 := 0#32
  let v1289 : BitVec 32 := Scalar.muli c2_i32_750 c0_i32_748
  let v1290 : BitVec 32 := Scalar.addi v1289 c1_i32_751
  let v3238 : BitVec 32 := Scalar.subi c3_i32_2238 v1290
  let c64_i32_2239 : BitVec 32 := 64#32
  let v3239 : BitVec 32 := Scalar.muli v3238 c64_i32_2239
  let v3240 : BitVec 32 := v3239
  let v3241 : Index := Scalar.indexCast v3240
  let c0_2242 : Index := 0#32
  ![7, 0, v3241.toNat, 0]
def k0_mult33 : BitVec 32 :=
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let c64_i32_2304 : BitVec 32 := 64#32
  let v3338 : BitVec 32 := Scalar.muli v3326 c64_i32_2304
  v3338
def k0_mult34 : BitVec 32 :=
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let c64_i32_2365 : BitVec 32 := 64#32
  let v3433 : BitVec 32 := Scalar.muli v3326 c64_i32_2365
  v3433
def k0_mult35 : BitVec 32 :=
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let c64_i32_2426 : BitVec 32 := 64#32
  let v3528 : BitVec 32 := Scalar.muli v3326 c64_i32_2426
  v3528
def k0_mult36 : BitVec 32 :=
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let c64_i32_2487 : BitVec 32 := 64#32
  let v3623 : BitVec 32 := Scalar.muli v3326 c64_i32_2487
  v3623
def k0_mult37 : BitVec 32 :=
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let c64_i32_2548 : BitVec 32 := 64#32
  let v3718 : BitVec 32 := Scalar.muli v3326 c64_i32_2548
  v3718
def k0_mult38 : BitVec 32 :=
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let c64_i32_2609 : BitVec 32 := 64#32
  let v3813 : BitVec 32 := Scalar.muli v3326 c64_i32_2609
  v3813
def k0_mult39 : BitVec 32 :=
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let c64_i32_2670 : BitVec 32 := 64#32
  let v3908 : BitVec 32 := Scalar.muli v3326 c64_i32_2670
  v3908
def k0_mult40 : BitVec 32 :=
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let c64_i32_2731 : BitVec 32 := 64#32
  let v4003 : BitVec 32 := Scalar.muli v3326 c64_i32_2731
  v4003
def k0_mult41 : BitVec 32 :=
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let c64_i32_2890 : BitVec 32 := 64#32
  let v4175 : BitVec 32 := Scalar.muli v3324 c64_i32_2890
  v4175
def k0_mult42 : BitVec 32 :=
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let c64_i32_2924 : BitVec 32 := 64#32
  let v4206 : BitVec 32 := Scalar.muli v3324 c64_i32_2924
  v4206
def k0_mult43 : BitVec 32 :=
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let c64_i32_2958 : BitVec 32 := 64#32
  let v4237 : BitVec 32 := Scalar.muli v3324 c64_i32_2958
  v4237
def k0_mult44 : BitVec 32 :=
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let c64_i32_2992 : BitVec 32 := 64#32
  let v4268 : BitVec 32 := Scalar.muli v3324 c64_i32_2992
  v4268
def k0_mult45 : BitVec 32 :=
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let c64_i32_3026 : BitVec 32 := 64#32
  let v4299 : BitVec 32 := Scalar.muli v3324 c64_i32_3026
  v4299
def k0_mult46 : BitVec 32 :=
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let c64_i32_3060 : BitVec 32 := 64#32
  let v4330 : BitVec 32 := Scalar.muli v3324 c64_i32_3060
  v4330
def k0_mult47 : BitVec 32 :=
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let c64_i32_3094 : BitVec 32 := 64#32
  let v4361 : BitVec 32 := Scalar.muli v3324 c64_i32_3094
  v4361
def k0_mult48 : BitVec 32 :=
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let c64_i32_3128 : BitVec 32 := 64#32
  let v4392 : BitVec 32 := Scalar.muli v3324 c64_i32_3128
  v4392
def k0_mult49 : BitVec 32 :=
  let c3_i32_3162 : BitVec 32 := 3#32
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let v4423 : BitVec 32 := Scalar.subi c3_i32_3162 v3324
  let c64_i32_3163 : BitVec 32 := 64#32
  let v4424 : BitVec 32 := Scalar.muli v4423 c64_i32_3163
  v4424
def k0_mult50 : BitVec 32 :=
  let c3_i32_3197 : BitVec 32 := 3#32
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let v4455 : BitVec 32 := Scalar.subi c3_i32_3197 v3326
  let c64_i32_3198 : BitVec 32 := 64#32
  let v4456 : BitVec 32 := Scalar.muli v4455 c64_i32_3198
  v4456
def k0_mult51 : BitVec 32 :=
  let c3_i32_3245 : BitVec 32 := 3#32
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let v4540 : BitVec 32 := Scalar.subi c3_i32_3245 v3324
  let c64_i32_3246 : BitVec 32 := 64#32
  let v4541 : BitVec 32 := Scalar.muli v4540 c64_i32_3246
  v4541
def k0_mult52 : BitVec 32 :=
  let c3_i32_3280 : BitVec 32 := 3#32
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let v4572 : BitVec 32 := Scalar.subi c3_i32_3280 v3326
  let c64_i32_3281 : BitVec 32 := 64#32
  let v4573 : BitVec 32 := Scalar.muli v4572 c64_i32_3281
  v4573
def k0_mult53 : BitVec 32 :=
  let c3_i32_3328 : BitVec 32 := 3#32
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let v4657 : BitVec 32 := Scalar.subi c3_i32_3328 v3324
  let c64_i32_3329 : BitVec 32 := 64#32
  let v4658 : BitVec 32 := Scalar.muli v4657 c64_i32_3329
  v4658
def k0_mult54 : BitVec 32 :=
  let c3_i32_3363 : BitVec 32 := 3#32
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let v4689 : BitVec 32 := Scalar.subi c3_i32_3363 v3326
  let c64_i32_3364 : BitVec 32 := 64#32
  let v4690 : BitVec 32 := Scalar.muli v4689 c64_i32_3364
  v4690
def k0_mult55 : BitVec 32 :=
  let c3_i32_3411 : BitVec 32 := 3#32
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let v4774 : BitVec 32 := Scalar.subi c3_i32_3411 v3324
  let c64_i32_3412 : BitVec 32 := 64#32
  let v4775 : BitVec 32 := Scalar.muli v4774 c64_i32_3412
  v4775
def k0_mult56 : BitVec 32 :=
  let c3_i32_3446 : BitVec 32 := 3#32
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let v4806 : BitVec 32 := Scalar.subi c3_i32_3446 v3326
  let c64_i32_3447 : BitVec 32 := 64#32
  let v4807 : BitVec 32 := Scalar.muli v4806 c64_i32_3447
  v4807
def k0_mult57 : BitVec 32 :=
  let c3_i32_3494 : BitVec 32 := 3#32
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let v4891 : BitVec 32 := Scalar.subi c3_i32_3494 v3324
  let c64_i32_3495 : BitVec 32 := 64#32
  let v4892 : BitVec 32 := Scalar.muli v4891 c64_i32_3495
  v4892
def k0_mult58 : BitVec 32 :=
  let c3_i32_3529 : BitVec 32 := 3#32
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let v4923 : BitVec 32 := Scalar.subi c3_i32_3529 v3326
  let c64_i32_3530 : BitVec 32 := 64#32
  let v4924 : BitVec 32 := Scalar.muli v4923 c64_i32_3530
  v4924
def k0_mult59 : BitVec 32 :=
  let c3_i32_3577 : BitVec 32 := 3#32
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let v5008 : BitVec 32 := Scalar.subi c3_i32_3577 v3324
  let c64_i32_3578 : BitVec 32 := 64#32
  let v5009 : BitVec 32 := Scalar.muli v5008 c64_i32_3578
  v5009
def k0_mult60 : BitVec 32 :=
  let c3_i32_3612 : BitVec 32 := 3#32
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let v5040 : BitVec 32 := Scalar.subi c3_i32_3612 v3326
  let c64_i32_3613 : BitVec 32 := 64#32
  let v5041 : BitVec 32 := Scalar.muli v5040 c64_i32_3613
  v5041
def k0_mult61 : BitVec 32 :=
  let c3_i32_3660 : BitVec 32 := 3#32
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let v5125 : BitVec 32 := Scalar.subi c3_i32_3660 v3324
  let c64_i32_3661 : BitVec 32 := 64#32
  let v5126 : BitVec 32 := Scalar.muli v5125 c64_i32_3661
  v5126
def k0_mult62 : BitVec 32 :=
  let c3_i32_3695 : BitVec 32 := 3#32
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let v5157 : BitVec 32 := Scalar.subi c3_i32_3695 v3326
  let c64_i32_3696 : BitVec 32 := 64#32
  let v5158 : BitVec 32 := Scalar.muli v5157 c64_i32_3696
  v5158
def k0_mult63 : BitVec 32 :=
  let c3_i32_3743 : BitVec 32 := 3#32
  let c2_i32_2286 : BitVec 32 := 2#32
  let c0_i32_748 : BitVec 32 := 0#32
  let v3323 : BitVec 32 := Scalar.muli c2_i32_2286 c0_i32_748
  let c1_i32_2287 : BitVec 32 := 1#32
  let v3324 : BitVec 32 := Scalar.addi v3323 c1_i32_2287
  let v5242 : BitVec 32 := Scalar.subi c3_i32_3743 v3324
  let c64_i32_3744 : BitVec 32 := 64#32
  let v5243 : BitVec 32 := Scalar.muli v5242 c64_i32_3744
  v5243
def k0_mult64 : BitVec 32 :=
  let c3_i32_3778 : BitVec 32 := 3#32
  let c2_i32_2288 : BitVec 32 := 2#32
  let c0_i32_748 : BitVec 32 := 0#32
  let v3325 : BitVec 32 := Scalar.muli c2_i32_2288 c0_i32_748
  let c2_i32_2289 : BitVec 32 := 2#32
  let v3326 : BitVec 32 := Scalar.addi v3325 c2_i32_2289
  let v5274 : BitVec 32 := Scalar.subi c3_i32_3778 v3326
  let c64_i32_3779 : BitVec 32 := 64#32
  let v5275 : BitVec 32 := Scalar.muli v5274 c64_i32_3779
  v5275
def k0_cond2 (i : grid0.Coords) : BitVec 1 :=
  let arg1 : BitVec 32 := BitVec.ofNat 32 (i 1).val
  let c0_i32_6161 : BitVec 32 := 0#32
  let v7855 : BitVec 1 := Scalar.cmpi .eq arg1 c0_i32_6161
  let v7856 : BitVec 32 := Scalar.extui v7855
  let c0_i32_6162 : BitVec 32 := 0#32
  let v7857 : BitVec 1 := Scalar.cmpi .ne v7856 c0_i32_6162
  v7857

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  let c0_i32_2 : BitVec 32 := 0#32
  ![c0_i32_0.toNat, arg0.toNat, v0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  let c0_i32_2 : BitVec 32 := 0#32
  ![c0_i32_0.toNat, arg0.toNat, v0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  let c0_i32_2 : BitVec 32 := 0#32
  ![c0_i32_0.toNat, arg0.toNat, v0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  let c0_i32_2 : BitVec 32 := 0#32
  ![c0_i32_0.toNat, arg0.toNat, v0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S8x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S32x256x8x128 : Shape := ⟨4, ![32, 256, 8, 128]⟩
abbrev S64x256x8x128 : Shape := ⟨4, ![64, 256, 8, 128]⟩
abbrev S_ : Shape := ⟨0, ![]⟩
abbrev S64x8x128x128 : Shape := ⟨4, ![64, 8, 128, 128]⟩
abbrev S256x64x8x128 : Shape := ⟨4, ![256, 64, 8, 128]⟩
abbrev S1x64x8x128 : Shape := ⟨4, ![1, 64, 8, 128]⟩
abbrev S64x8x128 : Shape := ⟨3, ![64, 8, 128]⟩
abbrev S64x8x128x1 : Shape := ⟨4, ![64, 8, 128, 1]⟩
abbrev S64x8x1x128 : Shape := ⟨4, ![64, 8, 1, 128]⟩
abbrev S8x32x256x128 : Shape := ⟨4, ![8, 32, 256, 128]⟩
abbrev S32x8x128x128 : Shape := ⟨4, ![32, 8, 128, 128]⟩
abbrev S32x1x8x128x128 : Shape := ⟨5, ![32, 1, 8, 128, 128]⟩
abbrev S32x2x8x128x128 : Shape := ⟨5, ![32, 2, 8, 128, 128]⟩

abbrev nBuf : Space → Nat
  | .hbm => 77
  | .vmem => 0
  | .smem => 0
  | _ => 0

abbrev bufTy : (tb : Table) → Fin (tcTables nBuf tb) → BufTy
  | .hbm, ⟨0, _⟩ => ⟨S32x256x8x128, .f32⟩
  | .hbm, ⟨1, _⟩ => ⟨S32x256x8x128, .f32⟩
  | .hbm, ⟨2, _⟩ => ⟨S32x256x8x128, .f32⟩
  | .hbm, ⟨3, _⟩ => ⟨S32x256x8x128, .f32⟩
  | .hbm, ⟨4, _⟩ => ⟨S32x256x8x128, .f32⟩
  | .hbm, ⟨5, _⟩ => ⟨S64x256x8x128, .f32⟩
  | .hbm, ⟨6, _⟩ => ⟨S32x256x8x128, .f32⟩
  | .hbm, ⟨7, _⟩ => ⟨S64x256x8x128, .f32⟩
  | .hbm, ⟨8, _⟩ => ⟨S32x256x8x128, .f32⟩
  | .hbm, ⟨9, _⟩ => ⟨S64x256x8x128, .f32⟩
  | .hbm, ⟨10, _⟩ => ⟨S_, .f32⟩
  | .hbm, ⟨11, _⟩ => ⟨S64x256x8x128, .f32⟩
  | .hbm, ⟨12, _⟩ => ⟨S64x256x8x128, .f32⟩
  | .hbm, ⟨13, _⟩ => ⟨S_, .f32⟩
  | .hbm, ⟨14, _⟩ => ⟨S64x8x128x128, .f32⟩
  | .hbm, ⟨15, _⟩ => ⟨S256x64x8x128, .f32⟩
  | .hbm, ⟨16, _⟩ => ⟨S256x64x8x128, .f32⟩
  | .hbm, ⟨17, _⟩ => ⟨S256x64x8x128, .f32⟩
  | .hbm, ⟨18, _⟩ => ⟨S_, .f32⟩
  | .hbm, ⟨19, _⟩ => ⟨S256x64x8x128, .f32⟩
  | .hbm, ⟨20, _⟩ => ⟨S_, .i32⟩
  | .hbm, ⟨21, _⟩ => ⟨S256x64x8x128, .f32⟩
  | .hbm, ⟨22, _⟩ => ⟨S256x64x8x128, .f32⟩
  | .hbm, ⟨23, _⟩ => ⟨S256x64x8x128, .f32⟩
  | .hbm, ⟨24, _⟩ => ⟨S_, .i32⟩
  | .hbm, ⟨25, _⟩ => ⟨S64x8x128x128, .f32⟩
  | .hbm, ⟨26, _⟩ => ⟨S256x64x8x128, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x64x8x128, .f32⟩
  | .hbm, ⟨33, _⟩ => ⟨S64x8x128, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x64x8x128, .f32⟩
  | .hbm, ⟨38, _⟩ => ⟨S64x8x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x64x8x128, .f32⟩
  | .hbm, ⟨43, _⟩ => ⟨S64x8x128, .f32⟩
  | .hbm, ⟨44, _⟩ => ⟨S64x8x128x1, .f32⟩
  | .hbm, ⟨45, _⟩ => ⟨S64x8x128x128, .f32⟩
  | .hbm, ⟨46, _⟩ => ⟨S64x8x128x128, .f32⟩
  | .hbm, ⟨47, _⟩ => ⟨S_, .f32⟩
  | .hbm, ⟨48, _⟩ => ⟨S64x8x128, .f32⟩
  | .hbm, ⟨49, _⟩ => ⟨S64x8x128, .f32⟩
  | .hbm, ⟨50, _⟩ => ⟨S64x8x128x1, .f32⟩
  | .hbm, ⟨51, _⟩ => ⟨S64x8x1x128, .f32⟩
  | .hbm, ⟨52, _⟩ => ⟨S64x8x128x128, .f32⟩
  | .hbm, ⟨53, _⟩ => ⟨S64x8x128x128, .f32⟩
  | .hbm, ⟨54, _⟩ => ⟨S64x8x128x128, .f32⟩
  | .hbm, ⟨55, _⟩ => ⟨S64x8x128x128, .f32⟩
  | .hbm, ⟨56, _⟩ => ⟨S64x8x128, .f32⟩
  | .hbm, ⟨57, _⟩ => ⟨S1x64x8x128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S256x64x8x128, .f32⟩
  | .hbm, ⟨62, _⟩ => ⟨S_, .i32⟩
  | .hbm, ⟨63, _⟩ => ⟨S_, .i32⟩
  | .hbm, ⟨64, _⟩ => ⟨S64x256x8x128, .f32⟩
  | .hbm, ⟨65, _⟩ => ⟨S32x256x8x128, .f32⟩
  | .hbm, ⟨66, _⟩ => ⟨S8x32x256x128, .f32⟩
  | .hbm, ⟨67, _⟩ => ⟨S8x32x256x128, .bf16⟩
  | .hbm, ⟨68, _⟩ => ⟨S32x256x8x128, .f32⟩
  | .hbm, ⟨69, _⟩ => ⟨S32x256x8x128, .f32⟩
  | .hbm, ⟨70, _⟩ => ⟨S8x32x256x128, .f32⟩
  | .hbm, ⟨71, _⟩ => ⟨S8x32x256x128, .bf16⟩
  | .hbm, ⟨72, _⟩ => ⟨S32x8x128x128, .f32⟩
  | .hbm, ⟨73, _⟩ => ⟨S32x8x128x128, .f32⟩
  | .hbm, ⟨74, _⟩ => ⟨S32x1x8x128x128, .f32⟩
  | .hbm, ⟨75, _⟩ => ⟨S32x1x8x128x128, .f32⟩
  | .hbm, ⟨76, _⟩ => ⟨S32x2x8x128x128, .f32⟩
  | _, _ => ⟨S32x256x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_c : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_while0c_c_7 : Ref sig .tc := ⟨.hbm, 27, rfl⟩
abbrev main_while0c_v27 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_c_1 : Ref sig .tc := ⟨.hbm, 31, rfl⟩
abbrev main_while0b_call0_v0 : Ref sig .tc := ⟨.hbm, 32, rfl⟩
abbrev main_while0b_v27 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_c_1 : Ref sig .tc := ⟨.hbm, 36, rfl⟩
abbrev main_while0b_call1_v0 : Ref sig .tc := ⟨.hbm, 37, rfl⟩
abbrev main_while0b_v28 : Ref sig .tc := ⟨.hbm, 38, rfl⟩
abbrev main_while0b_call2_c : Ref sig .tc := ⟨.hbm, 39, rfl⟩
abbrev main_while0b_call2_c_0 : Ref sig .tc := ⟨.hbm, 40, rfl⟩
abbrev main_while0b_call2_c_1 : Ref sig .tc := ⟨.hbm, 41, rfl⟩
abbrev main_while0b_call2_v0 : Ref sig .tc := ⟨.hbm, 42, rfl⟩
abbrev main_while0b_v29 : Ref sig .tc := ⟨.hbm, 43, rfl⟩
abbrev main_while0b_v30 : Ref sig .tc := ⟨.hbm, 44, rfl⟩
abbrev main_while0b_v31 : Ref sig .tc := ⟨.hbm, 45, rfl⟩
abbrev main_while0b_v32 : Ref sig .tc := ⟨.hbm, 46, rfl⟩
abbrev main_while0b_cst_7 : Ref sig .tc := ⟨.hbm, 47, rfl⟩
abbrev main_while0b_v33 : Ref sig .tc := ⟨.hbm, 48, rfl⟩
abbrev main_while0b_v34 : Ref sig .tc := ⟨.hbm, 49, rfl⟩
abbrev main_while0b_v35 : Ref sig .tc := ⟨.hbm, 50, rfl⟩
abbrev main_while0b_v36 : Ref sig .tc := ⟨.hbm, 51, rfl⟩
abbrev main_while0b_v37 : Ref sig .tc := ⟨.hbm, 52, rfl⟩
abbrev main_while0b_v38 : Ref sig .tc := ⟨.hbm, 53, rfl⟩
abbrev main_while0b_v39 : Ref sig .tc := ⟨.hbm, 54, rfl⟩
abbrev main_while0b_v40 : Ref sig .tc := ⟨.hbm, 55, rfl⟩
abbrev main_while0b_v41 : Ref sig .tc := ⟨.hbm, 56, rfl⟩
abbrev main_while0b_call3_v0 : Ref sig .tc := ⟨.hbm, 57, rfl⟩
abbrev main_while0b_call3_c : Ref sig .tc := ⟨.hbm, 58, rfl⟩
abbrev main_while0b_call3_c_0 : Ref sig .tc := ⟨.hbm, 59, rfl⟩
abbrev main_while0b_call3_c_1 : Ref sig .tc := ⟨.hbm, 60, rfl⟩
abbrev main_while0b_v42 : Ref sig .tc := ⟨.hbm, 61, rfl⟩
abbrev main_while0b_c_8 : Ref sig .tc := ⟨.hbm, 62, rfl⟩
abbrev main_while0b_v43 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩

abbrev nD : Nat := 1
abbrev τ : Topo := Topo.v7x

variable {F : FTy → Type} [FloatOps F]

abbrev main_while0_count : Scf.Loop 32 := ⟨0#32, 256#32, 1#32⟩
-- ==== Ffn.lean ====
abbrev S16x3072x512 : Shape := ⟨3, ![16, 3072, 512]⟩
abbrev S1x16x1024x1024 : Shape := ⟨4, ![1, 16, 1024, 1024]⟩
abbrev S16x3072x1024 : Shape := ⟨3, ![16, 3072, 1024]⟩
abbrev S1x512x512 : Shape := ⟨3, ![1, 512, 512]⟩
abbrev S1x1x1024x1024 : Shape := ⟨4, ![1, 1, 1024, 1024]⟩
abbrev S1x512x1024 : Shape := ⟨3, ![1, 512, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 5
  | .vmem => 13
  | .smem => 0
  | _ => 0

abbrev bufTy : (tb : Table) → Fin (tcTables nBuf tb) → BufTy
  | .hbm, ⟨0, _⟩ => ⟨S16x3072x512, .i32⟩
  | .hbm, ⟨1, _⟩ => ⟨S1x16x1024x1024, .f32⟩
  | .hbm, ⟨2, _⟩ => ⟨S1x16x1024x1024, .f32⟩
  | .hbm, ⟨3, _⟩ => ⟨S1x16x1024x1024, .f32⟩
  | .hbm, ⟨4, _⟩ => ⟨S16x3072x1024, .bf16⟩
  | .local _ .vmem, ⟨0, _⟩ => ⟨S1x512x512, .i32⟩
  | .local _ .vmem, ⟨1, _⟩ => ⟨S1x512x512, .i32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S16x3072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ExpertsIdeal.lean ====
abbrev S16x3072x512 : Shape := ⟨3, ![16, 3072, 512]⟩
abbrev S1x16x1024x1024 : Shape := ⟨4, ![1, 16, 1024, 1024]⟩
abbrev S16x3072x512x2 : Shape := ⟨4, ![16, 3072, 512, 2]⟩
abbrev S16x3072x512x1 : Shape := ⟨4, ![16, 3072, 512, 1]⟩
abbrev S16x3072x1024 : Shape := ⟨3, ![16, 3072, 1024]⟩
abbrev S16x1024x1024 : Shape := ⟨3, ![16, 1024, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16x3072x512, .i32⟩
  | .hbm, ⟨1, _⟩ => ⟨S1x16x1024x1024, .f32⟩
  | .hbm, ⟨2, _⟩ => ⟨S1x16x1024x1024, .f32⟩
  | .hbm, ⟨3, _⟩ => ⟨S1x16x1024x1024, .f32⟩
  | .hbm, ⟨4, _⟩ => ⟨S16x3072x512x2, .bf16⟩
  | .hbm, ⟨5, _⟩ => ⟨S16x3072x512x1, .bf16⟩
  | .hbm, ⟨6, _⟩ => ⟨S16x3072x512, .bf16⟩
  | .hbm, ⟨7, _⟩ => ⟨S16x3072x512x1, .bf16⟩
  | .hbm, ⟨8, _⟩ => ⟨S16x3072x512, .bf16⟩
  | .hbm, ⟨9, _⟩ => ⟨S16x3072x1024, .bf16⟩
  | .hbm, ⟨10, _⟩ => ⟨S16x3072x1024, .f32⟩
  | .hbm, ⟨11, _⟩ => ⟨S16x1024x1024, .f32⟩
  | .hbm, ⟨12, _⟩ => ⟨S16x3072x1024, .f32⟩
  | .hbm, ⟨13, _⟩ => ⟨S16x3072x1024, .f32⟩
  | .hbm, ⟨14, _⟩ => ⟨S16x3072x1024, .f32⟩
  | .hbm, ⟨15, _⟩ => ⟨S_, .f32⟩
  | .hbm, ⟨16, _⟩ => ⟨S16x3072x1024, .f32⟩
  | .hbm, ⟨17, _⟩ => ⟨S16x3072x1024, .f32⟩
  | .hbm, ⟨18, _⟩ => ⟨S_, .f32⟩
  | .hbm, ⟨19, _⟩ => ⟨S16x3072x1024, .f32⟩
  | .hbm, ⟨20, _⟩ => ⟨S16x3072x1024, .f32⟩
  | .hbm, ⟨21, _⟩ => ⟨S16x3072x1024, .f32⟩
  | .hbm, ⟨22, _⟩ => ⟨S16x1024x1024, .f32⟩
  | .hbm, ⟨23, _⟩ => ⟨S16x3072x1024, .f32⟩
  | .hbm, ⟨24, _⟩ => ⟨S16x3072x1024, .f32⟩
  | .hbm, ⟨25, _⟩ => ⟨S16x1024x1024, .f32⟩
  | .hbm, ⟨26, _⟩ => ⟨S16x3072x1024, .f32⟩
  | .hbm, ⟨27, _⟩ => ⟨S16x3072x1024, .bf16⟩
  | _, _ => ⟨S16x3072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proj.lean ====
abbrev S4x4096x1024 : Shape := ⟨3, ![4, 4096, 1024]⟩
abbrev S8x6144 : Shape := ⟨2, ![8, 6144]⟩
abbrev S1x1024 : Shape := ⟨2, ![1, 1024]⟩
abbrev S2x2x1024 : Shape := ⟨3, ![2, 2, 1024]⟩
abbrev S1x3x1024 : Shape := ⟨3, ![1, 3, 1024]⟩
abbrev S1x1024x10240 : Shape := ⟨3, ![1, 1024, 10240]⟩
abbrev S1x1024x1024 : Shape := ⟨3, ![1, 1024, 1024]⟩
abbrev S1024x10240 : Shape := ⟨2, ![1024, 10240]⟩
abbrev S1024x1024 : Shape := ⟨2, ![1024, 1024]⟩
abbrev S16384x1024 : Shape := ⟨2, ![16384, 1024]⟩
abbrev S4x1024 : Shape := ⟨2, ![4, 1024]⟩
abbrev S3x1024 : Shape := ⟨2, ![3, 1024]⟩
abbrev S8x16384x128 : Shape := ⟨3, ![8, 16384, 128]⟩
abbrev S256x1024 : Shape := ⟨2, ![256, 1024]⟩
abbrev S8x256x128 : Shape := ⟨3, ![8, 256, 128]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 22
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S8x6144, .f32⟩
  | .hbm, ⟨2, _⟩ => ⟨S1x1024, .f32⟩
  | .hbm, ⟨3, _⟩ => ⟨S2x2x1024, .f32⟩
  | .hbm, ⟨4, _⟩ => ⟨S1x3x1024, .f32⟩
  | .hbm, ⟨5, _⟩ => ⟨S1x1024, .f32⟩
  | .hbm, ⟨6, _⟩ => ⟨S1x1024x10240, .f32⟩
  | .hbm, ⟨7, _⟩ => ⟨S1x1024x1024, .f32⟩
  | .hbm, ⟨8, _⟩ => ⟨S1024x10240, .f32⟩
  | .hbm, ⟨9, _⟩ => ⟨S1024x10240, .bf16⟩
  | .hbm, ⟨10, _⟩ => ⟨S1024x1024, .f32⟩
  | .hbm, ⟨11, _⟩ => ⟨S1024x1024, .bf16⟩
  | .hbm, ⟨12, _⟩ => ⟨S16384x1024, .f32⟩
  | .hbm, ⟨13, _⟩ => ⟨S4x1024, .f32⟩
  | .hbm, ⟨14, _⟩ => ⟨S3x1024, .f32⟩
  | .hbm, ⟨15, _⟩ => ⟨S16384x1024, .bf16⟩
  | .hbm, ⟨16, _⟩ => ⟨S8x16384x128, .bf16⟩
  | .hbm, ⟨17, _⟩ => ⟨S8x16384x128, .f32⟩
  | .hbm, ⟨18, _⟩ => ⟨S8x16384x128, .f32⟩
  | .hbm, ⟨19, _⟩ => ⟨S8x16384x128, .bf16⟩
  | .hbm, ⟨20, _⟩ => ⟨S8x16384x128, .bf16⟩
  | .hbm, ⟨21, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S8x6144, .f32⟩
  | .local _ .vmem, ⟨3, _⟩ => ⟨S1x1024, .f32⟩
  | .local _ .vmem, ⟨4, _⟩ => ⟨S4x1024, .f32⟩
  | .local _ .vmem, ⟨5, _⟩ => ⟨S3x1024, .f32⟩
  | .local _ .vmem, ⟨6, _⟩ => ⟨S1x1024, .f32⟩
  | .local _ .vmem, ⟨7, _⟩ => ⟨S1024x10240, .bf16⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S8x256x128, .bf16⟩
  | .local _ .vmem, ⟨12, _⟩ => ⟨S8x256x128, .bf16⟩
  | .local _ .vmem, ⟨13, _⟩ => ⟨S8x256x128, .f32⟩
  | .local _ .vmem, ⟨14, _⟩ => ⟨S8x256x128, .f32⟩
  | .local _ .vmem, ⟨15, _⟩ => ⟨S8x256x128, .f32⟩
  | .local _ .vmem, ⟨16, _⟩ => ⟨S8x256x128, .f32⟩
  | .local _ .vmem, ⟨17, _⟩ => ⟨S8x256x128, .bf16⟩
  | .local _ .vmem, ⟨18, _⟩ => ⟨S8x256x128, .bf16⟩
  | .local _ .vmem, ⟨19, _⟩ => ⟨S8x256x128, .bf16⟩
  | .local _ .vmem, ⟨20, _⟩ => ⟨S8x256x128, .bf16⟩
  | .local _ .vmem, ⟨21, _⟩ => ⟨S256x1024, .bf16⟩
  | .local _ .vmem, ⟨22, _⟩ => ⟨S256x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : Index := Scalar.indexCast v16
  let c0 : Index := 0#32
  ![v17.toNat, 0]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v19 : Index := Scalar.indexCast v16
  let c1024 : Index := 1024#32
  ![v19.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x10240 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjIdeal.lean ====
variable {F : FTy → Type} [FloatOps F] [Named F]
def κ : String → Option EReal := fun
  | "s" => some (((Real.log 2)⁻¹ : ℝ) : EReal)
  | _ => none
-- ==== ProjectionsIdeal.lean ====
abbrev S4x4096x1024 : Shape := ⟨3, ![4, 4096, 1024]⟩
abbrev S8x6144 : Shape := ⟨2, ![8, 6144]⟩
abbrev S1x1024 : Shape := ⟨2, ![1, 1024]⟩
abbrev S2x2x1024 : Shape := ⟨3, ![2, 2, 1024]⟩
abbrev S1x3x1024 : Shape := ⟨3, ![1, 3, 1024]⟩
abbrev S1x1024x10240 : Shape := ⟨3, ![1, 1024, 10240]⟩
abbrev S1x1024x1024 : Shape := ⟨3, ![1, 1024, 1024]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S16384x1024 : Shape := ⟨2, ![16384, 1024]⟩
abbrev S1024x10240 : Shape := ⟨2, ![1024, 10240]⟩
abbrev S16384x10240 : Shape := ⟨2, ![16384, 10240]⟩
abbrev S3x1024 : Shape := ⟨2, ![3, 1024]⟩
abbrev S256x64x1024 : Shape := ⟨3, ![256, 64, 1024]⟩
abbrev S256x66x1024 : Shape := ⟨3, ![256, 66, 1024]⟩
abbrev S1024x1024 : Shape := ⟨2, ![1024, 1024]⟩
abbrev S2x1024 : Shape := ⟨2, ![2, 1024]⟩
abbrev S2x1x1024 : Shape := ⟨3, ![2, 1, 1024]⟩
abbrev S16384x8x128 : Shape := ⟨3, ![16384, 8, 128]⟩
abbrev S8x16384x128 : Shape := ⟨3, ![8, 16384, 128]⟩

abbrev nBuf : Space → Nat
  | .hbm => 199
  | .vmem => 0
  | .smem => 0
  | _ => 0

abbrev hbmTy0_0 (i : Nat) : BufTy := match i % 128 with
  | 0 => ⟨S4x4096x1024, .f32⟩
  | 1 => ⟨S8x6144, .f32⟩
  | 2 => ⟨S1x1024, .f32⟩
  | 3 => ⟨S2x2x1024, .f32⟩
  | 4 => ⟨S1x3x1024, .f32⟩
  | 5 => ⟨S1x1024, .f32⟩
  | 6 => ⟨S1x1024x10240, .f32⟩
  | 7 => ⟨S1x1024x1024, .f32⟩
  | 8 => ⟨S4x1024, .f32⟩
  | 9 => ⟨S4x1x1024, .f32⟩
  | 10 => ⟨S4x1024, .f32⟩
  | 11 => ⟨S4x1x1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1024, .f32⟩
  | 26 => ⟨S1x1x1024, .f32⟩
  | 27 => ⟨S4x4096x1024, .f32⟩
  | 28 => ⟨S4x4096x1024, .f32⟩
  | 29 => ⟨S_, .f32⟩
  | 30 => ⟨S4x1x1024, .f32⟩
  | 31 => ⟨S4x1x1024, .f32⟩
  | 32 => ⟨S4x4096x1024, .f32⟩
  | 33 => ⟨S4x4096x1024, .f32⟩
  | 34 => ⟨S4x4096x1024, .f32⟩
  | 35 => ⟨S4x4096x1024, .f32⟩
  | 36 => ⟨S16384x1024, .f32⟩
  | 37 => ⟨S1024x10240, .f32⟩
  | 38 => ⟨S16384x10240, .f32⟩
  | 39 => ⟨S16384x1024, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S16384x1024, .f32⟩
  | 50 => ⟨S3x1024, .f32⟩
  | 51 => ⟨S1024, .f32⟩
  | 52 => ⟨S256x64x1024, .f32⟩
  | 53 => ⟨S_, .i32⟩
  | 54 => ⟨S_, .f32⟩
  | 55 => ⟨S256x66x1024, .f32⟩
  | 56 => ⟨S256x64x1024, .f32⟩
  | 57 => ⟨S1x1024, .f32⟩
  | 58 => ⟨S1024, .f32⟩
  | 59 => ⟨S1x1x1024, .f32⟩
  | 60 => ⟨S256x64x1024, .f32⟩
  | 61 => ⟨S256x64x1024, .f32⟩
  | 62 => ⟨S256x64x1024, .f32⟩
  | 63 => ⟨S1x1024, .f32⟩
  | 64 => ⟨S1024, .f32⟩
  | 65 => ⟨S1x1x1024, .f32⟩
  | 66 => ⟨S256x64x1024, .f32⟩
  | 67 => ⟨S256x64x1024, .f32⟩
  | 68 => ⟨S256x64x1024, .f32⟩
  | 69 => ⟨S256x64x1024, .f32⟩
  | 70 => ⟨S1x1024, .f32⟩
  | 71 => ⟨S1024, .f32⟩
  | 72 => ⟨S1x1x1024, .f32⟩
  | 73 => ⟨S256x64x1024, .f32⟩
  | 74 => ⟨S256x64x1024, .f32⟩
  | 75 => ⟨S256x64x1024, .f32⟩
  | 76 => ⟨S1x1x1024, .f32⟩
  | 77 => ⟨S256x64x1024, .f32⟩
  | 78 => ⟨S256x64x1024, .f32⟩
  | 79 => ⟨S16384x1024, .f32⟩
  | 80 => ⟨S16384x1024, .f32⟩
  | 81 => ⟨S1024x1024, .f32⟩
  | 82 => ⟨S16384x1024, .f32⟩
  | 83 => ⟨S_, .f32⟩
  | 84 => ⟨S2x1024, .f32⟩
  | 85 => ⟨S_, .f32⟩
  | 86 => ⟨S2x1024, .f32⟩
  | 87 => ⟨S2x1024, .f32⟩
  | 88 => ⟨S2x1x1024, .f32⟩
  | 89 => ⟨S2x2x1024, .f32⟩
  | 90 => ⟨S2x2x1024, .f32⟩
  | 91 => ⟨S2x2x1024, .f32⟩
  | 92 => ⟨S_, .f32⟩
  | 93 => ⟨S2x1024, .f32⟩
  | 94 => ⟨S2x1x1024, .f32⟩
  | 95 => ⟨S2x2x1024, .f32⟩
  | 96 => ⟨S2x2x1024, .f32⟩
  | 97 => ⟨S2x1x1024, .f32⟩
  | 98 => ⟨S2x1024, .f32⟩
  | 99 => ⟨S16384x1024, .f32⟩
  | 100 => ⟨S16384x1024, .f32⟩
  | 101 => ⟨S_, .f32⟩
  | 102 => ⟨S16384x1024, .f32⟩
  | 103 => ⟨S16384x1024, .f32⟩
  | 104 => ⟨S_, .f32⟩
  | 105 => ⟨S16384x1024, .f32⟩
  | 106 => ⟨S16384x1024, .f32⟩
  | 107 => ⟨S16384x1024, .f32⟩
  | 108 => ⟨S16384x1024, .bf16⟩
  | 109 => ⟨S16384x1024, .f32⟩
  | 110 => ⟨S16384x1024, .f32⟩
  | 111 => ⟨S_, .f32⟩
  | 112 => ⟨S16384x1024, .f32⟩
  | 113 => ⟨S16384x1024, .f32⟩
  | 114 => ⟨S_, .f32⟩
  | 115 => ⟨S16384x1024, .f32⟩
  | 116 => ⟨S16384x1024, .f32⟩
  | 117 => ⟨S16384x1024, .f32⟩
  | 118 => ⟨S16384x8x128, .f32⟩
  | 119 => ⟨S8x16384x128, .f32⟩
  | 120 => ⟨S8x16384x128, .bf16⟩
  | 121 => ⟨S1x1024, .f32⟩
  | 122 => ⟨S1024, .f32⟩
  | 123 => ⟨S_, .f32⟩
  | 124 => ⟨S1024, .f32⟩
  | 125 => ⟨S1024, .f32⟩
  | 126 => ⟨S16384x1024, .f32⟩
  | 127 => ⟨S16384x1024, .f32⟩
  | _ => ⟨S4x4096x1024, .f32⟩

abbrev hbmTy0_1 (i : Nat) : BufTy := match i % 128 with
  | 0 => ⟨S_, .f32⟩
  | 1 => ⟨S16384x1024, .f32⟩
  | 2 => ⟨S16384x1024, .f32⟩
  | 3 => ⟨S_, .f32⟩
  | 4 => ⟨S16384x1024, .f32⟩
  | 5 => ⟨S16384x1024, .f32⟩
  | 6 => ⟨S1x1024, .f32⟩
  | 7 => ⟨S16384x1024, .f32⟩
  | 8 => ⟨S16384x1024, .f32⟩
  | 9 => ⟨S1x1024, .f32⟩
  | 10 => ⟨S16384x1024, .f32⟩
  | 11 => ⟨S16384x1024, .f32⟩
  | 12 => ⟨S16384x1024, .f32⟩
  | 13 => ⟨S_, .f32⟩
  | 14 => ⟨S_, .f32⟩
  | 15 => ⟨S_, .f32⟩
  | 16 => ⟨S16384x1024, .f32⟩
  | 17 => ⟨S16384x1024, .f32⟩
  | 18 => ⟨S16384x8x128, .f32⟩
  | 19 => ⟨S8x16384x128, .f32⟩
  | 20 => ⟨S1x1024, .f32⟩
  | 21 => ⟨S1024, .f32⟩
  | 22 => ⟨S_, .f32⟩
  | 23 => ⟨S1024, .f32⟩
  | 24 => ⟨S1024, .f32⟩
  | 25 => ⟨S16384x1024, .f32⟩
  | 26 => ⟨S16384x1024, .f32⟩
  | 27 => ⟨S_, .f32⟩
  | 28 => ⟨S16384x1024, .f32⟩
  | 29 => ⟨S16384x1024, .f32⟩
  | 30 => ⟨S_, .f32⟩
  | 31 => ⟨S16384x1024, .f32⟩
  | 32 => ⟨S16384x1024, .f32⟩
  | 33 => ⟨S1x1024, .f32⟩
  | 34 => ⟨S16384x1024, .f32⟩
  | 35 => ⟨S16384x1024, .f32⟩
  | 36 => ⟨S1x1024, .f32⟩
  | 37 => ⟨S16384x1024, .f32⟩
  | 38 => ⟨S16384x1024, .f32⟩
  | 39 => ⟨S16384x1024, .f32⟩
  | 40 => ⟨S_, .f32⟩
  | 41 => ⟨S_, .f32⟩
  | 42 => ⟨S_, .f32⟩
  | 43 => ⟨S16384x1024, .f32⟩
  | 44 => ⟨S16384x1024, .f32⟩
  | 45 => ⟨S16384x8x128, .f32⟩
  | 46 => ⟨S8x16384x128, .f32⟩
  | 47 => ⟨S16384x8x128, .f32⟩
  | 48 => ⟨S8x16384x128, .f32⟩
  | 49 => ⟨S8x16384x128, .bf16⟩
  | 50 => ⟨S16384x1024, .f32⟩
  | 51 => ⟨S16384x1024, .f32⟩
  | 52 => ⟨S_, .f32⟩
  | 53 => ⟨S16384x1024, .f32⟩
  | 54 => ⟨S16384x1024, .f32⟩
  | 55 => ⟨S_, .f32⟩
  | 56 => ⟨S16384x1024, .f32⟩
  | 57 => ⟨S16384x1024, .f32⟩
  | 58 => ⟨S16384x1024, .f32⟩
  | 59 => ⟨S16384x8x128, .f32⟩
  | 60 => ⟨S8x16384x128, .f32⟩
  | 61 => ⟨S8x16384x128, .bf16⟩
  | 62 => ⟨S16384x1024, .f32⟩
  | 63 => ⟨S16384x1024, .f32⟩
  | 64 => ⟨S_, .f32⟩
  | 65 => ⟨S16384x1024, .f32⟩
  | 66 => ⟨S16384x1024, .f32⟩
  | 67 => ⟨S_, .f32⟩
  | 68 => ⟨S16384x1024, .f32⟩
  | 69 => ⟨S16384x1024, .f32⟩
  | 70 => ⟨S16384x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c : Ref sig .tc := ⟨.hbm, 53, rfl⟩
abbrev main_call0_v0 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_3 : Ref sig .tc := ⟨.hbm, 83, rfl⟩
abbrev main_v69 : Ref sig .tc := ⟨.hbm, 84, rfl⟩
abbrev main_cst_4 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_5 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_6 : Ref sig .tc := ⟨.hbm, 101, rfl⟩
abbrev main_v84 : Ref sig .tc := ⟨.hbm, 102, rfl⟩
abbrev main_v85 : Ref sig .tc := ⟨.hbm, 103, rfl⟩
abbrev main_cst_7 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_call1_v0 : Ref sig .tc := ⟨.hbm, 109, rfl⟩
abbrev main_call1_v1 : Ref sig .tc := ⟨.hbm, 110, rfl⟩
abbrev main_call1_cst : Ref sig .tc := ⟨.hbm, 111, rfl⟩
abbrev main_call1_v2 : Ref sig .tc := ⟨.hbm, 112, rfl⟩
abbrev main_call1_v3 : Ref sig .tc := ⟨.hbm, 113, rfl⟩
abbrev main_call1_cst_0 : Ref sig .tc := ⟨.hbm, 114, rfl⟩
abbrev main_call1_v4 : Ref sig .tc := ⟨.hbm, 115, rfl⟩
abbrev main_call1_v5 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_8 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_9 : Ref sig .tc := ⟨.hbm, 128, rfl⟩
abbrev main_v100 : Ref sig .tc := ⟨.hbm, 129, rfl⟩
abbrev main_v101 : Ref sig .tc := ⟨.hbm, 130, rfl⟩
abbrev main_cst_10 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_11 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_12 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_13 : Ref sig .tc := ⟨.hbm, 155, rfl⟩
abbrev main_v123 : Ref sig .tc := ⟨.hbm, 156, rfl⟩
abbrev main_v124 : Ref sig .tc := ⟨.hbm, 157, rfl⟩
abbrev main_cst_14 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_15 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_call2_v0 : Ref sig .tc := ⟨.hbm, 178, rfl⟩
abbrev main_call2_v1 : Ref sig .tc := ⟨.hbm, 179, rfl⟩
abbrev main_call2_cst : Ref sig .tc := ⟨.hbm, 180, rfl⟩
abbrev main_call2_v2 : Ref sig .tc := ⟨.hbm, 181, rfl⟩
abbrev main_call2_v3 : Ref sig .tc := ⟨.hbm, 182, rfl⟩
abbrev main_call2_cst_0 : Ref sig .tc := ⟨.hbm, 183, rfl⟩
abbrev main_call2_v4 : Ref sig .tc := ⟨.hbm, 184, rfl⟩
abbrev main_call2_v5 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_16 : Ref sig .tc := ⟨.hbm, 192, rfl⟩
abbrev main_v149 : Ref sig .tc := ⟨.hbm, 193, rfl⟩
abbrev main_v150 : Ref sig .tc := ⟨.hbm, 194, rfl⟩
abbrev main_cst_17 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩

abbrev nD : Nat := 1
abbrev τ : Topo := Topo.v7x

variable {F : FTy → Type} [FloatOps F]
-- ==== FinalPrompt.lean ====
abbrev S8192x1024 : Shape := ⟨2, ![8192, 1024]⟩
abbrev S32x256x1024 : Shape := ⟨3, ![32, 256, 1024]⟩
abbrev S8x6144 : Shape := ⟨2, ![8, 6144]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S32x256x1024, .f32⟩
  | .hbm, ⟨2, _⟩ => ⟨S8x6144, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x6144, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResultPromptIdeal.lean ====
abbrev S8192x1024 : Shape := ⟨2, ![8192, 1024]⟩
abbrev S32x256x1024 : Shape := ⟨3, ![32, 256, 1024]⟩
abbrev S8x6144 : Shape := ⟨2, ![8, 6144]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32x256x1024, .f32⟩
  | .hbm, ⟨2, _⟩ => ⟨S8x6144, .f32⟩
  | .hbm, ⟨3, _⟩ => ⟨S1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FinalSample.lean ====
abbrev S16384x1024 : Shape := ⟨2, ![16384, 1024]⟩
abbrev S4x4096x1024 : Shape := ⟨3, ![4, 4096, 1024]⟩
abbrev S8x6144 : Shape := ⟨2, ![8, 6144]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S8x6144, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x6144, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v18 : Index := Scalar.indexCast v16
  let c5120 : Index := 5120#32
  ![v18.toNat, 5120]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResultSampleIdeal.lean ====
abbrev S16384x1024 : Shape := ⟨2, ![16384, 1024]⟩
abbrev S4x4096x1024 : Shape := ⟨3, ![4, 4096, 1024]⟩
abbrev S8x6144 : Shape := ⟨2, ![8, 6144]⟩
abbrev S1024 : Shape := ⟨1, ![1024]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S8x6144, .f32⟩
  | .hbm, ⟨3, _⟩ => ⟨S1024, .f32⟩
  | .hbm, ⟨4, _⟩ => ⟨S4x4096x1024, .f32⟩
  | .hbm, ⟨5, _⟩ => ⟨S4x1024, .f32⟩
  | .hbm, ⟨6, _⟩ => ⟨S4x1x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Post.lean ====
abbrev S8x16384x128 : Shape := ⟨3, ![8, 16384, 128]⟩
abbrev S16384x1024 : Shape := ⟨2, ![16384, 1024]⟩
abbrev S4x4096x1024 : Shape := ⟨3, ![4, 4096, 1024]⟩
abbrev S8x6144 : Shape := ⟨2, ![8, 6144]⟩
abbrev S1x1024 : Shape := ⟨2, ![1, 1024]⟩
abbrev S1x1024x1024 : Shape := ⟨3, ![1, 1024, 1024]⟩
abbrev S1x1024x16 : Shape := ⟨3, ![1, 1024, 16]⟩
abbrev S1024x1024 : Shape := ⟨2, ![1024, 1024]⟩
abbrev S1024x16 : Shape := ⟨2, ![1024, 16]⟩
abbrev S16x1024 : Shape := ⟨2, ![16, 1024]⟩
abbrev S16384x512 : Shape := ⟨2, ![16384, 512]⟩
abbrev S16x16384 : Shape := ⟨2, ![16, 16384]⟩
abbrev S8x512x128 : Shape := ⟨3, ![8, 512, 128]⟩
abbrev S512x1024 : Shape := ⟨2, ![512, 1024]⟩
abbrev S512x512 : Shape := ⟨2, ![512, 512]⟩
abbrev S16x512 : Shape := ⟨2, ![16, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x128 : Shape := ⟨2, ![1, 128]⟩

abbrev nBuf : Space → Nat
  | .hbm => 22
  | .vmem => 25
  | .smem => 0
  | _ => 0

abbrev bufTy : (tb : Table) → Fin (tcTables nBuf tb) → BufTy
  | .hbm, ⟨0, _⟩ => ⟨S8x16384x128, .bf16⟩
  | .hbm, ⟨1, _⟩ => ⟨S8x16384x128, .bf16⟩
  | .hbm, ⟨2, _⟩ => ⟨S8x16384x128, .bf16⟩
  | .hbm, ⟨3, _⟩ => ⟨S16384x1024, .bf16⟩
  | .hbm, ⟨4, _⟩ => ⟨S16384x1024, .bf16⟩
  | .hbm, ⟨5, _⟩ => ⟨S4x4096x1024, .f32⟩
  | .hbm, ⟨6, _⟩ => ⟨S8x6144, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S1x1024x1024, .f32⟩
  | .hbm, ⟨11, _⟩ => ⟨S1x1024x16, .f32⟩
  | .hbm, ⟨12, _⟩ => ⟨S16384x1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x16, .f32⟩
  | .hbm, ⟨18, _⟩ => ⟨S16x1024, .f32⟩
  | .hbm, ⟨19, _⟩ => ⟨S16384x1024, .f32⟩
  | .hbm, ⟨20, _⟩ => ⟨S16384x512, .i32⟩
  | .hbm, ⟨21, _⟩ => ⟨S16x16384, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x6144, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S16x1024, .f32⟩
  | .local _ .vmem, ⟨18, _⟩ => ⟨S512x1024, .f32⟩
  | .local _ .vmem, ⟨19, _⟩ => ⟨S512x1024, .f32⟩
  | .local _ .vmem, ⟨20, _⟩ => ⟨S512x512, .i32⟩
  | .local _ .vmem, ⟨21, _⟩ => ⟨S512x512, .i32⟩
  | .local _ .vmem, ⟨22, _⟩ => ⟨S16x512, .f32⟩
  | .local _ .vmem, ⟨23, _⟩ => ⟨S16x512, .f32⟩
  | .local _ .vmem, ⟨24, _⟩ => ⟨S512x1024, .bf16⟩
  | _, _ => ⟨S8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [BitOps F]

abbrev grid0 : Pipeline.Grid := ⟨1, ![32], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v257 : Index := Scalar.indexCast v16
  let c2048 : Index := 2048#32
  ![v257.toNat, 2048]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v263 : Index := Scalar.indexCast v16
  let c3072 : Index := 3072#32
  ![v263.toNat, 3072]
def k0_off3 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v265 : Index := Scalar.indexCast v16
  let c4096 : Index := 4096#32
  ![v265.toNat, 4096]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PostIdeal.lean ====
abbrev S8x16384x128 : Shape := ⟨3, ![8, 16384, 128]⟩
abbrev S16384x1024 : Shape := ⟨2, ![16384, 1024]⟩
abbrev S4x4096x1024 : Shape := ⟨3, ![4, 4096, 1024]⟩
abbrev S8x6144 : Shape := ⟨2, ![8, 6144]⟩
abbrev S1x1024 : Shape := ⟨2, ![1, 1024]⟩
abbrev S1x1024x1024 : Shape := ⟨3, ![1, 1024, 1024]⟩
abbrev S1x1024x16 : Shape := ⟨3, ![1, 1024, 16]⟩
abbrev S1024x1024 : Shape := ⟨2, ![1024, 1024]⟩
abbrev S1024x16 : Shape := ⟨2, ![1024, 16]⟩
abbrev S16x1024 : Shape := ⟨2, ![16, 1024]⟩
abbrev S16384x2x512 : Shape := ⟨3, ![16384, 2, 512]⟩
abbrev S16x16384 : Shape := ⟨2, ![16, 16384]⟩
abbrev S16384x1x512 : Shape := ⟨3, ![16384, 1, 512]⟩
abbrev S16384x512 : Shape := ⟨2, ![16384, 512]⟩
abbrev S8x512x128 : Shape := ⟨3, ![8, 512, 128]⟩
abbrev S512x1024 : Shape := ⟨2, ![512, 1024]⟩
abbrev S512x512 : Shape := ⟨2, ![512, 512]⟩
abbrev S512x2x512 : Shape := ⟨3, ![512, 2, 512]⟩
abbrev S512x1x512 : Shape := ⟨3, ![512, 1, 512]⟩
abbrev S16x512 : Shape := ⟨2, ![16, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x128 : Shape := ⟨2, ![1, 128]⟩

abbrev nBuf : Space → Nat
  | .hbm => 22
  | .vmem => 25
  | .smem => 0
  | _ => 0

abbrev bufTy : (tb : Table) → Fin (tcTables nBuf tb) → BufTy
  | .hbm, ⟨0, _⟩ => ⟨S8x16384x128, .bf16⟩
  | .hbm, ⟨1, _⟩ => ⟨S8x16384x128, .bf16⟩
  | .hbm, ⟨2, _⟩ => ⟨S8x16384x128, .bf16⟩
  | .hbm, ⟨3, _⟩ => ⟨S16384x1024, .bf16⟩
  | .hbm, ⟨4, _⟩ => ⟨S16384x1024, .bf16⟩
  | .hbm, ⟨5, _⟩ => ⟨S4x4096x1024, .f32⟩
  | .hbm, ⟨6, _⟩ => ⟨S8x6144, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S1x1024x1024, .f32⟩
  | .hbm, ⟨11, _⟩ => ⟨S1x1024x16, .f32⟩
  | .hbm, ⟨12, _⟩ => ⟨S16384x1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x16, .f32⟩
  | .hbm, ⟨18, _⟩ => ⟨S16x1024, .f32⟩
  | .hbm, ⟨19, _⟩ => ⟨S16384x1024, .f32⟩
  | .hbm, ⟨20, _⟩ => ⟨S16384x2x512, .bf16⟩
  | .hbm, ⟨21, _⟩ => ⟨S16x16384, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x6144, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S16x1024, .f32⟩
  | .local _ .vmem, ⟨18, _⟩ => ⟨S512x1024, .f32⟩
  | .local _ .vmem, ⟨19, _⟩ => ⟨S512x1024, .f32⟩
  | .local _ .vmem, ⟨20, _⟩ => ⟨S512x2x512, .bf16⟩
  | .local _ .vmem, ⟨21, _⟩ => ⟨S512x2x512, .bf16⟩
  | .local _ .vmem, ⟨22, _⟩ => ⟨S16x512, .f32⟩
  | .local _ .vmem, ⟨23, _⟩ => ⟨S16x512, .f32⟩
  | .local _ .vmem, ⟨24, _⟩ => ⟨S512x1024, .bf16⟩
  | _, _ => ⟨S8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v257 : Index := Scalar.indexCast v16
  let c2048 : Index := 2048#32
  ![v257.toNat, 2048]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v263 : Index := Scalar.indexCast v16
  let c3072 : Index := 3072#32
  ![v263.toNat, 3072]
def k0_off3 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let v265 : Index := Scalar.indexCast v16
  let c4096 : Index := 4096#32
  ![v265.toNat, 4096]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeIdeal.lean ====
abbrev S8x16384x128 : Shape := ⟨3, ![8, 16384, 128]⟩
abbrev S16384x1024 : Shape := ⟨2, ![16384, 1024]⟩
abbrev S4x4096x1024 : Shape := ⟨3, ![4, 4096, 1024]⟩
abbrev S8x6144 : Shape := ⟨2, ![8, 6144]⟩
abbrev S1x1024 : Shape := ⟨2, ![1, 1024]⟩
abbrev S1x1024x1024 : Shape := ⟨3, ![1, 1024, 1024]⟩
abbrev S1x1024x16 : Shape := ⟨3, ![1, 1024, 16]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1024 : Shape := ⟨1, ![1024]⟩
abbrev S1024x1024 : Shape := ⟨2, ![1024, 1024]⟩
abbrev S4x1024 : Shape := ⟨2, ![4, 1024]⟩
abbrev S4x1x1024 : Shape := ⟨3, ![4, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x16384x128, .bf16⟩
  | .hbm, ⟨1, _⟩ => ⟨S8x16384x128, .bf16⟩
  | .hbm, ⟨2, _⟩ => ⟨S8x16384x128, .bf16⟩
  | .hbm, ⟨3, _⟩ => ⟨S16384x1024, .bf16⟩
  | .hbm, ⟨4, _⟩ => ⟨S16384x1024, .bf16⟩
  | .hbm, ⟨5, _⟩ => ⟨S4x4096x1024, .f32⟩
  | .hbm, ⟨6, _⟩ => ⟨S8x6144, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S1x1024x1024, .f32⟩
  | .hbm, ⟨11, _⟩ => ⟨S1x1024x16, .f32⟩
  | .hbm, ⟨12, _⟩ => ⟨S8x16384x128, .f32⟩
  | .hbm, ⟨13, _⟩ => ⟨S16384x8x128, .f32⟩
  | .hbm, ⟨14, _⟩ => ⟨S8x16384x128, .f32⟩
  | .hbm, ⟨15, _⟩ => ⟨S16384x8x128, .f32⟩
  | .hbm, ⟨16, _⟩ => ⟨S16384x8x128, .f32⟩
  | .hbm, ⟨17, _⟩ => ⟨S16384x8x128, .f32⟩
  | .hbm, ⟨18, _⟩ => ⟨S_, .f32⟩
  | .hbm, ⟨19, _⟩ => ⟨S16384x8, .f32⟩
  | .hbm, ⟨20, _⟩ => ⟨S16384x8x1, .f32⟩
  | .hbm, ⟨21, _⟩ => ⟨S_, .f32⟩
  | .hbm, ⟨22, _⟩ => ⟨S16384x8x1, .f32⟩
  | .hbm, ⟨23, _⟩ => ⟨S16384x8x1, .f32⟩
  | .hbm, ⟨24, _⟩ => ⟨S_, .f32⟩
  | .hbm, ⟨25, _⟩ => ⟨S16384x8x1, .f32⟩
  | .hbm, ⟨26, _⟩ => ⟨S16384x8x1, .f32⟩
  | .hbm, ⟨27, _⟩ => ⟨S16384x8x1, .f32⟩
  | .hbm, ⟨28, _⟩ => ⟨S16384x8x128, .f32⟩
  | .hbm, ⟨29, _⟩ => ⟨S16384x8x128, .f32⟩
  | .hbm, ⟨30, _⟩ => ⟨S16384x1024, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S8x16384x128, .f32⟩
  | .hbm, ⟨36, _⟩ => ⟨S16384x8x128, .f32⟩
  | .hbm, ⟨37, _⟩ => ⟨S16384x1024, .f32⟩
  | .hbm, ⟨38, _⟩ => ⟨S16384x1024, .f32⟩
  | .hbm, ⟨39, _⟩ => ⟨S1024x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S1024x1024, .f32⟩
  | .hbm, ⟨46, _⟩ => ⟨S16384x1024, .f32⟩
  | .hbm, ⟨47, _⟩ => ⟨S4x4096x1024, .f32⟩
  | .hbm, ⟨48, _⟩ => ⟨S4x1024, .f32⟩
  | .hbm, ⟨49, _⟩ => ⟨S4x1x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S16384x1024, .f32⟩
  | _, _ => ⟨S8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Proof.Model.lean ====
/- THE KERNEL'S GRID POINT, WRITTEN ONCE PER STAGE.  A grid point works on one batch row: 8 heads, two directions, four
   chunks of 64 tokens.  Chunk by chunk ("level" by level) it prepares operands (`pre…`), takes scores (`score`), and
   advances the state (`outRow`, `newState`).  This module names those stages as functions of the vectors they read, and
   the lists of pieces that the stages of all levels leave in the scratch and output buffers. -/
module

public import proofs.«01_k».proof.Proof.Gen.KernelIdeal.Value

@[expose] public section

set_option maxRecDepth 16384

noncomputable section

namespace Cert.Model

open Cert.KernelIdeal Cert.KernelIdeal.Gen Idealize.ShloMosaic Idealize.ShloMosaic.TcCoe

variable {F : FTy → Type} [FloatOps F]

/-! ## The stages -/

/-- The number of the token of each row of a chunk. -/
abbrev tpos : IVec S64x128 32 := iota .tc S64x128 32 [0] iota_S64x128_d0_w32

/-- One doubling round of the forward prefix sum: add the row `s` above, where there is one. -/
def up (s : BitVec 32) (b : FVec F S64x128 .f32) : FVec F S64x128 .f32 :=
  addf b (select (cmpi .sge tpos (broadcast S64x128 s)) (dynamicRotate 0 s none b rotates_S64x128_d0)
    (broadcast S64x128 (Scalar.ofBits .f32 0x00000000#32)))

/-- One doubling round of the backward suffix sum: add the row `64 - s` below, where there is one. -/
def down (s : BitVec 32) (b : FVec F S64x128 .f32) : FVec F S64x128 .f32 :=
  addf b (select (cmpi .slt tpos (broadcast S64x128 s)) (dynamicRotate 0 s none b rotates_S64x128_d0)
    (broadcast S64x128 (Scalar.ofBits .f32 0x00000000#32)))

/-- Inclusive prefix sums down the rows of a chunk. -/
def cumF (l : FVec F S64x128 .f32) : FVec F S64x128 .f32 := up 32#32 (up 16#32 (up 8#32 (up 4#32 (up 2#32 (up 1#32 l)))))

/-- Inclusive suffix sums up the rows of a chunk. -/
def cumB (l : FVec F S64x128 .f32) : FVec F S64x128 .f32 :=
  down 32#32 (down 48#32 (down 56#32 (down 60#32 (down 62#32 (down 63#32 l)))))

/-- The running sums of the log gates in direction `dd` (0 forward, 1 backward). -/
def cum (dd : ℕ) (l : FVec F S64x128 .f32) : FVec F S64x128 .f32 := Nat.rec (cumF l) (fun _ _ => cumB l) dd

/-- Half of the whole chunk's sum, the sum's value at the chunk's far row. -/
def half (dd : ℕ) (l : FVec F S64x128 .f32) : FVec F S1x128 .f32 :=
  mulf (broadcast S1x128 (Scalar.ofBits .f32 0x3F000000#32))
    (Nat.rec (extractStridedSlice S1x128 ![63, 0] (cumF l) slices_S64x128_o63_0_S1x128)
      (fun _ _ => extractStridedSlice S1x128 ![0, 0] (cumB l) slices_S64x128_o0_0_S1x128) dd)

/-- Two to the half sum. -/
def eHalf (dd : ℕ) (l : FVec F S64x128 .f32) : FVec F S1x128 .f32 := exp2 (half dd l)

/-- A row vector repeated down the chunk. -/
def rows (r : FVec F S1x128 .f32) : FVec F S64x128 .f32 := broadcastTo S64x128 r broadcasts_S1x128_S64x128

/-- The scaled queries. -/
def qs (dd : ℕ) (l : FVec F S64x128 .f32) (q : FVec F S64x128 .bf16) : FVec F S64x128 .f32 :=
  mulf (extf .f32 q bitsLt_bf16_f32) (exp2 (subf (cum dd l) (rows (half dd l))))

/-- The scaled keys, one minus the gate. -/
def ks (dd : ℕ) (l : FVec F S64x128 .f32) : FVec F S64x128 .f32 :=
  mulf (subf (broadcast S64x128 (Scalar.ofBits .f32 0x3F800000#32)) (exp2 l)) (exp2 (subf (rows (half dd l)) (cum dd l)))

/-- A chunk's vector as the block a scratch slot holds. -/
def put {φ : FTy} (a : FVec F S64x128 φ) : FVec F S1x1x64x128 φ := shapeCast S1x1x64x128 a shapeCasts_S64x128_S1x1x64x128

/-- A scratch slot's block as a chunk's vector. -/
def get {φ : FTy} (a : FVec F S1x1x64x128 φ) : FVec F S64x128 φ := shapeCast S64x128 a shapeCasts_S1x1x64x128_S64x128

def preQs (dd : ℕ) (l : FVec F S1x1x64x128 .f32) (q : FVec F S1x1x64x128 .bf16) : FVec F S1x1x64x128 .bf16 :=
  put (truncf .bf16 (qs dd (get l) (get q)) bitsLt_bf16_f32)
def preKs (dd : ℕ) (l : FVec F S1x1x64x128 .f32) : FVec F S1x1x64x128 .bf16 :=
  put (truncf .bf16 (ks dd (get l)) bitsLt_bf16_f32)
def preQe (dd : ℕ) (l : FVec F S1x1x64x128 .f32) (q : FVec F S1x1x64x128 .bf16) : FVec F S1x1x64x128 .bf16 :=
  put (truncf .bf16 (mulf (qs dd (get l) (get q)) (rows (eHalf dd (get l)))) bitsLt_bf16_f32)
def preKe (dd : ℕ) (l : FVec F S1x1x64x128 .f32) : FVec F S1x1x64x128 .bf16 :=
  put (truncf .bf16 (mulf (ks dd (get l)) (rows (eHalf dd (get l)))) bitsLt_bf16_f32)
def preEb (dd : ℕ) (l : FVec F S1x1x64x128 .f32) : FVec F S1x1x1x128 .f32 :=
  shapeCast S1x1x1x128 (mulf (eHalf dd (get l)) (eHalf dd (get l))) shapeCasts_S1x128_S1x1x1x128

/-- Which scores a direction keeps: a query reads its own token and the ones before it in the direction's order. -/
def keep (dd : ℕ) : IVec S64x64 1 :=
  Nat.rec (cmpi .sge (iota .tc S64x64 32 [0] iota_S64x64_d0_w32) (iota .tc S64x64 32 [1] iota_S64x64_d1_w32))
    (fun _ _ => cmpi .sle (iota .tc S64x64 32 [0] iota_S64x64_d0_w32) (iota .tc S64x64 32 [1] iota_S64x64_d1_w32)) dd

/-- The masked scores of a chunk. -/
def score (dd : ℕ) (q k : FVec F S1x1x64x128 .bf16) : FVec F S1x1x64x64 .bf16 :=
  shapeCast S1x1x64x64 (truncf .bf16 (select (keep dd)
    (matmul dot_S64x128_S64x128_S64x64_1_1_0_0_n_n none (get q) (get k) (constant S64x64 .f32 0x00000000#32))
    (broadcast S64x64 (Scalar.ofBits .f32 0x00000000#32))) bitsLt_bf16_f32) shapeCasts_S64x64_S1x1x64x64

/-- A chunk's outputs: from the state before the chunk, and from the chunk's own tokens. -/
def outRow (qe : FVec F S1x1x64x128 .bf16) (st : FVec F S1x1x128x128 .f32) (at_ : FVec F S1x1x64x64 .bf16)
    (v : FVec F S1x1x64x128 .bf16) : FVec F S1x1x64x128 .bf16 :=
  put (truncf .bf16 (addf
    (matmul dot_S64x128_S128x128_S64x128_1_1_0_0_n_n none (get qe)
      (truncf .bf16 (shapeCast S128x128 st shapeCasts_S1x1x128x128_S128x128) bitsLt_bf16_f32) (constant S64x128 .f32 0x00000000#32))
    (matmul dot_S64x64_S64x128_S64x128_1_0_0_1_n_n none (shapeCast S64x64 at_ shapeCasts_S1x1x64x64_S64x64) (get v)
      (constant S64x128 .f32 0x00000000#32))) bitsLt_bf16_f32)

/-- The state after a chunk. -/
def newState (st : FVec F S1x1x128x128 .f32) (eb : FVec F S1x1x1x128 .f32) (v ke : FVec F S1x1x64x128 .bf16) :
    FVec F S1x1x128x128 .f32 :=
  shapeCast S1x1x128x128 (addf
    (mulf (shapeCast S128x128 st shapeCasts_S1x1x128x128_S128x128)
      (broadcastTo S128x128 (shapeCast S1x128 eb shapeCasts_S1x1x1x128_S1x128) broadcasts_S1x128_S128x128))
    (matmul dot_S64x128_S64x128_S128x128_0_0_1_1_n_n none (get v) (get ke) (constant S128x128 .f32 0x00000000#32)))
    shapeCasts_S128x128_S1x1x128x128

/-- The state as it is written out, transposed. -/
def outState (st : FVec F S1x1x128x128 .f32) : FVec F S1x1x1x128x128 .f32 :=
  shapeCast S1x1x1x128x128 (transpose S128x128 [1, 0] (shapeCast S128x128 st shapeCasts_S1x1x128x128_S128x128)
    transposes_S128x128_p1_0_S128x128) shapeCasts_S128x128_S1x1x1x128x128

/-- The state before the first chunk. -/
def zeroState : FVec F S2x8x128x128 .f32 :=
  shapeCast S2x8x128x128 (broadcast S2x8x128x128 (Scalar.ofBits .f32 0x00000000#32)) shapeCasts_S2x8x128x128_S2x8x128x128

/-! ## Where the pieces lie -/

/-- The slot of direction `dd`, head `h` in a scratch of chunk vectors, -/
def slot (dd h : ℕ) : Rect S2x8x64x128 := Rect.unit ![dd % 2, h % 8, 0, 0] S1x1x64x128.size (by
  intro a; fin_cases a <;> simp [Shape.size] <;> omega)
/-- of chunk decays, -/
def slotE (dd h : ℕ) : Rect S2x8x1x128 := Rect.unit ![dd % 2, h % 8, 0, 0] S1x1x1x128.size (by
  intro a; fin_cases a <;> simp [Shape.size] <;> omega)
/-- of chunk scores, -/
def slotA (dd h : ℕ) : Rect S2x8x64x64 := Rect.unit ![dd % 2, h % 8, 0, 0] S1x1x64x64.size (by
  intro a; fin_cases a <;> simp [Shape.size] <;> omega)
/-- of states. -/
def slotS (dd h : ℕ) : Rect S2x8x128x128 := Rect.unit ![dd % 2, h % 8, 0, 0] S1x1x128x128.size (by
  intro a; fin_cases a <;> simp [Shape.size] <;> omega)
/-- Chunk `c` of head `h` in a block of tokens, -/
def tok (h c : ℕ) : Rect S8x1x256x128 := Rect.unit ![h % 8, 0, 64 * (c % 4), 0] S1x1x64x128.size (by
  intro a; fin_cases a <;> simp [Shape.size] <;> omega)
/-- and the slot of direction `dd`, head `h` in the block of final states. -/
def slotO (dd h : ℕ) : Rect S1x2x8x128x128 := Rect.unit ![0, dd % 2, h % 8, 0, 0] S1x1x1x128x128.size (by
  intro a; fin_cases a <;> simp [Shape.size] <;> omega)

/-! ## The pieces, stage by stage

Item `s` of a list over levels is level `s / 16`, direction `s / 8 % 2`, head `s % 8`.  The operands of even and of odd
levels lie in two sets of scratch buffers. -/

/-- What a grid point reads and through which buffers: the queries, log gates and values by direction, head and chunk;
    the scratch buffers' views (the operands' by set). -/
structure Ctx (F : FTy → Type) [FloatOps F] where
  q : ℕ → ℕ → ℕ → FVec F S1x1x64x128 .bf16
  l : ℕ → ℕ → ℕ → FVec F S1x1x64x128 .f32
  v : ℕ → ℕ → ℕ → FVec F S1x1x64x128 .bf16
  st : View sig .tc .vmem S2x8x128x128 .f32
  at_ : View sig .tc .vmem S2x8x64x64 .bf16
  qe : ℕ → View sig .tc .vmem S2x8x64x128 .bf16
  qs : ℕ → View sig .tc .vmem S2x8x64x128 .bf16
  ks : ℕ → View sig .tc .vmem S2x8x64x128 .bf16
  ke : ℕ → View sig .tc .vmem S2x8x64x128 .bf16
  eb : ℕ → View sig .tc .vmem S2x8x1x128 .f32

/-- The chunk that direction `dd` handles at level `n`. -/
def ch (dd n : ℕ) : ℕ := Nat.rec n (fun _ _ => 3 - n) dd

/-- The first `k` items of the operand set of parity `p`, last first. -/
def setL {A : Type} (f : ℕ → ℕ → ℕ → A) (p k : ℕ) : List A :=
  Nat.rec [] (fun s L => f (p + 2 * (s / 16)) (s / 8 % 2) (s % 8) :: L) k

/-- An operand set once level `n` is prepared. -/
def lev {A : Type} (f : ℕ → ℕ → ℕ → A) (n : ℕ) : List A := setL f (n % 2) (16 * (n / 2 + 1))

variable (X : Ctx F)

def pQe (n dd h : ℕ) : View.Piece (Elt F) S2x8x64x128 .bf16 := ⟨slot dd h, preQe dd (X.l dd h (ch dd n)) (X.q dd h (ch dd n))⟩
def pQs (n dd h : ℕ) : View.Piece (Elt F) S2x8x64x128 .bf16 := ⟨slot dd h, preQs dd (X.l dd h (ch dd n)) (X.q dd h (ch dd n))⟩
def pKs (n dd h : ℕ) : View.Piece (Elt F) S2x8x64x128 .bf16 := ⟨slot dd h, preKs dd (X.l dd h (ch dd n))⟩
def pKe (n dd h : ℕ) : View.Piece (Elt F) S2x8x64x128 .bf16 := ⟨slot dd h, preKe dd (X.l dd h (ch dd n))⟩
def pEb (n dd h : ℕ) : View.Piece (Elt F) S2x8x1x128 .f32 := ⟨slotE dd h, preEb dd (X.l dd h (ch dd n))⟩

/-- The operands as level `n` reads them back. -/
def rQe (n dd h : ℕ) : FVec F S1x1x64x128 .bf16 := (X.qe (n % 2)).readCov (lev (pQe X) n) (slot dd h).toLoadRect
def rQs (n dd h : ℕ) : FVec F S1x1x64x128 .bf16 := (X.qs (n % 2)).readCov (lev (pQs X) n) (slot dd h).toLoadRect
def rKs (n dd h : ℕ) : FVec F S1x1x64x128 .bf16 := (X.ks (n % 2)).readCov (lev (pKs X) n) (slot dd h).toLoadRect
def rKe (n dd h : ℕ) : FVec F S1x1x64x128 .bf16 := (X.ke (n % 2)).readCov (lev (pKe X) n) (slot dd h).toLoadRect
def rEb (n dd h : ℕ) : FVec F S1x1x1x128 .f32 := (X.eb (n % 2)).readCov (lev (pEb X) n) (slotE dd h).toLoadRect

/-- The score pieces after `k` items, -/
def atL (k : ℕ) : List (View.Piece (Elt F) S2x8x64x64 .bf16) :=
  Nat.rec [] (fun s L => ⟨slotA (s / 8 % 2) (s % 8), score (s / 8 % 2) (rQs X (s / 16) (s / 8 % 2) (s % 8)) (rKs X (s / 16) (s / 8 % 2) (s % 8))⟩ :: L) k

/-- and the scores as level `n` reads them back. -/
def rAt (n dd h : ℕ) : FVec F S1x1x64x64 .bf16 := X.at_.readCov (atL X (16 * (n + 1))) (slotA dd h).toLoadRect

/-- The state pieces after `k` items: the zero fill, then one piece per item made from the one before it in its slot. -/
def stL (k : ℕ) : List (View.Piece (Elt F) S2x8x128x128 .f32) :=
  Nat.rec [⟨Rect.unit ![0, 0, 0, 0] S2x8x128x128.size (by intro a; fin_cases a <;> simp [Shape.size]), zeroState⟩]
    (fun s L => ⟨slotS (s / 8 % 2) (s % 8), newState (X.st.readCov L (slotS (s / 8 % 2) (s % 8)).toLoadRect)
      (rEb X (s / 16) (s / 8 % 2) (s % 8)) (X.v (s / 8 % 2) (s % 8) (ch (s / 8 % 2) (s / 16))) (rKe X (s / 16) (s / 8 % 2) (s % 8))⟩ :: L) k

/-- The state as read back after `k` items. -/
def rSt (k dd h : ℕ) : FVec F S1x1x128x128 .f32 := X.st.readCov (stL X k) (slotS dd h).toLoadRect

/-- The output pieces of direction `dd` after `k` of its items (level `s / 8`, head `s % 8`), -/
def outL (dd k : ℕ) : List (View.Piece (Elt F) S8x1x256x128 .bf16) :=
  Nat.rec [] (fun s L => ⟨tok (s % 8) (ch dd (s / 8)), outRow (rQe X (s / 8) dd (s % 8)) (rSt X (16 * (s / 8) + 8 * dd + s % 8) dd (s % 8))
    (rAt X (s / 8) dd (s % 8)) (X.v dd (s % 8) (ch dd (s / 8)))⟩ :: L) k

/-- and the pieces of the final states. -/
def finL (k : ℕ) : List (View.Piece (Elt F) S1x2x8x128x128 .f32) :=
  Nat.rec [] (fun s L => ⟨slotO (s / 8) (s % 8), outState (rSt X 64 (s / 8) (s % 8))⟩ :: L) k

end Cert.Model

end
-- ==== Proof.Lookup.lean ====
/- READING THE PIECES BACK.  A slot read back holds the last piece written to it, whatever was written to the other
   slots since.  So a level's operands, scores and outputs are functions of the level's own inputs and of the state that
   the level before left (`states`). -/
module

public import proofs.«01_k».proof.Proof.Model

@[expose] public section

set_option maxRecDepth 16384

noncomputable section

namespace Cert.Model

open Cert.KernelIdeal Cert.KernelIdeal.Gen Idealize.ShloMosaic Idealize.ShloMosaic.TcCoe

variable {F : FTy → Type} [FloatOps F]

section Lists

variable {S : Shape} {e : EltTy} (v : View sig .tc .vmem S e)

/-- Two rectangles of unit stride that differ on one axis by at least the extent there do not meet. -/
theorem unit_disjoint {o o' z : Fin S.rank → ℕ} {h h'} (a : Fin S.rank) (ha : o a + z a ≤ o' a ∨ o' a + z a ≤ o a) :
    Disjoint (Rect.unit o z h).set (Rect.unit o' z h').set := by
  rw [Finset.disjoint_left]
  intro y hy hy'
  have h1 := Rect.mem_set_unit.mp hy a
  have h2 := Rect.mem_set_unit.mp hy' a
  omega

/-- Slots read by direction and head, in a list whose item `s` writes slot `s / 8 % 2`, `s % 8`: a slot holds its item of
    level `n` from that item on until the slot's next item. -/
theorem read_item (R : ℕ → ℕ → Rect S)
    (hR : ∀ a b a' b', a < 2 → b < 8 → a' < 2 → b' < 8 → (a ≠ a' ∨ b ≠ b') → Disjoint (R a b).set (R a' b').set)
    (L : ℕ → List (View.Piece (Elt F) S e)) (w : ∀ _ a b : ℕ, (R a b).shape.Idx → Elt F e)
    (hL : ∀ s, L (s + 1) = ⟨R (s / 8 % 2) (s % 8), w (s / 16) (s / 8 % 2) (s % 8)⟩ :: L s)
    {n a b : ℕ} (ha : a < 2) (hb : b < 8) :
    ∀ k, 16 * n + 8 * a + b < k → k ≤ 16 * (n + 1) + 8 * a + b → v.readCov (L k) (R a b).toLoadRect = w n a b
  | k + 1, h1, h2 => by
    rw [hL]
    by_cases hk : k = 16 * n + 8 * a + b
    · have e1 : k / 16 = n := by omega
      have e2 : k / 8 % 2 = a := by omega
      have e3 : k % 8 = b := by omega
      rw [e1, e2, e3]
      exact View.readCov_cons_toLoadRect v _ _ _
    · rw [View.readCov_cons_of_disjoint v ⟨R (k / 8 % 2) (k % 8), w (k / 16) (k / 8 % 2) (k % 8)⟩ (L k) (R a b).toLoadRect
        (hR (k / 8 % 2) (k % 8) a b (by omega) (by omega) ha hb (by omega))]
      exact read_item R hR L w hL ha hb k (by omega) (by omega)

/-- Before its first item a slot holds what the list began with. -/
theorem read_before (R : ℕ → ℕ → Rect S)
    (hR : ∀ a b a' b', a < 2 → b < 8 → a' < 2 → b' < 8 → (a ≠ a' ∨ b ≠ b') → Disjoint (R a b).set (R a' b').set)
    (L : ℕ → List (View.Piece (Elt F) S e)) (w : ∀ _ a b : ℕ, (R a b).shape.Idx → Elt F e)
    (hL : ∀ s, L (s + 1) = ⟨R (s / 8 % 2) (s % 8), w (s / 16) (s / 8 % 2) (s % 8)⟩ :: L s)
    {a b : ℕ} (ha : a < 2) (hb : b < 8) :
    ∀ k, k ≤ 8 * a + b → v.readCov (L k) (R a b).toLoadRect = v.readCov (L 0) (R a b).toLoadRect
  | 0, _ => rfl
  | k + 1, h => by
    rw [hL, View.readCov_cons_of_disjoint v ⟨R (k / 8 % 2) (k % 8), w (k / 16) (k / 8 % 2) (k % 8)⟩ (L k) (R a b).toLoadRect
      (hR (k / 8 % 2) (k % 8) a b (by omega) (by omega) ha hb (by omega))]
    exact read_before R hR L w hL ha hb k (by omega)

/-- The contents that a list leaves whose item `s` writes rectangle `s / 8`, `s % 8`: item by item. -/
theorem canon_item (N : ℕ) (R : ℕ → ℕ → Rect S)
    (hR : ∀ a b a' b', a < N → b < 8 → a' < N → b' < 8 → (a ≠ a' ∨ b ≠ b') → Disjoint (R a b).set (R a' b').set)
    (L : ℕ → List (View.Piece (Elt F) S e)) (w : ∀ a b : ℕ, (R a b).shape.Idx → Elt F e)
    (hL : ∀ s, L (s + 1) = ⟨R (s / 8) (s % 8), w (s / 8) (s % 8)⟩ :: L s)
    {a b : ℕ} (ha : a < N) (hb : b < 8) (j : (R a b).shape.Idx) :
    ∀ k, k ≤ 8 * N → 8 * a + b < k → View.canon (L k) ((R a b).emb j) = w a b j
  | k + 1, h1, h2 => by
    rw [hL]
    by_cases hk : k = 8 * a + b
    · have e1 : k / 8 = a := by omega
      have e2 : k % 8 = b := by omega
      rw [e1, e2]
      exact View.canon_cons_emb _ _ _ j
    · rw [View.canon_cons_of_not_mem]
      · exact canon_item N R hR L w hL ha hb j k (by omega) (by omega)
      · exact Finset.disjoint_right.mp (hR (k / 8) (k % 8) a b (by omega) (by omega) ha hb (by omega)) ((R a b).idx_mem j)

end Lists

theorem slot_disjoint (a b a' b' : ℕ) (ha : a < 2) (hb : b < 8) (ha' : a' < 2) (hb' : b' < 8) (h : a ≠ a' ∨ b ≠ b') :
    Disjoint (slot a b).set (slot a' b').set := by
  by_cases h0 : a = a'
  · exact unit_disjoint 1 (by simp; omega)
  · exact unit_disjoint 0 (by simp; omega)
theorem slotE_disjoint (a b a' b' : ℕ) (ha : a < 2) (hb : b < 8) (ha' : a' < 2) (hb' : b' < 8) (h : a ≠ a' ∨ b ≠ b') :
    Disjoint (slotE a b).set (slotE a' b').set := by
  by_cases h0 : a = a'
  · exact unit_disjoint 1 (by simp; omega)
  · exact unit_disjoint 0 (by simp; omega)
theorem slotA_disjoint (a b a' b' : ℕ) (ha : a < 2) (hb : b < 8) (ha' : a' < 2) (hb' : b' < 8) (h : a ≠ a' ∨ b ≠ b') :
    Disjoint (slotA a b).set (slotA a' b').set := by
  by_cases h0 : a = a'
  · exact unit_disjoint 1 (by simp; omega)
  · exact unit_disjoint 0 (by simp; omega)
theorem slotS_disjoint (a b a' b' : ℕ) (ha : a < 2) (hb : b < 8) (ha' : a' < 2) (hb' : b' < 8) (h : a ≠ a' ∨ b ≠ b') :
    Disjoint (slotS a b).set (slotS a' b').set := by
  by_cases h0 : a = a'
  · exact unit_disjoint 1 (by simp; omega)
  · exact unit_disjoint 0 (by simp; omega)
theorem slotO_disjoint (a b a' b' : ℕ) (ha : a < 2) (hb : b < 8) (ha' : a' < 2) (hb' : b' < 8) (h : a ≠ a' ∨ b ≠ b') :
    Disjoint (slotO a b).set (slotO a' b').set := by
  by_cases h0 : a = a'
  · exact unit_disjoint 2 (by simp; omega)
  · exact unit_disjoint 1 (by simp; omega)

/-- The chunk that a direction handles at a level, by direction. -/
theorem ch_zero (n : ℕ) : ch 0 n = n := rfl
theorem ch_one (n : ℕ) : ch 1 n = 3 - n := rfl

theorem tok_disjoint {dd : ℕ} (hd : dd < 2) (a b a' b' : ℕ) (ha : a < 4) (hb : b < 8) (ha' : a' < 4) (hb' : b' < 8)
    (h : a ≠ a' ∨ b ≠ b') : Disjoint (tok b (ch dd a)).set (tok b' (ch dd a')).set := by
  obtain rfl | rfl : dd = 0 ∨ dd = 1 := by omega
  all_goals
    by_cases h0 : b = b'
    · exact unit_disjoint 2 (by simp [ch_zero, ch_one]; omega)
    · exact unit_disjoint 0 (by simp; omega)

variable (X : Ctx F)

/-- An operand set once level `n` is prepared holds level `n`'s operands. -/
theorem read_lev {S : Shape} {e : EltTy} (v : View sig .tc .vmem S e) (R : ℕ → ℕ → Rect S)
    (hR : ∀ a b a' b', a < 2 → b < 8 → a' < 2 → b' < 8 → (a ≠ a' ∨ b ≠ b') → Disjoint (R a b).set (R a' b').set)
    (f : ℕ → ℕ → ℕ → View.Piece (Elt F) S e) (w : ∀ _ a b : ℕ, (R a b).shape.Idx → Elt F e)
    (hf : ∀ n a b, f n a b = ⟨R a b, w n a b⟩) {n a b : ℕ} (ha : a < 2) (hb : b < 8) :
    v.readCov (lev f n) (R a b).toLoadRect = w n a b := by
  have h := read_item v R hR (fun k => setL f (n % 2) k) (fun m a b => w (n % 2 + 2 * m) a b)
    (fun s => by rw [← hf]; rfl) (n := n / 2) ha hb (16 * (n / 2 + 1)) (by omega) (by omega)
  have e : n % 2 + 2 * (n / 2) = n := by omega
  simp only [e] at h
  exact h

section Levels

variable {n a b : ℕ} (ha : a < 2) (hb : b < 8)
include ha hb

theorem rQe_eq : rQe X n a b = preQe a (X.l a b (ch a n)) (X.q a b (ch a n)) :=
  read_lev (X.qe (n % 2)) slot slot_disjoint (pQe X) (fun n a b => preQe a (X.l a b (ch a n)) (X.q a b (ch a n))) (fun _ _ _ => rfl) ha hb
theorem rQs_eq : rQs X n a b = preQs a (X.l a b (ch a n)) (X.q a b (ch a n)) :=
  read_lev (X.qs (n % 2)) slot slot_disjoint (pQs X) (fun n a b => preQs a (X.l a b (ch a n)) (X.q a b (ch a n))) (fun _ _ _ => rfl) ha hb
theorem rKs_eq : rKs X n a b = preKs a (X.l a b (ch a n)) :=
  read_lev (X.ks (n % 2)) slot slot_disjoint (pKs X) (fun n a b => preKs a (X.l a b (ch a n))) (fun _ _ _ => rfl) ha hb
theorem rKe_eq : rKe X n a b = preKe a (X.l a b (ch a n)) :=
  read_lev (X.ke (n % 2)) slot slot_disjoint (pKe X) (fun n a b => preKe a (X.l a b (ch a n))) (fun _ _ _ => rfl) ha hb
theorem rEb_eq : rEb X n a b = preEb a (X.l a b (ch a n)) :=
  read_lev (X.eb (n % 2)) slotE slotE_disjoint (pEb X) (fun n a b => preEb a (X.l a b (ch a n))) (fun _ _ _ => rfl) ha hb
theorem rAt_eq : rAt X n a b = score a (rQs X n a b) (rKs X n a b) :=
  read_item X.at_ slotA slotA_disjoint (atL X) (fun n a b => score a (rQs X n a b) (rKs X n a b)) (fun s => rfl) ha hb _
    (by omega) (by omega)

/-- The state of direction `a`, head `b` after `n` levels. -/
def states (X : Ctx F) (a b : ℕ) : ℕ → FVec F S1x1x128x128 .f32
  | 0 => fun i => zeroState ((slotS a b).idx i)
  | n + 1 => newState (states X a b n) (preEb a (X.l a b (ch a n))) (X.v a b (ch a n)) (preKe a (X.l a b (ch a n)))

/-- The new state of an item of level `n`, as the list of pieces has it. -/
def stItem (X : Ctx F) (n a b : ℕ) : FVec F S1x1x128x128 .f32 :=
  newState (rSt X (16 * n + 8 * a + b) a b) (rEb X n a b) (X.v a b (ch a n)) (rKe X n a b)

omit ha hb in
theorem stL_succ (s : ℕ) : stL X (s + 1) = ⟨slotS (s / 8 % 2) (s % 8), stItem X (s / 16) (s / 8 % 2) (s % 8)⟩ :: stL X s := by
  unfold stItem rSt
  rw [show 16 * (s / 16) + 8 * (s / 8 % 2) + s % 8 = s by omega]
  rfl

/-- What a level's item reads of the state is the state after the levels before; -/
theorem rSt_item : ∀ n, rSt X (16 * n + 8 * a + b) a b = states X a b n
  | 0 => by
    refine (read_before X.st slotS slotS_disjoint (stL X) (stItem X) (stL_succ X) ha hb _ (by omega)).trans ?_
    rw [View.readCov_eq_canon']
    funext i
    exact congrFun (View.canon_unit_zero (S := S2x8x128x128) (Val := Elt F) (e := .f32) (off := ![0, 0, 0, 0])
      (by funext a; fin_cases a <;> rfl) _ zeroState) ((slotS a b).idx i)
  | n + 1 => by
    refine (read_item X.st slotS slotS_disjoint (stL X) (stItem X) (stL_succ X) ha hb (n := n) _ (by omega) (by omega)).trans ?_
    unfold stItem
    rw [rSt_item n, rEb_eq X ha hb, rKe_eq X ha hb]
    rfl

/-- and after the last level's last item every slot holds the state after all four levels. -/
theorem rSt_last : rSt X 64 a b = states X a b 4 := by
  refine (read_item X.st slotS slotS_disjoint (stL X) (stItem X) (stL_succ X) ha hb (n := 3) _ (by omega) (by omega)).trans ?_
  unfold stItem
  rw [rSt_item X ha hb 3, rEb_eq X ha hb, rKe_eq X ha hb]
  rfl

/-- A level's outputs from its own inputs and the state before it. -/
def outs (X : Ctx F) (n a b : ℕ) : FVec F S1x1x64x128 .bf16 :=
  outRow (preQe a (X.l a b (ch a n)) (X.q a b (ch a n))) (states X a b n)
    (score a (preQs a (X.l a b (ch a n)) (X.q a b (ch a n))) (preKs a (X.l a b (ch a n)))) (X.v a b (ch a n))

end Levels

/-- The output block of direction `dd`, chunk by chunk. -/
theorem canon_outL {dd n b : ℕ} (hd : dd < 2) (hn : n < 4) (hb : b < 8) (j : S1x1x64x128.Idx) :
    View.canon (outL X dd 32) ((tok b (ch dd n)).emb j) = outs X n dd b j := by
  refine (canon_item 4 (fun a b => tok b (ch dd a)) (fun a b a' b' => tok_disjoint hd a b a' b') (outL X dd)
    (fun n b => outRow (rQe X n dd b) (rSt X (16 * n + 8 * dd + b) dd b) (rAt X n dd b) (X.v dd b (ch dd n)))
    (fun s => rfl) hn hb j 32 (by omega) (by omega)).trans ?_
  rw [rSt_item X hd hb, rAt_eq X hd hb, rQe_eq X hd hb, rQs_eq X hd hb, rKs_eq X hd hb]
  rfl

/-- The block of final states, slot by slot. -/
theorem canon_finL {a b : ℕ} (ha : a < 2) (hb : b < 8) (j : S1x1x1x128x128.Idx) :
    View.canon (finL X 16) ((slotO a b).emb j) = outState (states X a b 4) j := by
  refine (canon_item 2 slotO slotO_disjoint (finL X) (fun a b => outState (rSt X 64 a b)) (fun s => rfl) ha hb j 16
    (by omega) (by omega)).trans ?_
  rw [rSt_last X ha hb]

end Cert.Model

end
-- ==== Proof.Pieces.lean ====
/- THE RUN AND THE MODEL.  What one grid point stores into its three result blocks, as the program's run lists it, is what the
   model of `Model.lean` lists. -/
module

public import proofs.«01_k».proof.Proof.Model

@[expose] public section

set_option maxRecDepth 16384

noncomputable section

namespace Cert.Model

open Cert.KernelIdeal Cert.KernelIdeal.Gen Idealize.ShloMosaic Idealize.ShloMosaic.TcCoe Idealize.ShloMosaic.Tactic
open Idealize.ShloMosaic.Pipeline (Dat)

variable {F : FTy → Type} [FloatOps F]

/-- The context of a grid point whose staging buffers hold the blocks `x0 … x5`. -/
def ctx (arg2 : Memref sig .tc .vmem S8x1x256x128 .bf16) (harg2 : arg2.IsWhole) (arg3 : Memref sig .tc .vmem S8x1x256x128 .bf16) (harg3 : arg3.IsWhole) (arg4 : Memref sig .tc .vmem S8x1x256x128 .f32) (harg4 : arg4.IsWhole) (arg5 : Memref sig .tc .vmem S8x1x256x128 .f32) (harg5 : arg5.IsWhole) (arg6 : Memref sig .tc .vmem S8x1x256x128 .bf16) (harg6 : arg6.IsWhole) (arg7 : Memref sig .tc .vmem S8x1x256x128 .bf16) (harg7 : arg7.IsWhole)
    (arg11 : Memref sig .tc .vmem S2x8x128x128 .f32) (arg12 : Memref sig .tc .vmem S2x8x64x64 .bf16)
    (arg13 arg14 arg15 arg16 : Memref sig .tc .vmem S2x8x64x128 .bf16) (arg17 : Memref sig .tc .vmem S2x8x1x128 .f32)
    (arg18 arg19 arg20 arg21 : Memref sig .tc .vmem S2x8x64x128 .bf16) (arg22 : Memref sig .tc .vmem S2x8x1x128 .f32)
    (x0 x1 : Vec F S8x1x256x128 .bf16) (x2 x3 : Vec F S8x1x256x128 .f32) (x4 x5 : Vec F S8x1x256x128 .bf16) : Ctx F where
  q dd h c := Nat.rec (View.readAt (Elt F) arg2.view (tok h c).toLoadRect (harg2.unread x0))
    (fun _ _ => View.readAt (Elt F) arg3.view (tok h c).toLoadRect (harg3.unread x1)) dd
  l dd h c := Nat.rec (View.readAt (Elt F) arg4.view (tok h c).toLoadRect (harg4.unread x2))
    (fun _ _ => View.readAt (Elt F) arg5.view (tok h c).toLoadRect (harg5.unread x3)) dd
  v dd h c := Nat.rec (View.readAt (Elt F) arg6.view (tok h c).toLoadRect (harg6.unread x4))
    (fun _ _ => View.readAt (Elt F) arg7.view (tok h c).toLoadRect (harg7.unread x5)) dd
  st := arg11.view
  at_ := arg12.view
  qe p := Nat.rec arg13.view (fun _ _ => arg18.view) p
  qs p := Nat.rec arg14.view (fun _ _ => arg19.view) p
  ks p := Nat.rec arg15.view (fun _ _ => arg20.view) p
  ke p := Nat.rec arg16.view (fun _ _ => arg21.view) p
  eb p := Nat.rec arg17.view (fun _ _ => arg22.view) p

/-- The run's pieces of the forward output are the model's. -/
theorem pieces_fst (c : Dev nD) (i : grid0.Coords) (arg2 : Memref sig .tc .vmem S8x1x256x128 .bf16) (harg2 : arg2.IsWhole) (arg3 : Memref sig .tc .vmem S8x1x256x128 .bf16) (harg3 : arg3.IsWhole) (arg4 : Memref sig .tc .vmem S8x1x256x128 .f32) (harg4 : arg4.IsWhole) (arg5 : Memref sig .tc .vmem S8x1x256x128 .f32) (harg5 : arg5.IsWhole) (arg6 : Memref sig .tc .vmem S8x1x256x128 .bf16) (harg6 : arg6.IsWhole) (arg7 : Memref sig .tc .vmem S8x1x256x128 .bf16) (harg7 : arg7.IsWhole) (arg8 : Memref sig .tc .vmem S8x1x256x128 .bf16) (harg8 : arg8.IsWhole) (arg9 : Memref sig .tc .vmem S8x1x256x128 .bf16) (harg9 : arg9.IsWhole) (arg10 : Memref sig .tc .vmem S1x2x8x128x128 .f32) (harg10 : arg10.IsWhole) (arg11 : Memref sig .tc .vmem S2x8x128x128 .f32) (harg11 : arg11.IsWhole) (arg12 : Memref sig .tc .vmem S2x8x64x64 .bf16) (harg12 : arg12.IsWhole) (arg13 : Memref sig .tc .vmem S2x8x64x128 .bf16) (harg13 : arg13.IsWhole) (arg14 : Memref sig .tc .vmem S2x8x64x128 .bf16) (harg14 : arg14.IsWhole) (arg15 : Memref sig .tc .vmem S2x8x64x128 .bf16) (harg15 : arg15.IsWhole) (arg16 : Memref sig .tc .vmem S2x8x64x128 .bf16) (harg16 : arg16.IsWhole) (arg17 : Memref sig .tc .vmem S2x8x1x128 .f32) (harg17 : arg17.IsWhole) (arg18 : Memref sig .tc .vmem S2x8x64x128 .bf16) (harg18 : arg18.IsWhole) (arg19 : Memref sig .tc .vmem S2x8x64x128 .bf16) (harg19 : arg19.IsWhole) (arg20 : Memref sig .tc .vmem S2x8x64x128 .bf16) (harg20 : arg20.IsWhole) (arg21 : Memref sig .tc .vmem S2x8x64x128 .bf16) (harg21 : arg21.IsWhole) (arg22 : Memref sig .tc .vmem S2x8x1x128 .f32) (harg22 : arg22.IsWhole) (hc0 : cond0_0 i) (hc1 : cond0_1 i)
    (x0 : Vec F S8x1x256x128 .bf16) (x1 : Vec F S8x1x256x128 .bf16) (x2 : Vec F S8x1x256x128 .f32) (x3 : Vec F S8x1x256x128 .f32) (x4 : Vec F S8x1x256x128 .bf16) (x5 : Vec F S8x1x256x128 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).1 = outL (ctx arg2 harg2 arg3 harg3 arg4 harg4 arg5 harg5 arg6 harg6 arg7 harg7 arg11 arg12 arg13 arg14 arg15 arg16 arg17 arg18 arg19 arg20 arg21 arg22 x0 x1 x2 x3 x4 x5) 0 32 := by
  sl_kernel_rfl

/-- Likewise the backward output's, -/
theorem pieces_snd (c : Dev nD) (i : grid0.Coords) (arg2 : Memref sig .tc .vmem S8x1x256x128 .bf16) (harg2 : arg2.IsWhole) (arg3 : Memref sig .tc .vmem S8x1x256x128 .bf16) (harg3 : arg3.IsWhole) (arg4 : Memref sig .tc .vmem S8x1x256x128 .f32) (harg4 : arg4.IsWhole) (arg5 : Memref sig .tc .vmem S8x1x256x128 .f32) (harg5 : arg5.IsWhole) (arg6 : Memref sig .tc .vmem S8x1x256x128 .bf16) (harg6 : arg6.IsWhole) (arg7 : Memref sig .tc .vmem S8x1x256x128 .bf16) (harg7 : arg7.IsWhole) (arg8 : Memref sig .tc .vmem S8x1x256x128 .bf16) (harg8 : arg8.IsWhole) (arg9 : Memref sig .tc .vmem S8x1x256x128 .bf16) (harg9 : arg9.IsWhole) (arg10 : Memref sig .tc .vmem S1x2x8x128x128 .f32) (harg10 : arg10.IsWhole) (arg11 : Memref sig .tc .vmem S2x8x128x128 .f32) (harg11 : arg11.IsWhole) (arg12 : Memref sig .tc .vmem S2x8x64x64 .bf16) (harg12 : arg12.IsWhole) (arg13 : Memref sig .tc .vmem S2x8x64x128 .bf16) (harg13 : arg13.IsWhole) (arg14 : Memref sig .tc .vmem S2x8x64x128 .bf16) (harg14 : arg14.IsWhole) (arg15 : Memref sig .tc .vmem S2x8x64x128 .bf16) (harg15 : arg15.IsWhole) (arg16 : Memref sig .tc .vmem S2x8x64x128 .bf16) (harg16 : arg16.IsWhole) (arg17 : Memref sig .tc .vmem S2x8x1x128 .f32) (harg17 : arg17.IsWhole) (arg18 : Memref sig .tc .vmem S2x8x64x128 .bf16) (harg18 : arg18.IsWhole) (arg19 : Memref sig .tc .vmem S2x8x64x128 .bf16) (harg19 : arg19.IsWhole) (arg20 : Memref sig .tc .vmem S2x8x64x128 .bf16) (harg20 : arg20.IsWhole) (arg21 : Memref sig .tc .vmem S2x8x64x128 .bf16) (harg21 : arg21.IsWhole) (arg22 : Memref sig .tc .vmem S2x8x1x128 .f32) (harg22 : arg22.IsWhole) (hc0 : cond0_0 i) (hc1 : cond0_1 i)
    (x0 : Vec F S8x1x256x128 .bf16) (x1 : Vec F S8x1x256x128 .bf16) (x2 : Vec F S8x1x256x128 .f32) (x3 : Vec F S8x1x256x128 .f32) (x4 : Vec F S8x1x256x128 .bf16) (x5 : Vec F S8x1x256x128 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.1 = outL (ctx arg2 harg2 arg3 harg3 arg4 harg4 arg5 harg5 arg6 harg6 arg7 harg7 arg11 arg12 arg13 arg14 arg15 arg16 arg17 arg18 arg19 arg20 arg21 arg22 x0 x1 x2 x3 x4 x5) 1 32 := by
  sl_kernel_rfl

/-- and the final states'. -/
theorem pieces_fin (c : Dev nD) (i : grid0.Coords) (arg2 : Memref sig .tc .vmem S8x1x256x128 .bf16) (harg2 : arg2.IsWhole) (arg3 : Memref sig .tc .vmem S8x1x256x128 .bf16) (harg3 : arg3.IsWhole) (arg4 : Memref sig .tc .vmem S8x1x256x128 .f32) (harg4 : arg4.IsWhole) (arg5 : Memref sig .tc .vmem S8x1x256x128 .f32) (harg5 : arg5.IsWhole) (arg6 : Memref sig .tc .vmem S8x1x256x128 .bf16) (harg6 : arg6.IsWhole) (arg7 : Memref sig .tc .vmem S8x1x256x128 .bf16) (harg7 : arg7.IsWhole) (arg8 : Memref sig .tc .vmem S8x1x256x128 .bf16) (harg8 : arg8.IsWhole) (arg9 : Memref sig .tc .vmem S8x1x256x128 .bf16) (harg9 : arg9.IsWhole) (arg10 : Memref sig .tc .vmem S1x2x8x128x128 .f32) (harg10 : arg10.IsWhole) (arg11 : Memref sig .tc .vmem S2x8x128x128 .f32) (harg11 : arg11.IsWhole) (arg12 : Memref sig .tc .vmem S2x8x64x64 .bf16) (harg12 : arg12.IsWhole) (arg13 : Memref sig .tc .vmem S2x8x64x128 .bf16) (harg13 : arg13.IsWhole) (arg14 : Memref sig .tc .vmem S2x8x64x128 .bf16) (harg14 : arg14.IsWhole) (arg15 : Memref sig .tc .vmem S2x8x64x128 .bf16) (harg15 : arg15.IsWhole) (arg16 : Memref sig .tc .vmem S2x8x64x128 .bf16) (harg16 : arg16.IsWhole) (arg17 : Memref sig .tc .vmem S2x8x1x128 .f32) (harg17 : arg17.IsWhole) (arg18 : Memref sig .tc .vmem S2x8x64x128 .bf16) (harg18 : arg18.IsWhole) (arg19 : Memref sig .tc .vmem S2x8x64x128 .bf16) (harg19 : arg19.IsWhole) (arg20 : Memref sig .tc .vmem S2x8x64x128 .bf16) (harg20 : arg20.IsWhole) (arg21 : Memref sig .tc .vmem S2x8x64x128 .bf16) (harg21 : arg21.IsWhole) (arg22 : Memref sig .tc .vmem S2x8x1x128 .f32) (harg22 : arg22.IsWhole) (hc0 : cond0_0 i) (hc1 : cond0_1 i)
    (x0 : Vec F S8x1x256x128 .bf16) (x1 : Vec F S8x1x256x128 .bf16) (x2 : Vec F S8x1x256x128 .f32) (x3 : Vec F S8x1x256x128 .f32) (x4 : Vec F S8x1x256x128 .bf16) (x5 : Vec F S8x1x256x128 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5).2.2.1 = finL (ctx arg2 harg2 arg3 harg3 arg4 harg4 arg5 harg5 arg6 harg6 arg7 harg7 arg11 arg12 arg13 arg14 arg15 arg16 arg17 arg18 arg19 arg20 arg21 arg22 x0 x1 x2 x3 x4 x5) 16 := by
  sl_kernel_rfl

end Cert.Model

end
-- ==== Proof.Blocks.lean ====
/- THE LAUNCH.  Grid point `t` works on batch row `t`: its blocks are that row of the arrays, heads first.  This module reads
   the three final arrays, and the point's inputs, at an index. -/
module

public import proofs.«01_k».proof.Proof.Lookup
public import proofs.«01_k».proof.Proof.Pieces
public import Idealize.ShloMosaic.Lib.Pointwise
public import Idealize.ShloMosaic.Lib.Claim
public import Idealize.ShloMosaic.Lib.Tactic.CleanTypes

@[expose] public section

set_option maxRecDepth 16384

noncomputable section

namespace Cert.Blocks

open Cert.Model Cert.KernelIdeal Cert.KernelIdeal.Gen Idealize.ShloMosaic Idealize.ShloMosaic.TcCoe
open Idealize.ShloMosaic.Pipeline (Dat)

variable {F : FTy → Type} [FloatOps F] (m : (ℓ : Loc nD τ sig) → Buf (Elt F) ℓ) (c : Dev nD) (t : Fin cfg0.N)

/-- What grid point `t` reads and through which buffers. -/
def point : Ctx F :=
  ctx (ms0_0 t) (hs0_0 t) (ms0_1 t) (hs0_1 t) (ms0_2 t) (hs0_2 t) (ms0_3 t) (hs0_3 t) (ms0_4 t) (hs0_4 t) (ms0_5 t) (hs0_5 t)
    scM0_0 scM0_1 scM0_2 scM0_3 scM0_4 scM0_5 scM0_6 scM0_7 scM0_8 scM0_9 scM0_10 scM0_11
    (iblk m c 0 t) (iblk m c 1 t) (iblk m c 2 t) (iblk m c 3 t) (iblk m c 4 t) (iblk m c 5 t)

theorem outs_fst : (outsAt0 m c t).1 = View.canon (outL (point m c t) 0 32) := by
  unfold outsAt0 out0_A_6
  dsimp only
  rw [pieces_fst, View.read_writes_junk_eq_canon]
  rfl

theorem outs_snd : (outsAt0 m c t).2.1 = View.canon (outL (point m c t) 1 32) := by
  unfold outsAt0 out0_A_7
  dsimp only
  rw [pieces_snd, View.read_writes_junk_eq_canon]
  rfl

theorem outs_fin : (outsAt0 m c t).2.2 = View.canon (finL (point m c t) 16) := by
  unfold outsAt0 out0_A_8
  dsimp only
  rw [pieces_fin, View.read_writes_junk_eq_canon]
  rfl

/-- Point `t`'s index maps name batch row `t`. -/
theorem index_row (t : Fin cfg0.N) : (win0_0.index t 1 = t.val ∧ win0_1.index t 1 = t.val ∧ win0_2.index t 1 = t.val ∧
    win0_3.index t 1 = t.val ∧ win0_4.index t 1 = t.val ∧ win0_5.index t 1 = t.val ∧ win0_6.index t 1 = t.val ∧
    win0_7.index t 1 = t.val ∧ win0_8.index t 0 = t.val) ∧ (∀ a : Fin 4, a ≠ 1 → win0_0.index t a = 0 ∧ win0_1.index t a = 0 ∧
    win0_2.index t a = 0 ∧ win0_3.index t a = 0 ∧ win0_4.index t a = 0 ∧ win0_5.index t a = 0 ∧ win0_6.index t a = 0 ∧
    win0_7.index t a = 0) ∧ (∀ a : Fin 5, a ≠ 0 → win0_8.index t a = 0) := by
  revert t
  exact (by decide +kernel : ∀ t : Fin grid0.N, (win0_0.index t 1 = t.val ∧ win0_1.index t 1 = t.val ∧ win0_2.index t 1 = t.val ∧
    win0_3.index t 1 = t.val ∧ win0_4.index t 1 = t.val ∧ win0_5.index t 1 = t.val ∧ win0_6.index t 1 = t.val ∧
    win0_7.index t 1 = t.val ∧ win0_8.index t 0 = t.val) ∧ (∀ a : Fin 4, a ≠ 1 → win0_0.index t a = 0 ∧ win0_1.index t a = 0 ∧
    win0_2.index t a = 0 ∧ win0_3.index t a = 0 ∧ win0_4.index t a = 0 ∧ win0_5.index t a = 0 ∧ win0_6.index t a = 0 ∧
    win0_7.index t a = 0) ∧ (∀ a : Fin 5, a ≠ 0 → win0_8.index t a = 0))

/-- The batch row of a grid point. -/
def row (t : Fin cfg0.N) : Fin 32 := Fin.cast N_0 t

/-- An index of an array whose coordinates are those of row `t`'s block names row `t`. -/
theorem emb_row (h : Fin 8) (i : Fin 256) (d : Fin 128) (b : Fin 4 → ℕ) (h1 : b 1 = t.val) (hz : ∀ a, a ≠ 1 → b a = 0)
    (e : Shape.Idx ⟨4, ![8, 32, 256, 128]⟩) (he : ∀ a, (e a : ℕ) = b a * S8x1x256x128.size a + (ix4 h (0 : Fin 1) i d a : ℕ)) :
    e = ix4 h (row t) i d := by
  funext a
  apply Fin.ext
  refine (he a).trans ?_
  fin_cases a
  · show b 0 * 8 + (h : ℕ) = h
    rw [hz 0 (by decide)]; omega
  · show b 1 * 1 + 0 = t.val
    rw [h1]; omega
  · show b 2 * 256 + (i : ℕ) = i
    rw [hz 2 (by decide)]; omega
  · show b 3 * 128 + (d : ℕ) = d
    rw [hz 3 (by decide)]; omega

theorem emb6 (h : Fin 8) (i : Fin 256) (d : Fin 128) : ((cfg0.win 6).blk t).view.emb (ix4 h 0 i d) = ix4 h (row t) i d :=
  emb_row t h i d (win0_6.index t) (index_row t).1.2.2.2.2.2.2.1 (fun a ha => ((index_row t).2.1 a ha).2.2.2.2.2.2.1)
    _ fun a => (win0_6.rect_emb_val t (ix4 h 0 i d) a).trans rfl

theorem emb7 (h : Fin 8) (i : Fin 256) (d : Fin 128) : ((cfg0.win 7).blk t).view.emb (ix4 h 0 i d) = ix4 h (row t) i d :=
  emb_row t h i d (win0_7.index t) (index_row t).1.2.2.2.2.2.2.2.1 (fun a ha => ((index_row t).2.1 a ha).2.2.2.2.2.2.2)
    _ fun a => (win0_7.rect_emb_val t (ix4 h 0 i d) a).trans rfl

/-- An element of the array of forward outputs is the one that its row's point left in its block. -/
theorem final6 (h : Fin 8) (i : Fin 256) (d : Fin 128) :
    (dats m 0 c).arrAt 6 cfg0.N (ix4 h (row t) i d) = View.canon (outL (point m c t) 0 32) (ix4 h 0 i d) := by
  have e := (dats m 0 c).arrAt_emb_eq_flushed 6 (Value.disjoint6) t (flush0_6 t) (ix4 h 0 i d)
  refine (congrArg ((dats m 0 c).arrAt 6 cfg0.N) (emb6 t h i d)).symm.trans (e.trans ((cast_eq _ _).trans ?_))
  rw [Value.flushed6]
  refine Eq.trans ?_ (congrFun (outs_fst m c t) (ix4 h 0 i d))
  generalize (outsAt0 m c t).1 = Y
  rfl

/-- An element of the array of backward outputs is the one that its row's point left in its block. -/
theorem final7 (h : Fin 8) (i : Fin 256) (d : Fin 128) :
    (dats m 0 c).arrAt 7 cfg0.N (ix4 h (row t) i d) = View.canon (outL (point m c t) 1 32) (ix4 h 0 i d) := by
  have e := (dats m 0 c).arrAt_emb_eq_flushed 7 (Value.disjoint7) t (flush0_7 t) (ix4 h 0 i d)
  refine (congrArg ((dats m 0 c).arrAt 7 cfg0.N) (emb7 t h i d)).symm.trans (e.trans ((cast_eq _ _).trans ?_))
  rw [Value.flushed7]
  refine Eq.trans ?_ (congrFun (outs_snd m c t) (ix4 h 0 i d))
  generalize (outsAt0 m c t).2.1 = Y
  rfl

/-- and an element of the array of final states, likewise. -/
theorem final8 (a : Fin 2) (h : Fin 8) (k e : Fin 128) :
    (dats m 0 c).arrAt 8 cfg0.N (ix5 (row t) a h k e) = View.canon (finL (point m c t) 16) (ix5 0 a h k e) := by
  have E := (dats m 0 c).arrAt_emb_eq_flushed 8 (Value.disjoint8) t (flush0_8 t) (ix5 0 a h k e)
  have hi : ((cfg0.win 8).blk t).view.emb (ix5 0 a h k e) = ix5 (row t) a h k e := by
    obtain ⟨⟨-, -, -, -, -, -, -, -, h0⟩, -, hz⟩ := index_row t
    funext x
    apply Fin.ext
    refine (win0_8.rect_emb_val t (ix5 0 a h k e) x).trans ?_
    fin_cases x
    · show win0_8.index t 0 * 1 + 0 = t.val
      rw [h0]; omega
    · show win0_8.index t 1 * 2 + (a : ℕ) = a
      rw [hz 1 (by decide)]; omega
    · show win0_8.index t 2 * 8 + (h : ℕ) = h
      rw [hz 2 (by decide)]; omega
    · show win0_8.index t 3 * 128 + (k : ℕ) = k
      rw [hz 3 (by decide)]; omega
    · show win0_8.index t 4 * 128 + (e : ℕ) = e
      rw [hz 4 (by decide)]; omega
  rw [hi] at E
  refine E.trans ((cast_eq _ _).trans ?_)
  rw [Value.flushed8]
  refine Eq.trans ?_ (congrFun (outs_fin m c t) (ix5 0 a h k e))
  generalize (outsAt0 m c t).2.2 = Y
  rfl

end Cert.Blocks

/-! ## The inputs, at the ideal values -/

namespace Cert.Blocks

open Cert.Model Cert.KernelIdeal Cert.KernelIdeal.Gen Idealize.ShloMosaic Idealize.ShloMosaic.TcCoe

variable (m : (ℓ : Loc nD τ sig) → Buf (Elt Ideal) ℓ) (c : Dev nD) (t : Fin cfg0.N)

/-- A token's number in the flattened batch names its row and its place. -/
theorem join_split (u : Fin 32) (i : Fin 256) (h : Fin 8) (d : Fin 128) :
    ix4 (⟨(u * 256 + i) / 256, by omega⟩ : Fin 32) (⟨(u * 256 + i) % 256, by omega⟩ : Fin 256) h d = ix4 u i h d := by
  congr 1 <;> (apply Fin.ext; simp only; omega)

/-- The host lays the queries out heads first, -/
theorem host_q (h : Fin 8) (i : Fin 256) (d : Fin 128) (u : Fin 32) :
    V m c main_v10 (ix4 h u i d) = m ((c : Thread nD τ).loc main_arg0) (ix4 u i h d) := by
  entry_read
  clean_types
  pointwise
  exact congrArg _ (join_split u i h d)

/-- and the log gates of both directions -/
theorem host_lf (h : Fin 8) (i : Fin 256) (d : Fin 128) (u : Fin 32) :
    V m c main_v11 (ix4 h u i d) = m ((c : Thread nD τ).loc main_arg1) (ix4 u i h d) := by
  entry_read
  clean_types
  pointwise
  exact congrArg _ (join_split u i h d)

theorem host_lb (h : Fin 8) (i : Fin 256) (d : Fin 128) (u : Fin 32) :
    V m c main_v12 (ix4 h u i d) = m ((c : Thread nD τ).loc main_arg2) (ix4 u i h d) := by
  entry_read
  clean_types
  pointwise
  exact congrArg _ (join_split u i h d)

/-- and the values. -/
theorem host_v (h : Fin 8) (i : Fin 256) (d : Fin 128) (u : Fin 32) :
    V m c main_v13 (ix4 h u i d) = m ((c : Thread nD τ).loc main_arg3) (ix4 u i h d) := by
  entry_read
  clean_types
  pointwise
  exact congrArg _ (join_split u i h d)

/-- Point `t`'s block of an input array is row `t` of the array. -/
theorem block0 (h : Fin 8) (i : Fin 256) (d : Fin 128) : iblk m c 0 t (ix4 h 0 i d) = V m c main_v10 (ix4 h (row t) i d) :=
  ((View.read_apply _ _).trans (cast_eq _ _)).trans (congrArg (V m c main_v10) (emb_row t h i d (win0_0.index t)
    (index_row t).1.1 (fun a ha => ((index_row t).2.1 a ha).1) _ fun a => (win0_0.rect_emb_val t (ix4 h 0 i d) a).trans rfl))

theorem block1 (h : Fin 8) (i : Fin 256) (d : Fin 128) : iblk m c 1 t (ix4 h 0 i d) = V m c main_v10 (ix4 h (row t) i d) :=
  ((View.read_apply _ _).trans (cast_eq _ _)).trans (congrArg (V m c main_v10) (emb_row t h i d (win0_1.index t)
    (index_row t).1.2.1 (fun a ha => ((index_row t).2.1 a ha).2.1) _ fun a => (win0_1.rect_emb_val t (ix4 h 0 i d) a).trans rfl))

theorem block2 (h : Fin 8) (i : Fin 256) (d : Fin 128) : iblk m c 2 t (ix4 h 0 i d) = V m c main_v11 (ix4 h (row t) i d) :=
  ((View.read_apply _ _).trans (cast_eq _ _)).trans (congrArg (V m c main_v11) (emb_row t h i d (win0_2.index t)
    (index_row t).1.2.2.1 (fun a ha => ((index_row t).2.1 a ha).2.2.1) _ fun a => (win0_2.rect_emb_val t (ix4 h 0 i d) a).trans rfl))

theorem block3 (h : Fin 8) (i : Fin 256) (d : Fin 128) : iblk m c 3 t (ix4 h 0 i d) = V m c main_v12 (ix4 h (row t) i d) :=
  ((View.read_apply _ _).trans (cast_eq _ _)).trans (congrArg (V m c main_v12) (emb_row t h i d (win0_3.index t)
    (index_row t).1.2.2.2.1 (fun a ha => ((index_row t).2.1 a ha).2.2.2.1) _ fun a => (win0_3.rect_emb_val t (ix4 h 0 i d) a).trans rfl))

theorem block4 (h : Fin 8) (i : Fin 256) (d : Fin 128) : iblk m c 4 t (ix4 h 0 i d) = V m c main_v13 (ix4 h (row t) i d) :=
  ((View.read_apply _ _).trans (cast_eq _ _)).trans (congrArg (V m c main_v13) (emb_row t h i d (win0_4.index t)
    (index_row t).1.2.2.2.2.1 (fun a ha => ((index_row t).2.1 a ha).2.2.2.2.1) _ fun a => (win0_4.rect_emb_val t (ix4 h 0 i d) a).trans rfl))

theorem block5 (h : Fin 8) (i : Fin 256) (d : Fin 128) : iblk m c 5 t (ix4 h 0 i d) = V m c main_v13 (ix4 h (row t) i d) :=
  ((View.read_apply _ _).trans (cast_eq _ _)).trans (congrArg (V m c main_v13) (emb_row t h i d (win0_5.index t)
    (index_row t).1.2.2.2.2.2.1 (fun a ha => ((index_row t).2.1 a ha).2.2.2.2.2.1) _ fun a => (win0_5.rect_emb_val t (ix4 h 0 i d) a).trans rfl))

end Cert.Blocks

end
-- ==== Proof.Recurrence.lean ====
/- THE RECURRENCE OVER THE REALS.  The gated linear recurrence of one head and direction, and the algebra by which a chunk
   of 64 tokens is done at once.  Nothing here mentions a program. -/
module

public import Mathlib.Analysis.SpecialFunctions.Pow.Real
public import Mathlib.Algebra.BigOperators.Intervals

@[expose] public section

noncomputable section

namespace Cert.Recurrence

open Finset

/-- One entry of the state after `j` tokens: token `j` keeps the gate `2 ^ l j` of it and adds the rest of `v j`. -/
def state (l v : ℕ → ℝ) : ℕ → ℝ
  | 0 => 0
  | j + 1 => (2 : ℝ) ^ l j * state l v j + (1 - (2 : ℝ) ^ l j) * v j

/-- Token `j`'s output at one lane: the query against the state that holds the token. -/
def output (K : ℕ) (l : ℕ → ℕ → ℝ) (q : ℕ → ℕ → ℝ) (v : ℕ → ℝ) (j : ℕ) : ℝ :=
  ∑ k ∈ range K, q j k * state (fun i => l i k) v (j + 1)

/-- The log gates' sum up to and with token `t` of a chunk. -/
def total (l : ℕ → ℝ) (t : ℕ) : ℝ := ∑ i ∈ range (t + 1), l i

/-! ## The doubling prefix sum -/

/-- The sum of the last `w` log gates up to token `t`. -/
def window (l : ℕ → ℝ) (w t : ℕ) : ℝ := ∑ i ∈ range w, if i ≤ t then l (t - i) else 0

theorem window_one (l : ℕ → ℝ) (t : ℕ) : window l 1 t = l t := by simp [window]

/-- Two windows laid end to end are the window of twice the width, -/
theorem window_double (l : ℕ → ℝ) (w t : ℕ) : window l w t + (if w ≤ t then window l w (t - w) else 0) = window l (w + w) t := by
  unfold window
  rw [sum_range_add]
  congr 1
  split_ifs with h
  · refine sum_congr rfl fun i _ => ?_
    by_cases hi : w + i ≤ t
    · rw [if_pos (by omega), if_pos hi, show t - w - i = t - (w + i) by omega]
    · rw [if_neg (by omega), if_neg hi]
  · exact (sum_eq_zero fun i _ => if_neg (by omega)).symm

/-- and a window that reaches past the chunk's first token is the prefix sum. -/
theorem window_all (l : ℕ → ℝ) {w t : ℕ} (h : t < w) : window l w t = total l t := by
  unfold window total
  rw [← sum_filter, show filter (fun i => i ≤ t) (range w) = range (t + 1) by ext i; simp; omega]
  exact sum_range_reflect l (t + 1) ▸ sum_congr rfl fun i _ => by rw [show t + 1 - 1 - i = t - i by omega]

/-! ## A chunk at once -/

theorem two_pow_mul (a b : ℝ) : (2 : ℝ) ^ a * (2 : ℝ) ^ b = (2 : ℝ) ^ (a + b) := (Real.rpow_add two_pos a b).symm

/-- The state within a chunk that starts at token `c`: what is left of the state before the chunk, and each token's part
    decayed by the gates after it. -/
theorem state_chunk (l v : ℕ → ℝ) (c t : ℕ) : state l v (c + t + 1) =
    (2 : ℝ) ^ total (fun i => l (c + i)) t * state l v c +
      ∑ s ∈ range (t + 1), (2 : ℝ) ^ (total (fun i => l (c + i)) t - total (fun i => l (c + i)) s) *
        (1 - (2 : ℝ) ^ l (c + s)) * v (c + s) := by
  induction t with
  | zero => simp [state, total]
  | succ t ih =>
    have hT : total (fun i => l (c + i)) (t + 1) = total (fun i => l (c + i)) t + l (c + (t + 1)) := sum_range_succ _ _
    rw [show state l v (c + (t + 1) + 1) = (2 : ℝ) ^ l (c + (t + 1)) * state l v (c + t + 1) +
      (1 - (2 : ℝ) ^ l (c + (t + 1))) * v (c + (t + 1)) from rfl, ih, sum_range_succ _ (t + 1), hT, sub_self, Real.rpow_zero,
      one_mul, mul_add, ← mul_assoc, two_pow_mul, add_comm (l (c + (t + 1))), mul_sum, add_assoc]
    congr 2
    refine sum_congr rfl fun s _ => ?_
    rw [← mul_assoc, ← mul_assoc, two_pow_mul]
    congr 3
    ring

/-- The scaled operands' chunk step is the recurrence over the chunk. -/
theorem state_step (l v : ℕ → ℝ) (c : ℕ) (H : ℝ) (hH : H + H = total (fun i => l (c + i)) 63) :
    state l v c * ((2 : ℝ) ^ H * (2 : ℝ) ^ H) +
      ∑ s ∈ range 64, v (c + s) * ((1 - (2 : ℝ) ^ l (c + s)) * (2 : ℝ) ^ (H - total (fun i => l (c + i)) s) * (2 : ℝ) ^ H) =
    state l v (c + 64) := by
  rw [show c + 64 = c + 63 + 1 from rfl, state_chunk, two_pow_mul, hH, mul_comm]
  congr 1
  refine sum_congr rfl fun s _ => ?_
  rw [← hH, show H + H - total (fun i => l (c + i)) s = H - total (fun i => l (c + i)) s + H by ring, ← two_pow_mul]
  ring

/-- The scaled operands' outputs are the recurrence's: the part from the state before the chunk, and the masked scores
    against the chunk's own tokens. -/
theorem output_step (K : ℕ) (l q : ℕ → ℕ → ℝ) (v : ℕ → ℝ) (c t : ℕ) (ht : t < 64) (H : ℕ → ℝ) :
    (∑ k ∈ range K, q (c + t) k * (2 : ℝ) ^ (total (fun i => l (c + i) k) t - H k) * (2 : ℝ) ^ H k * state (fun i => l i k) v c) +
      ∑ s ∈ range 64, (if s ≤ t then ∑ k ∈ range K, q (c + t) k * (2 : ℝ) ^ (total (fun i => l (c + i) k) t - H k) *
        ((1 - (2 : ℝ) ^ l (c + s) k) * (2 : ℝ) ^ (H k - total (fun i => l (c + i) k) s)) else 0) * v (c + s) =
    output K l q v (c + t) := by
  have hs : (∑ s ∈ range 64, (if s ≤ t then ∑ k ∈ range K, q (c + t) k * (2 : ℝ) ^ (total (fun i => l (c + i) k) t - H k) *
        ((1 - (2 : ℝ) ^ l (c + s) k) * (2 : ℝ) ^ (H k - total (fun i => l (c + i) k) s)) else 0) * v (c + s)) =
      ∑ k ∈ range K, q (c + t) k * ∑ s ∈ range (t + 1),
        (2 : ℝ) ^ (total (fun i => l (c + i) k) t - total (fun i => l (c + i) k) s) * (1 - (2 : ℝ) ^ l (c + s) k) * v (c + s) := by
    simp only [ite_mul, zero_mul]
    rw [← sum_filter, show filter (fun s => s ≤ t) (range 64) = range (t + 1) by ext i; simp; omega]
    simp only [sum_mul, mul_sum]
    rw [sum_comm]
    refine sum_congr rfl fun k _ => sum_congr rfl fun s _ => ?_
    rw [show total (fun i => l (c + i) k) t - total (fun i => l (c + i) k) s =
      (total (fun i => l (c + i) k) t - H k) + (H k - total (fun i => l (c + i) k) s) by ring, ← two_pow_mul]
    ring
  rw [hs, ← sum_add_distrib]
  refine sum_congr rfl fun k _ => ?_
  rw [state_chunk, mul_add, show q (c + t) k * (2 : ℝ) ^ (total (fun i => l (c + i) k) t - H k) * (2 : ℝ) ^ H k =
    q (c + t) k * (2 : ℝ) ^ total (fun i => l (c + i) k) t by rw [mul_assoc, two_pow_mul, sub_add_cancel], mul_assoc]

end Cert.Recurrence

end
-- ==== Proof.Stages.lean ====
/- THE STAGES OVER THE REALS.  Each stage of the kernel, at the ideal values and on operands that are real numbers, is the
   corresponding formula over the reals.  A direction's tokens are numbered in the order it handles them (`pos`), so both
   directions have one statement. -/
module

public import proofs.«01_k».proof.Proof.Model
public import proofs.«01_k».proof.Proof.Recurrence
public import Idealize.ShloMosaic.Lib.Pointwise
public import Idealize.ShloMosaic.Lib.WordCmp

@[expose] public section

set_option maxRecDepth 16384

noncomputable section

namespace Cert.Stages

open Cert.Model Cert.Recurrence Cert.KernelIdeal Cert.KernelIdeal.Gen Idealize.ShloMosaic Idealize.ShloMosaic.TcCoe
  Idealize.ShloMosaic.WordCmp
open Finset (range sum_congr)

/-! ## Real numbers among the extended ones -/

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A sum of products of reals, as the matrix products have it. -/
theorem sum_mul_coe {n : ℕ} (f g : Fin n → EReal) (a b : ℕ → ℝ) (hf : ∀ i, f i = (a i : EReal)) (hg : ∀ i, g i = (b i : EReal)) :
    ∑ i, f i * g i = ((∑ i ∈ range n, a i * b i : ℝ) : EReal) := by
  rw [Finset.sum_range, coe_sum]
  exact sum_congr rfl fun i _ => by rw [hf, hg, EReal.coe_mul]

theorem half_word : Ideal.ofBits .f32 0x3F000000#32 = ((1 / 2 : ℝ) : EReal) := by
  simp [Ideal.ofBits, Ideal.ieee, -EReal.coe_mul]; norm_num

/-! ## The order of a direction -/

/-- The position of row `r` of a chunk in the order of direction `dd`, which is also the row of position `r`. -/
def pos (dd : ℕ) (r : ℕ) : ℕ := Nat.rec r (fun _ _ => 63 - r) dd

theorem pos_lt (dd : ℕ) {r : ℕ} (h : r < 64) : pos dd r < 64 := by
  cases dd with
  | zero => exact h
  | succ d => show 63 - r < 64; omega

/-- A sum over the rows is the sum over the positions. -/
theorem sum_pos (dd : ℕ) (f : ℕ → ℝ) : ∑ r ∈ range 64, f (pos dd r) = ∑ s ∈ range 64, f s := by
  cases dd with
  | zero => rfl
  | succ d => exact Finset.sum_range_reflect f 64

/-- A sum of products over the rows, the factors given by position. -/
theorem sum_mul_pos (dd : ℕ) (f g : Fin 64 → EReal) (a b : ℕ → ℝ) (hf : ∀ i : Fin 64, f i = (a (pos dd i) : EReal))
    (hg : ∀ i : Fin 64, g i = (b (pos dd i) : EReal)) : ∑ i, f i * g i = ((∑ s ∈ range 64, a s * b s : ℝ) : EReal) := by
  rw [sum_mul_coe f g (fun i => a (pos dd i)) (fun i => b (pos dd i)) hf hg]
  exact congrArg _ (sum_pos dd fun s => a s * b s)

/-- A chunk's vector holds the reals `A`, by position and lane. -/
def Reads {φ : FTy} (dd : ℕ) (a : FVec Ideal S64x128 φ) (A : ℕ → ℕ → ℝ) : Prop :=
  ∀ (r : Fin 64) (d : Fin 128), a (ix2 r d) = (A (pos dd r) d : EReal)

/-- The same of a scratch slot's block. -/
def Holds {φ : FTy} (dd : ℕ) (a : FVec Ideal S1x1x64x128 φ) (A : ℕ → ℕ → ℝ) : Prop :=
  ∀ (r : Fin 64) (d : Fin 128), a (ix4 0 0 r d) = (A (pos dd r) d : EReal)

theorem Holds.get {φ : FTy} {dd : ℕ} {a : FVec Ideal S1x1x64x128 φ} {A : ℕ → ℕ → ℝ} (h : Holds dd a A) : Reads dd (Model.get a) A := by
  intro r d
  rw [← h r d]
  pointwise [Model.get]

theorem Reads.put {φ : FTy} {dd : ℕ} {a : FVec Ideal S64x128 φ} {A : ℕ → ℕ → ℝ} (h : Reads dd a A) : Holds dd (Model.put a) A := by
  intro r d
  rw [← h r d]
  pointwise [Model.put]

/-! ## Running sums -/

/-- One doubling round over the reals. -/
def round (w : ℕ) (A : ℕ → ℕ → ℝ) (t d : ℕ) : ℝ := A t d + if w ≤ t then A (t - w) d else 0

theorem select_le (p : Prop) [Decidable p] (x y : ℝ) :
    Scalar.select (BitVec.ofBool (decide p)) (x : EReal) (y : EReal) = ((if p then x else y : ℝ) : EReal) := by
  by_cases h : p <;> simp [h, Scalar.select]

theorem up_reads {b : FVec Ideal S64x128 .f32} {A : ℕ → ℕ → ℝ} (h : Reads 0 b A) (s : BitVec 32) (w : ℕ) (hs : s.toNat = w)
    (hw : w < 64) : Reads 0 (up s b) (round w A) := by
  intro r d
  have hc : IntOp.cmpi .sge (BitVec.ofNat 32 r) s = BitVec.ofBool (decide (w ≤ (r : ℕ))) := by
    rw [cmpi_sge_of_lt (by rw [BitVec.toNat_ofNat]; omega) (by omega), hs, BitVec.toNat_ofNat, Nat.mod_eq_of_lt (by omega)]
  pointwise [up]
  rw [hc, h, h, ← EReal.coe_zero, select_le, ← EReal.coe_add]
  unfold round
  refine congrArg (fun x : ℝ => ((A (pos 0 r) d + x : ℝ) : EReal)) ?_
  by_cases hr : w ≤ (r : ℕ)
  · rw [if_pos hr, if_pos (show w ≤ pos 0 r from hr)]
    refine congrArg (fun x => A x d) ?_
    show (r + 64 - (s.toNat + 0) % 64) % 64 = (r : ℕ) - w
    omega
  · rw [if_neg hr, if_neg (show ¬w ≤ pos 0 r from hr)]

theorem down_reads {b : FVec Ideal S64x128 .f32} {A : ℕ → ℕ → ℝ} (h : Reads 1 b A) (s : BitVec 32) (w : ℕ) (hs : s.toNat = 64 - w)
    (h0 : 0 < w) (hw : w < 64) : Reads 1 (down s b) (round w A) := by
  intro r d
  have hc : IntOp.cmpi .slt (BitVec.ofNat 32 r) s = BitVec.ofBool (decide ((r : ℕ) < 64 - w)) := by
    rw [cmpi_slt_of_lt (by rw [BitVec.toNat_ofNat]; omega) (by omega), hs, BitVec.toNat_ofNat, Nat.mod_eq_of_lt (by omega)]
  pointwise [down]
  rw [hc, h, h, ← EReal.coe_zero, select_le, ← EReal.coe_add]
  unfold round
  refine congrArg (fun x : ℝ => ((A (pos 1 r) d + x : ℝ) : EReal)) ?_
  by_cases hr : (r : ℕ) < 64 - w
  · rw [if_pos hr, if_pos (show w ≤ pos 1 r from (by omega : w ≤ 63 - (r : ℕ)))]
    refine congrArg (fun x => A x d) ?_
    show 63 - (r + 64 - (s.toNat + 0) % 64) % 64 = 63 - (r : ℕ) - w
    omega
  · rw [if_neg hr, if_neg (show ¬w ≤ pos 1 r from (by omega : ¬w ≤ 63 - (r : ℕ)))]

/-- Six rounds make the running sums. -/
theorem rounds (A : ℕ → ℕ → ℝ) {t : ℕ} (ht : t < 64) (d : ℕ) :
    round 32 (round 16 (round 8 (round 4 (round 2 (round 1 A))))) t d = total (fun i => A i d) t := by
  have h : ∀ w, round w (fun t d => window (fun i => A i d) w t) = fun t d => window (fun i => A i d) (w + w) t := fun w => by
    funext t d
    exact window_double (fun i => A i d) w t
  have h1 : A = fun t d => window (fun i => A i d) 1 t := by
    funext t d
    exact (window_one (fun i => A i d) t).symm
  have e : round 32 (round 16 (round 8 (round 4 (round 2 (round 1 A))))) = fun t d => window (fun i => A i d) 64 t := by
    conv_lhs => rw [h1]
    rw [h 1, h 2, h 4, h 8, h 16, h 32]
  rw [e]
  exact window_all _ ht

variable {dd : ℕ}

theorem cum_reads (hd : dd < 2) {l : FVec Ideal S64x128 .f32} {L : ℕ → ℕ → ℝ} (h : Reads dd l L) :
    Reads dd (cum dd l) (fun t d => total (fun i => L i d) t) := by
  intro r d
  refine Eq.trans ?_ (congrArg _ (rounds L (pos_lt dd r.isLt) d))
  interval_cases dd
  · exact up_reads (up_reads (up_reads (up_reads (up_reads (up_reads h 1#32 1 rfl (by norm_num)) 2#32 2 rfl (by norm_num)) 4#32 4 rfl
      (by norm_num)) 8#32 8 rfl (by norm_num)) 16#32 16 rfl (by norm_num)) 32#32 32 rfl (by norm_num) r d
  · exact down_reads (down_reads (down_reads (down_reads (down_reads (down_reads h 63#32 1 rfl (by norm_num) (by norm_num)) 62#32 2 rfl
      (by norm_num) (by norm_num)) 60#32 4 rfl (by norm_num) (by norm_num)) 56#32 8 rfl (by norm_num) (by norm_num)) 48#32 16 rfl
      (by norm_num) (by norm_num)) 32#32 32 rfl (by norm_num) (by norm_num) r d

/-- Half the chunk's sum at a lane. -/
def halfSum (L : ℕ → ℕ → ℝ) (d : ℕ) : ℝ := 1 / 2 * total (fun i => L i d) 63

theorem half_reads (hd : dd < 2) {l : FVec Ideal S64x128 .f32} {L : ℕ → ℕ → ℝ} (h : Reads dd l L) (d : Fin 128) :
    half dd l (ix2 0 d) = (halfSum L d : EReal) := by
  unfold halfSum
  rw [EReal.coe_mul]
  interval_cases dd
  · have e : cumF l (ix2 63 d) = (total (fun i => L i d) 63 : EReal) := cum_reads hd h 63 d
    show mulf (broadcast S1x128 (Scalar.ofBits .f32 0x3F000000#32))
      (extractStridedSlice S1x128 ![63, 0] (cumF l) slices_S64x128_o63_0_S1x128) (ix2 0 d) = _
    pointwise
    rw [half_word]
    exact congrArg _ e
  · have e : cumB l (ix2 0 d) = (total (fun i => L i d) 63 : EReal) := cum_reads hd h 0 d
    show mulf (broadcast S1x128 (Scalar.ofBits .f32 0x3F000000#32))
      (extractStridedSlice S1x128 ![0, 0] (cumB l) slices_S64x128_o0_0_S1x128) (ix2 0 d) = _
    pointwise
    rw [half_word]
    exact congrArg _ e

/-! ## The prepared operands -/

theorem exp2_coe (φ : FTy) (x : ℝ) : FloatOps.exp2 (F := Ideal) (φ := φ) (x : EReal) = (((2 : ℝ) ^ x : ℝ) : EReal) := rfl

theorem eHalf_reads (hd : dd < 2) {l : FVec Ideal S64x128 .f32} {L : ℕ → ℕ → ℝ} (h : Reads dd l L) (d : Fin 128) :
    eHalf dd l (ix2 0 d) = (((2 : ℝ) ^ halfSum L d : ℝ) : EReal) := by
  pointwise [eHalf]
  rw [half_reads hd h]
  rfl

/-- The scaled queries over the reals, -/
def qsR (L Q : ℕ → ℕ → ℝ) (t d : ℕ) : ℝ := Q t d * (2 : ℝ) ^ (total (fun i => L i d) t - halfSum L d)
/-- and the scaled keys. -/
def ksR (L : ℕ → ℕ → ℝ) (t d : ℕ) : ℝ := (1 - (2 : ℝ) ^ L t d) * (2 : ℝ) ^ (halfSum L d - total (fun i => L i d) t)

theorem qs_reads (hd : dd < 2) {l : FVec Ideal S64x128 .f32} {L : ℕ → ℕ → ℝ} (h : Reads dd l L) {q : FVec Ideal S64x128 .bf16}
    {Q : ℕ → ℕ → ℝ} (hq : Reads dd q Q) : Reads dd (qs dd l q) (qsR L Q) := by
  intro r d
  pointwise [qs, rows]
  rw [half_reads hd h, cum_reads hd h, hq, ← EReal.coe_sub, exp2_coe, ← EReal.coe_mul]
  rfl

theorem ks_reads (hd : dd < 2) {l : FVec Ideal S64x128 .f32} {L : ℕ → ℕ → ℝ} (h : Reads dd l L) : Reads dd (ks dd l) (ksR L) := by
  intro r d
  pointwise [ks, rows]
  rw [half_reads hd h, cum_reads hd h, h, ← EReal.coe_sub, exp2_coe, exp2_coe, ← EReal.coe_one, ← EReal.coe_sub, ← EReal.coe_mul]
  rfl

section Prepared

variable (hd : dd < 2) {l : FVec Ideal S1x1x64x128 .f32} {L : ℕ → ℕ → ℝ} (h : Holds dd l L) {q : FVec Ideal S1x1x64x128 .bf16}
  {Q : ℕ → ℕ → ℝ} (hq : Holds dd q Q)
include hd h

theorem preKs_holds : Holds dd (preKs dd l) (ksR L) := Reads.put (ks_reads hd h.get)

theorem preKe_holds : Holds dd (preKe dd l) (fun t d => ksR L t d * (2 : ℝ) ^ halfSum L d) := by
  refine Reads.put fun r d => ?_
  pointwise [rows]
  rw [ks_reads hd h.get, eHalf_reads hd h.get, ← EReal.coe_mul]

theorem preEb_holds (d : Fin 128) : preEb dd l (ix4 0 0 0 d) = (((2 : ℝ) ^ halfSum L d * (2 : ℝ) ^ halfSum L d : ℝ) : EReal) := by
  pointwise [preEb]
  rw [eHalf_reads hd h.get, ← EReal.coe_mul]

include hq

theorem preQs_holds : Holds dd (preQs dd l q) (qsR L Q) := Reads.put (qs_reads hd h.get hq.get)

theorem preQe_holds : Holds dd (preQe dd l q) (fun t d => qsR L Q t d * (2 : ℝ) ^ halfSum L d) := by
  refine Reads.put fun r d => ?_
  pointwise [rows]
  rw [qs_reads hd h.get hq.get, eHalf_reads hd h.get, ← EReal.coe_mul]

end Prepared

/-! ## Scores, outputs, states -/

theorem keep_eq (hd : dd < 2) (r s : Fin 64) : keep dd (ix2 r s) = BitVec.ofBool (decide (pos dd s ≤ pos dd r)) := by
  interval_cases dd
  · show cmpi .sge (iota .tc S64x64 32 [0] iota_S64x64_d0_w32) (iota .tc S64x64 32 [1] iota_S64x64_d1_w32) (ix2 r s) = _
    pointwise
    rw [cmpi_sge_of_lt (by rw [BitVec.toNat_ofNat]; omega) (by rw [BitVec.toNat_ofNat]; omega), BitVec.toNat_ofNat,
      BitVec.toNat_ofNat, Nat.mod_eq_of_lt (by omega), Nat.mod_eq_of_lt (by omega)]
    rfl
  · show cmpi .sle (iota .tc S64x64 32 [0] iota_S64x64_d0_w32) (iota .tc S64x64 32 [1] iota_S64x64_d1_w32) (ix2 r s) = _
    pointwise
    rw [cmpi_sle_of_lt (by rw [BitVec.toNat_ofNat]; omega) (by rw [BitVec.toNat_ofNat]; omega), BitVec.toNat_ofNat,
      BitVec.toNat_ofNat, Nat.mod_eq_of_lt (by omega), Nat.mod_eq_of_lt (by omega)]
    congr 1
    refine decide_eq_decide.mpr ?_
    show _ ↔ 63 - (s : ℕ) ≤ 63 - (r : ℕ)
    omega

theorem score_holds (hd : dd < 2) {q k : FVec Ideal S1x1x64x128 .bf16} {Q K : ℕ → ℕ → ℝ} (hq : Holds dd q Q) (hk : Holds dd k K)
    (r s : Fin 64) : score dd q k (ix4 0 0 r s) =
      ((if pos dd s ≤ pos dd r then ∑ d ∈ range 128, Q (pos dd r) d * K (pos dd s) d else 0 : ℝ) : EReal) := by
  pointwise [score]
  rw [keep_eq hd, sum_mul_coe _ _ _ _ (hq.get r) (hk.get s), ← EReal.coe_zero, select_le]

/-- A state block holds the reals `T`, by key and value lane (the block is stored value lane first). -/
def HoldsS (st : FVec Ideal S1x1x128x128 .f32) (T : ℕ → ℕ → ℝ) : Prop :=
  ∀ e k : Fin 128, st (ix4 0 0 e k) = (T k e : EReal)

theorem outRow_holds {qe v : FVec Ideal S1x1x64x128 .bf16} {st : FVec Ideal S1x1x128x128 .f32} {a : FVec Ideal S1x1x64x64 .bf16}
    {Q V T A : ℕ → ℕ → ℝ} (hq : Holds dd qe Q) (hs : HoldsS st T)
    (ha : ∀ r s : Fin 64, a (ix4 0 0 r s) = (A (pos dd r) (pos dd s) : EReal)) (hv : Holds dd v V) :
    Holds dd (outRow qe st a v) (fun t e => (∑ k ∈ range 128, Q t k * T k e) + ∑ s ∈ range 64, A t s * V s e) := by
  refine Reads.put fun r e => ?_
  pointwise
  rw [sum_mul_coe _ _ (fun k => Q (pos dd r) k) (fun k => T k e) (hq.get r) (hs e),
    sum_mul_pos dd _ _ (fun s => A (pos dd r) s) (fun s => V s e) (ha r) (fun s => hv.get s e), ← EReal.coe_add]

theorem newState_holds {st : FVec Ideal S1x1x128x128 .f32} {eb : FVec Ideal S1x1x1x128 .f32} {v ke : FVec Ideal S1x1x64x128 .bf16}
    {V K T : ℕ → ℕ → ℝ} {E : ℕ → ℝ} (hs : HoldsS st T) (he : ∀ d : Fin 128, eb (ix4 0 0 0 d) = (E d : EReal)) (hv : Holds dd v V)
    (hk : Holds dd ke K) : HoldsS (newState st eb v ke) (fun k e => T k e * E k + ∑ s ∈ range 64, V s e * K s k) := by
  intro e k
  pointwise [newState]
  rw [sum_mul_pos dd _ _ (fun s => V s e) (fun s => K s k) (fun s => hv.get s e) (fun s => hk.get s k), hs, he, ← EReal.coe_mul,
    ← EReal.coe_add]

theorem outState_holds {st : FVec Ideal S1x1x128x128 .f32} {T : ℕ → ℕ → ℝ} (hs : HoldsS st T) (k e : Fin 128) :
    outState st (ix5 0 0 0 k e) = (T k e : EReal) := by
  pointwise [outState]
  exact hs e k

theorem zero_holds (i : S2x8x128x128.Idx) : zeroState (F := Ideal) i = 0 := by
  pointwise [zeroState]

end Cert.Stages

end
-- ==== Proof.Levels.lean ====
/- THE LEVELS OVER THE REALS.  Where a grid point's inputs are real numbers, its states are the recurrence's at the chunks'
   ends and its outputs are the recurrence's outputs. -/
module

public import proofs.«01_k».proof.Proof.Lookup
public import proofs.«01_k».proof.Proof.Stages

@[expose] public section

set_option maxRecDepth 16384

noncomputable section

namespace Cert.Levels

open Cert.Model Cert.Recurrence Cert.Stages Cert.KernelIdeal Cert.KernelIdeal.Gen Idealize.ShloMosaic Idealize.ShloMosaic.TcCoe
open Finset (range sum_congr)

/-- The inputs of a grid point are the reals `L` (log gates), `Q` and `V`, by direction, head, token in the direction's order,
    and lane. -/
structure Inputs (X : Ctx Ideal) (L Q V : ℕ → ℕ → ℕ → ℕ → ℝ) : Prop where
  l : ∀ a b n, a < 2 → b < 8 → n < 4 → Holds a (X.l a b (ch a n)) (fun t d => L a b (64 * n + t) d)
  q : ∀ a b n, a < 2 → b < 8 → n < 4 → Holds a (X.q a b (ch a n)) (fun t d => Q a b (64 * n + t) d)
  v : ∀ a b n, a < 2 → b < 8 → n < 4 → Holds a (X.v a b (ch a n)) (fun t d => V a b (64 * n + t) d)

variable {X : Ctx Ideal} {L Q V : ℕ → ℕ → ℕ → ℕ → ℝ} (I : Inputs X L Q V) {a b : ℕ} (ha : a < 2) (hb : b < 8)
include I ha hb

/-- After `n` levels the state is the recurrence's after `64 n` tokens. -/
theorem states_holds : ∀ n, n ≤ 4 →
    HoldsS (states X a b n) (fun k e => state (fun i => L a b i k) (fun i => V a b i e) (64 * n))
  | 0, _ => fun _ _ => zero_holds _
  | n + 1, h => by
    have hl := I.l a b n ha hb (by omega)
    have e := newState_holds (eb := preEb a (X.l a b (ch a n)))
      (E := fun d => (2 : ℝ) ^ halfSum (fun t d => L a b (64 * n + t) d) d * (2 : ℝ) ^ halfSum (fun t d => L a b (64 * n + t) d) d)
      (states_holds n (by omega)) (preEb_holds ha hl) (I.v a b n ha hb (by omega)) (preKe_holds ha hl)
    intro v k
    refine (e v k).trans (congrArg _ ?_)
    refine (state_step (fun i => L a b i k) (fun i => V a b i v) (64 * n) (halfSum (fun t d => L a b (64 * n + t) d) k) ?_).trans ?_
    · unfold halfSum; ring
    · rw [show 64 * (n + 1) = 64 * n + 64 by ring]

/-- A level's outputs are the recurrence's over its 64 tokens. -/
theorem outs_holds {n : ℕ} (hn : n < 4) :
    Holds a (outs X n a b) (fun t e => output 128 (L a b) (Q a b) (fun i => V a b i e) (64 * n + t)) := by
  have hl := I.l a b n ha hb hn
  have hq := I.q a b n ha hb hn
  have e := outRow_holds (a := score a (preQs a (X.l a b (ch a n)) (X.q a b (ch a n))) (preKs a (X.l a b (ch a n))))
    (A := fun t s => if s ≤ t then ∑ d ∈ range 128, qsR (fun t d => L a b (64 * n + t) d) (fun t d => Q a b (64 * n + t) d) t d *
      ksR (fun t d => L a b (64 * n + t) d) s d else 0) (preQe_holds ha hl hq)
    (states_holds I ha hb n hn.le)
    (fun r s => score_holds ha (preQs_holds ha hl hq) (preKs_holds ha hl) r s) (I.v a b n ha hb hn)
  intro r d
  refine (e r d).trans (congrArg _ ?_)
  exact output_step 128 (L a b) (Q a b) (fun i => V a b i d) (64 * n) (pos a r) (pos_lt a r.isLt)
    (fun k => halfSum (fun t d => L a b (64 * n + t) d) k)

end Cert.Levels

end
-- ==== Proof.Spec.lean ====
/- WHAT BOTH PROGRAMS COMPUTE, IN REAL NUMBERS.  Four arrays of reals stand for the arguments; a direction reads a row's tokens
   in its own order, and its outputs and final state are those of the gated recurrence. -/
module

public import proofs.«01_k».proof.Proof.Stages

@[expose] public section

noncomputable section

namespace Cert.Spec

open Idealize.ShloMosaic Cert.Recurrence

/-- The arguments as reals, by row, token, head and channel: queries, forward and backward log gates, values. -/
structure Data where
  q : ℕ → ℕ → ℕ → ℕ → ℝ
  lf : ℕ → ℕ → ℕ → ℕ → ℝ
  lb : ℕ → ℕ → ℕ → ℕ → ℝ
  v : ℕ → ℕ → ℕ → ℕ → ℝ

/-- The token at place `i` in the order of direction `a`, which is also the place of token `i`. -/
def flip (a i : ℕ) : ℕ := Nat.rec i (fun _ _ => 255 - i) a

variable (D : Data) (u : ℕ)

/-- The log gates that direction `a` uses. -/
def Data.gate (a : ℕ) : ℕ → ℕ → ℕ → ℕ → ℝ := Nat.rec D.lf (fun _ _ => D.lb) a

/-- Row `u`'s log gates, queries and values of head `b` in the order of direction `a`. -/
def Data.L (a b i k : ℕ) : ℝ := D.gate a u (flip a i) b k
def Data.Q (a b i k : ℕ) : ℝ := D.q u (flip a i) b k
def Data.V (a b i k : ℕ) : ℝ := D.v u (flip a i) b k

/-- Element `(k, e)` of the state of direction `a` and head `b` after `n` tokens, -/
def Data.stateAt (a b n k e : ℕ) : ℝ := state (fun i => D.L u a b i k) (fun i => D.V u a b i e) n

/-- and channel `e` of its output at place `i`. -/
def Data.out (a b i e : ℕ) : ℝ := output 128 (D.L u a b) (D.Q u a b) (fun i => D.V u a b i e) i

/-- The array `x` holds the reals `A`. -/
def Real4 (x : FVec Ideal ⟨4, ![32, 256, 8, 128]⟩ .f32) (A : ℕ → ℕ → ℕ → ℕ → ℝ) : Prop :=
  ∀ (u : Fin 32) (i : Fin 256) (h : Fin 8) (d : Fin 128), x (ix4 u i h d) = (A u i h d : EReal)

end Cert.Spec

end
-- ==== Proof.Point.lean ====
/- A GRID POINT'S INPUTS AND RESULTS AS REALS.  When the arguments hold reals, what a point reads are the reals of its row, so
   its outputs and states are those of the recurrence over that row. -/
module

public import proofs.«01_k».proof.Proof.Blocks
public import proofs.«01_k».proof.Proof.Levels
public import proofs.«01_k».proof.Proof.Spec
public import Idealize.ShloMosaic.Lib.WholeRead

@[expose] public section

set_option maxRecDepth 16384

noncomputable section

namespace Cert.Point

open Cert.Model Cert.Stages Cert.Levels Cert.Blocks Cert.Spec Cert.Recurrence Cert.KernelIdeal Cert.KernelIdeal.Gen
open Idealize.ShloMosaic Idealize.ShloMosaic.TcCoe
open Idealize.ShloMosaic.Pipeline (Dat)

/-- Row `r` of chunk `n` in a head's rows of a block. -/
theorem tok_emb {b n : ℕ} (hb : b < 8) (hn : n < 4) (r : Fin 64) (d : Fin 128) :
    (tok b n).emb (ix4 0 0 r d) = ix4 (⟨b, hb⟩ : Fin 8) 0 (⟨64 * n + r, by omega⟩ : Fin 256) d := by
  funext a
  apply Fin.ext
  fin_cases a
  · show b % 8 + 0 * 1 = b
    omega
  · rfl
  · show 64 * (n % 4) + 1 * (r : ℕ) = 64 * n + r
    omega
  · show 0 + 1 * (d : ℕ) = d
    omega

/-- The rows of a chunk read through a whole buffer are the contents' rows. -/
theorem read_tok {φ : EltTy} (M : Memref sig .tc .vmem S8x1x256x128 φ) (h : M.IsWhole) (x : Vec Ideal S8x1x256x128 φ) {b n : ℕ} (hb : b < 8)
    (hn : n < 4) (r : Fin 64) (d : Fin 128) : View.readAt (Elt Ideal) M.view (tok b n).toLoadRect (h.unread x) (ix4 0 0 r d)
      = x (ix4 (⟨b, hb⟩ : Fin 8) 0 (⟨64 * n + r, by omega⟩ : Fin 256) d) :=
  (Memref.IsWhole.readAt_unread h x (tok b n).toLoadRect (ix4 0 0 r d)).trans (congrArg x (tok_emb hb hn r d))

/-- A chunk's row in the order of a direction. -/
theorem flip_ch {a n : ℕ} (ha : a < 2) (hn : n < 4) {r : ℕ} (hr : r < 64) : flip a (64 * n + pos a r) = 64 * ch a n + r := by
  obtain rfl | rfl : a = 0 ∨ a = 1 := by omega
  · rfl
  · show 255 - (64 * n + (63 - r)) = 64 * (3 - n) + r
    omega

theorem ch_lt (a : ℕ) {n : ℕ} (hn : n < 4) : ch a n < 4 := by
  cases a with
  | zero => exact hn
  | succ a => show 3 - n < 4; omega

variable (m : (ℓ : Loc nD τ sig) → Buf (Elt Ideal) ℓ) (c : Dev nD) (t : Fin cfg0.N) (D : Data)

/-- The arguments hold the reals `D`. -/
structure Args : Prop where
  q : Real4 (m ((c : Thread nD τ).loc main_arg0)) D.q
  lf : Real4 (m ((c : Thread nD τ).loc main_arg1)) D.lf
  lb : Real4 (m ((c : Thread nD τ).loc main_arg2)) D.lb
  v : Real4 (m ((c : Thread nD τ).loc main_arg3)) D.v

variable {m c D} (A : Args m c D)
include A

/-- What a point reads are its row's reals. -/
theorem inputs : Inputs (point m c t) (D.L t) (D.Q t) (D.V t) where
  l a b n ha hb hn r d := by
    show _ = ((D.gate a t (flip a (64 * n + pos a r)) b d : ℝ) : EReal)
    rw [flip_ch ha hn r.isLt]
    have hc := ch_lt a hn
    obtain rfl | rfl : a = 0 ∨ a = 1 := by omega
    · exact (read_tok _ _ _ hb hc r d).trans ((block2 m c t _ _ d).trans ((host_lf m c _ _ d _).trans (A.lf _ _ _ d)))
    · exact (read_tok _ _ _ hb hc r d).trans ((block3 m c t _ _ d).trans ((host_lb m c _ _ d _).trans (A.lb _ _ _ d)))
  q a b n ha hb hn r d := by
    show _ = ((D.q t (flip a (64 * n + pos a r)) b d : ℝ) : EReal)
    rw [flip_ch ha hn r.isLt]
    have hc := ch_lt a hn
    obtain rfl | rfl : a = 0 ∨ a = 1 := by omega
    · exact (read_tok _ _ _ hb hc r d).trans ((block0 m c t _ _ d).trans ((host_q m c _ _ d _).trans (A.q _ _ _ d)))
    · exact (read_tok _ _ _ hb hc r d).trans ((block1 m c t _ _ d).trans ((host_q m c _ _ d _).trans (A.q _ _ _ d)))
  v a b n ha hb hn r d := by
    show _ = ((D.v t (flip a (64 * n + pos a r)) b d : ℝ) : EReal)
    rw [flip_ch ha hn r.isLt]
    have hc := ch_lt a hn
    obtain rfl | rfl : a = 0 ∨ a = 1 := by omega
    · exact (read_tok _ _ _ hb hc r d).trans ((block4 m c t _ _ d).trans ((host_v m c _ _ d _).trans (A.v _ _ _ d)))
    · exact (read_tok _ _ _ hb hc r d).trans ((block5 m c t _ _ d).trans ((host_v m c _ _ d _).trans (A.v _ _ _ d)))

/-- A point's outputs are those of the recurrence, -/
theorem point_out {a : ℕ} (ha : a < 2) (h : Fin 8) (i : Fin 256) (d : Fin 128) :
    View.canon (outL (point m c t) a 32) (ix4 h 0 i d) = (D.out t a h (flip a i) d : EReal) := by
  have hn : ch a (i / 64) < 4 := ch_lt a (by omega)
  have hcc : ch a (ch a ((i : ℕ) / 64)) = i / 64 := by
    obtain rfl | rfl : a = 0 ∨ a = 1 := by omega
    · rfl
    · show 3 - (3 - (i : ℕ) / 64) = i / 64
      omega
  have hr : (i : ℕ) % 64 < 64 := Nat.mod_lt _ (by omega)
  have e : (tok h (ch a (ch a ((i : ℕ) / 64)))).emb (ix4 0 0 (⟨i % 64, hr⟩ : Fin 64) d) = ix4 h 0 i d := by
    rw [hcc, tok_emb h.isLt (show (i : ℕ) / 64 < 4 by omega)]
    congr 1
    apply Fin.ext
    show 64 * ((i : ℕ) / 64) + i % 64 = i
    omega
  have p : flip a i = 64 * ch a ((i : ℕ) / 64) + pos a (i % 64) := by
    obtain rfl | rfl : a = 0 ∨ a = 1 := by omega
    · show (i : ℕ) = 64 * ((i : ℕ) / 64) + i % 64
      omega
    · show 255 - (i : ℕ) = 64 * (3 - (i : ℕ) / 64) + (63 - i % 64)
      omega
  rw [← e, canon_outL (point m c t) ha hn h.isLt, p]
  exact outs_holds (inputs t A) ha h.isLt hn (⟨i % 64, hr⟩ : Fin 64) d

/-- and so are its final states. -/
theorem point_fin (a : Fin 2) (h : Fin 8) (k e : Fin 128) :
    View.canon (finL (point m c t) 16) (ix5 0 a h k e) = (D.stateAt t a h 256 k e : EReal) := by
  have E : (slotO a h).emb (ix5 0 0 0 k e) = ix5 0 a h k e := by
    funext x
    apply Fin.ext
    fin_cases x
    · rfl
    · show (a : ℕ) % 2 + 0 * 1 = a
      omega
    · show (h : ℕ) % 8 + 0 * 1 = h
      omega
    · show 0 + 1 * (k : ℕ) = k
      omega
    · show 0 + 1 * (e : ℕ) = e
      omega
  rw [← E, canon_finL (point m c t) a.isLt h.isLt]
  exact outState_holds (states_holds (inputs t A) a.isLt h.isLt (n := 4) le_rfl) k e

/-- The kernel's final arrays hold the recurrence's outputs and states. -/
theorem result0 (h : Fin 8) (u : Fin 32) (i : Fin 256) (d : Fin 128) :
    (dats m 0 c).arrAt 6 cfg0.N (ix4 h u i d) = (D.out u 0 h i d : EReal) :=
  (final6 m c (Fin.cast N_0.symm u) h i d).trans (point_out (Fin.cast N_0.symm u) A (by omega) h i d)

theorem result1 (h : Fin 8) (u : Fin 32) (i : Fin 256) (d : Fin 128) :
    (dats m 0 c).arrAt 7 cfg0.N (ix4 h u i d) = (D.out u 1 h (255 - i) d : EReal) :=
  (final7 m c (Fin.cast N_0.symm u) h i d).trans (point_out (Fin.cast N_0.symm u) A (by omega) h i d)

theorem result2 (u : Fin 32) (a : Fin 2) (h : Fin 8) (k e : Fin 128) :
    (dats m 0 c).arrAt 8 cfg0.N (ix5 u a h k e) = (D.stateAt u a h 256 k e : EReal) :=
  (final8 m c (Fin.cast N_0.symm u) a h k e).trans (point_fin (Fin.cast N_0.symm u) A a h k e)

end Cert.Point

end
-- ==== Proof.RefRun.lean ====
/- THE REFERENCE'S RUN, AS ITS STATE BY THE NUMBER OF TOKENS READ.  The reference's loop reads one token a trip.  `refAt`
   is the state after `k` tokens, `Step.step` iterated on what the program hands the first trip; `run_refAt` says that the
   three results are made of the state after the last token. -/
module

public import proofs.«01_k».proof.Proof.Gen.ReferenceIdeal.Run
public import proofs.«01_k».proof.Proof.Gen.ReferenceIdeal.Step

@[expose] public section

noncomputable section

namespace Cert.RefRun

open Cert.ReferenceIdeal Cert.ReferenceIdeal.Gen Cert.ReferenceIdeal.Step Cert.ReferenceIdeal.Value
open Idealize.ShloMosaic Idealize.ShloMosaic.TcCoe Idealize.SL.Sem
open Idealize.ShloMosaic.StableHlo

variable {F : FTy → Type} [FloatOps F]

/-- The buffers `V` hold trip number `j` in the counter and the state `s` in the carried arrays. -/
structure Holds (j : ℕ) (V : Valuation τ sig (Elt F)) (s : State F) : Prop where
  ctr : V (Proc.devRef .tc main_v13_3) = constantI S_ 32 (BitVec.ofNat 32 j)
  q : V (Proc.devRef .tc main_v13_0) = s.main_v13_0
  f : V (Proc.devRef .tc main_v13_1) = s.main_v13_1
  v : V (Proc.devRef .tc main_v13_2) = s.main_v13_2
  S : V (Proc.devRef .tc main_v13_4) = s.main_v13_4
  o : V (Proc.devRef .tc main_v13_5) = s.main_v13_5

set_option maxRecDepth 65536 in
/-- A trip takes buffers that hold a state to buffers that hold the next one. -/
theorem Holds.trip {j : ℕ} {V : Valuation τ sig (Elt F)} {s : State F} (h : Holds j V s) : Holds (j + 1) (STEP V) (step j s) := by
  obtain ⟨a, b, c, d, e⟩ := s
  obtain ⟨hc, h0, h1, h2, h4, h5⟩ := h
  simp only at h0 h1 h2 h4 h5
  subst h0 h1 h2 h4 h5
  refine ⟨?_, ?_, ?_, ?_, ?_, ?_⟩
  · rw [STEP_main_v13_3]; unfold step_main_v13_3; rw [hc]
    funext i
    show BitVec.ofNat 32 j + 1#32 = BitVec.ofNat 32 (j + 1)
    rw [BitVec.ofNat_add]
  · exact STEP_main_v13_0 V
  · exact STEP_main_v13_1 V
  · exact STEP_main_v13_2 V
  · rw [STEP_main_v13_4]; unfold Value.step_main_v13_4 res_main_while0b_v40 res_main_while0b_v28; simp only [hc]; rfl
  · rw [STEP_main_v13_5]; unfold Value.step_main_v13_5 res_main_while0b_v40 res_main_while0b_v28; simp only [hc]; rfl

variable (m : (ℓ : Loc nD τ sig) → Buf (Elt F) ℓ) (ρ : Dev nD → PrngReg)

/-- The state that the program hands the first trip. -/
def start (c : Dev nD) : State F :=
  init (m ((c.tc : Thread nD τ).loc main_arg0)) (m ((c.tc : Thread nD τ).loc main_arg1))
    (m ((c.tc : Thread nD τ).loc main_arg2)) (m ((c.tc : Thread nD τ).loc main_arg3))

/-- The state after `k` tokens, from the state `s`. -/
def refAt (s : State F) : ℕ → State F
  | 0 => s
  | k + 1 => step k (refAt s k)

set_option maxRecDepth 65536 in
set_option maxHeartbeats 2000000 in
/-- The loop is entered holding the first state, -/
theorem holds_start (c : Dev nD) : Holds 0 (entryContents preI m c) (start m c) := by
  constructor <;> (simp only [entryContents, afterL_cons, afterL_nil]; after_reads_simp) <;> rfl

/-- and after `k` trips it holds the state after `k` tokens. -/
theorem holds_refAt (c : Dev nD) : ∀ k, Holds k (STEP^[k] (entryContents preI m c)) (refAt (start m c) k)
  | 0 => holds_start m c
  | k + 1 => by rw [Function.iterate_succ_apply']; exact (holds_refAt c k).trip

/-- The reference terminates with its results made of the state after the last token, its arguments unchanged. -/
theorem run_refAt : θ_run (defs (F := F)) (onTc (τ := τ) (main (F := F))) ⟨m, fun _ => 0, ρ⟩ fun r => ∀ c : Dev nD,
      r.2.mem ((c.tc : Thread nD τ).loc main_v17) = R_main_v17 (refAt (start m c) 256)
      ∧ r.2.mem ((c.tc : Thread nD τ).loc main_v21) = R_main_v21 (refAt (start m c) 256)
      ∧ r.2.mem ((c.tc : Thread nD τ).loc main_v26) = R_main_v26 (refAt (start m c) 256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run m ρ)
  obtain ⟨h17, h21, h26, ha⟩ := h c
  have H := holds_refAt m c 256
  refine ⟨h17.trans ?_, h21.trans ?_, h26.trans ?_, ha⟩
  · unfold out_main_v17 R_main_v17; rw [← H.o]
  · unfold out_main_v21 R_main_v21; rw [← H.o]
  · unfold out_main_v26 R_main_v26; rw [← H.S]

end Cert.RefRun

end
-- ==== Proof.RefValue.lean ====
/- THE REFERENCE'S STATE AS REALS.  Batch entry `B` of the reference is row `B % 32` in direction `B / 32`.  When the arguments
   hold reals, its state after `k` tokens holds the recurrence's state after `k` tokens and its outputs at the first `k` places. -/
module

public import proofs.«01_k».proof.Proof.RefRun
public import proofs.«01_k».proof.Proof.Spec
public import Idealize.ShloMosaic.Lib.Pointwise
public import Idealize.ShloMosaic.Lib.WordCmp
public import Idealize.ShloMosaic.Lib.DynamicIndex

@[expose] public section

set_option maxRecDepth 16384

noncomputable section

namespace Cert.RefValue

open Cert.RefRun Cert.Spec Cert.Stages Cert.Recurrence Cert.ReferenceIdeal Cert.ReferenceIdeal.Gen Cert.ReferenceIdeal.Step
open Idealize.ShloMosaic Idealize.ShloMosaic.TcCoe

/-- The state `s` is that after `k` tokens. -/
structure After (D : Data) (k : ℕ) (s : State Ideal) : Prop where
  q : ∀ (i : Fin 256) (B : Fin 64) (h : Fin 8) (d : Fin 128), s.main_v13_0 (ix4 i B h d) = (D.Q (B % 32) (B / 32) h i d : EReal)
  f : ∀ (i : Fin 256) (B : Fin 64) (h : Fin 8) (d : Fin 128),
    s.main_v13_1 (ix4 i B h d) = ((2 : ℝ) ^ D.L (B % 32) (B / 32) h i d : ℝ)
  v : ∀ (i : Fin 256) (B : Fin 64) (h : Fin 8) (d : Fin 128), s.main_v13_2 (ix4 i B h d) = (D.V (B % 32) (B / 32) h i d : EReal)
  S : ∀ (B : Fin 64) (h : Fin 8) (x e : Fin 128), s.main_v13_4 (ix4 B h x e) = (D.stateAt (B % 32) (B / 32) h k x e : EReal)
  o : ∀ (i : Fin 256) (B : Fin 64) (h : Fin 8) (e : Fin 128), (i : ℕ) < k →
    s.main_v13_5 (ix4 i B h e) = (D.out (B % 32) (B / 32) h i e : EReal)

variable {x0 x1 x2 x3 : FVec Ideal S32x256x8x128 .f32} {D : Data}

theorem two_word : Ideal.ofBits .f32 0x40000000#32 = ((2 : ℝ) : EReal) := by
  simp [Ideal.ofBits, Ideal.ieee, -EReal.coe_mul]; norm_num

/-- The reference's batch is the forward rows followed by the backward ones, each backward row's tokens in reverse. -/
theorem halves {y0 y1 : FVec Ideal S32x256x8x128 .f32} {A0 A1 : ℕ → ℕ → ℕ → ℕ → ℝ} (h0 : Real4 y0 A0) (h1 : Real4 y1 A1)
    (B : Fin 64) (i : Fin 256) (h : Fin 8) (d : Fin 128) :
    concatenate S64x256x8x128 0 [⟨S32x256x8x128, y0⟩, ⟨S32x256x8x128, Host.reverse [1] y1⟩] concatenates_S32x256x8x128_S32x256x8x128_S64x256x8x128_d0
      (ix4 B i h d) = ((Nat.rec A0 (fun _ _ => A1) (B / 32 : ℕ) : ℕ → ℕ → ℕ → ℕ → ℝ) (B % 32) (flip (B / 32) i) h d : EReal) := by
  pointwise
  by_cases hB : (B : ℕ) < 32
  · rw [dif_pos hB, h0, show (B : ℕ) / 32 = 0 by omega, Nat.mod_eq_of_lt hB]
    rfl
  · rw [dif_neg hB, show (B : ℕ) / 32 = 1 by omega, show (B : ℕ) % 32 = B - 32 by omega]
    have hi : (i.rev : ℕ) = flip 1 i := by
      show 256 - ((i : ℕ) + 1) = 255 - i
      omega
    rw [← hi]
    exact h1 ⟨B - 32, by omega⟩ i.rev h d

/-- The three arrays that the loop reads, token first. -/
theorem init_q (h0 : Real4 x0 D.q) (i : Fin 256) (B : Fin 64) (h : Fin 8) (d : Fin 128) :
    A_main_v9 (F := Ideal) x0 x1 x2 x3 (ix4 i B h d) = (D.Q (B % 32) (B / 32) h i d : EReal) := by
  unfold A_main_v9
  pointwise
  refine (halves h0 h0 B i h d).trans ?_
  generalize (B : ℕ) / 32 = a
  cases a <;> rfl

theorem init_f (h1 : Real4 x1 D.lf) (h2 : Real4 x2 D.lb) (i : Fin 256) (B : Fin 64) (h : Fin 8) (d : Fin 128) :
    A_main_v10 (F := Ideal) x0 x1 x2 x3 (ix4 i B h d) = ((2 : ℝ) ^ D.L (B % 32) (B / 32) h i d : ℝ) := by
  unfold A_main_v10 A_main_v7 K_main_v6 K_main_cst
  pointwise
  rw [two_word, show A_main_v3 (F := Ideal) x0 x1 x2 x3 (ix4 B i h d) = (D.L (B % 32) (B / 32) h i d : EReal) from halves h1 h2 B i h d]
  exact Ideal.pow_coe_coe _ _

theorem init_v (h3 : Real4 x3 D.v) (i : Fin 256) (B : Fin 64) (h : Fin 8) (d : Fin 128) :
    A_main_v11 (F := Ideal) x0 x1 x2 x3 (ix4 i B h d) = (D.V (B % 32) (B / 32) h i d : EReal) := by
  unfold A_main_v11
  pointwise
  refine (halves h3 h3 B i h d).trans ?_
  generalize (B : ℕ) / 32 = a
  cases a <;> rfl

/-- Where trip `k` reads and writes. -/
theorem starts {k : ℕ} (hk : k < 256) (a : Fin 4) :
    ((![(constantI S_ 32 (BitVec.ofNat 32 k) : IVec S_ 32), constantI S_ 32 0#32, constantI S_ 32 0#32, constantI S_ 32 0#32] :
      Fin 4 → IVec S_ 32) a (Shape.Idx.first h_S_)).toInt = ((![k, 0, 0, 0] : Fin 4 → ℕ) a : ℤ) := by
  fin_cases a
  · exact toInt_ofNat_of_lt (by omega)
  · rfl
  · rfl
  · rfl

theorem fits {k : ℕ} (hk : k < 256) : S256x64x8x128.Slices ![k, 0, 0, 0] S1x64x8x128 := by
  refine ⟨rfl, fun a => ?_⟩
  fin_cases a
  · show k + 1 ≤ 256
    omega
  · show 0 + 64 ≤ 64
    omega
  · show 0 + 8 ≤ 8
    omega
  · show 0 + 128 ≤ 128
    omega

variable {k : ℕ} {s : State Ideal}

/-- Trip `k` reads row `k` of the queries, gates and values. -/
theorem row_q (hk : k < 256) (B : Fin 64) (h : Fin 8) (d : Fin 128) : b4 k s (ix3 B h d) = s.main_v13_0 (ix4 ⟨k, hk⟩ B h d) := by
  unfold b4 b3
  rw [Host.dynamicSlice_eq_extractStridedSlice _ _ _ ![k, 0, 0, 0] _ (fits hk) (starts hk)]
  pointwise

theorem row_f (hk : k < 256) (B : Fin 64) (h : Fin 8) (d : Fin 128) : b9 k s (ix3 B h d) = s.main_v13_1 (ix4 ⟨k, hk⟩ B h d) := by
  unfold b9 b8
  rw [Host.dynamicSlice_eq_extractStridedSlice _ _ _ ![k, 0, 0, 0] _ (fits hk) (starts hk)]
  pointwise

theorem row_v (hk : k < 256) (B : Fin 64) (h : Fin 8) (d : Fin 128) : b14 k s (ix3 B h d) = s.main_v13_2 (ix4 ⟨k, hk⟩ B h d) := by
  unfold b14 b13
  rw [Host.dynamicSlice_eq_extractStridedSlice _ _ _ ![k, 0, 0, 0] _ (fits hk) (starts hk)]
  pointwise

theorem S_step (hk : k < 256) (H : After D k s) (B : Fin 64) (h : Fin 8) (x e : Fin 128) :
    b26 k s (ix4 B h x e) = (D.stateAt (B % 32) (B / 32) h (k + 1) x e : EReal) := by
  unfold b26 b25 b24 b23 b22 b21 b20 b19 b18 b17 b16 b15
  pointwise
  rw [row_f hk, row_v hk, H.f, H.v, H.S, ← EReal.coe_mul, ← EReal.coe_one, ← EReal.coe_sub, ← EReal.coe_mul, ← EReal.coe_add]
  rfl

theorem o_step (hk : k < 256) (H : After D k s) (i : Fin 256) (B : Fin 64) (h : Fin 8) (e : Fin 128) (hi : (i : ℕ) < k + 1) :
    b32 k s (ix4 i B h e) = (D.out (B % 32) (B / 32) h i e : EReal) := by
  unfold b32 b28 b27
  rw [WordCmp.dynamicUpdateSlice_eq_update _ _ _ _ ![k, 0, 0, 0] (fits hk) (starts hk)]
  pointwise
  by_cases e0 : (i : ℕ) = k
  · rw [dif_pos (by omega), e0]
    exact sum_mul_coe (fun x => b4 k s (ix3 B h x)) (fun x => b26 k s (ix4 B h x e)) (D.Q (B % 32) (B / 32) h k)
      (fun x => D.stateAt (B % 32) (B / 32) h (k + 1) x e) (fun x => (row_q hk B h x).trans (H.q ⟨k, hk⟩ B h x))
      (fun x => S_step hk H B h x e)
  · rw [dif_neg (by omega)]
    exact H.o i B h e (by omega)

/-- The loop's state after `k` tokens, -/
theorem after (h0 : Real4 x0 D.q) (h1 : Real4 x1 D.lf) (h2 : Real4 x2 D.lb) (h3 : Real4 x3 D.v) :
    ∀ k, k ≤ 256 → After D k (refAt (init x0 x1 x2 x3) k)
  | 0, _ => ⟨init_q h0, init_f h1 h2, init_v h3, fun B h x e => by
      show K_main_v8 (F := Ideal) (ix4 B h x e) = _
      unfold K_main_v8 K_main_cst_0
      pointwise
      rfl, fun _ _ _ _ hi => absurd hi (Nat.not_lt_zero _)⟩
  | k + 1, hk =>
    have H := after h0 h1 h2 h3 k (by omega)
    ⟨H.q, H.f, H.v, S_step (by omega) H, o_step (by omega) H⟩

variable (H : After D 256 s)
include H

/-- so a row's outputs and final states are found at its batch entry in either direction, -/
theorem o_at {a : ℕ} (u : Fin 32) (B : Fin 64) (e : (B : ℕ) = 32 * a + u) (i : Fin 256) (h : Fin 8) (d : Fin 128) :
    s.main_v13_5 (ix4 i B h d) = (D.out u a h i d : EReal) := by
  rw [H.o i B h d i.isLt, show (B : ℕ) % 32 = u by omega, show (B : ℕ) / 32 = a by omega]

theorem S_at {a : ℕ} (u : Fin 32) (B : Fin 64) (e : (B : ℕ) = 32 * a + u) (h : Fin 8) (k x : Fin 128) :
    s.main_v13_4 (ix4 B h k x) = (D.stateAt u a h 256 k x : EReal) := by
  rw [H.S B h k x, show (B : ℕ) % 32 = u by omega, show (B : ℕ) / 32 = a by omega]

/-- and the results are made of them. -/
theorem out0 (h : Fin 8) (u : Fin 32) (i : Fin 256) (d : Fin 128) : R_main_v17 s (ix4 h u i d) = (D.out u 0 h i d : EReal) := by
  unfold R_main_v17
  pointwise
  exact o_at H u _ (by show (u : ℕ) = 32 * 0 + u; omega) i h d

theorem out1 (h : Fin 8) (u : Fin 32) (i : Fin 256) (d : Fin 128) : R_main_v21 s (ix4 h u i d) = (D.out u 1 h (255 - i : ℕ) d : EReal) := by
  unfold R_main_v21
  pointwise
  have hi : (i.rev : ℕ) = 255 - i := by
    show 256 - ((i : ℕ) + 1) = 255 - i
    omega
  rw [← hi]
  exact o_at H u ⟨32 + u, by omega⟩ (by show 32 + (u : ℕ) = 32 * 1 + u; omega) i.rev h d

theorem out2 (u : Fin 32) (a : Fin 2) (h : Fin 8) (k e : Fin 128) : R_main_v26 s (ix5 u a h k e) = (D.stateAt u a h 256 k e : EReal) := by
  unfold R_main_v26
  pointwise
  split_ifs with ha
  · exact S_at H u _ (by show (u : ℕ) = 32 * a + u; omega) h k e
  · exact S_at H u _ (by show 32 + (u : ℕ) = 32 * a + u; omega) h k e

end Cert.RefValue

end
-- ==== Proof.Finite.lean ====
/- THE PRECONDITION.  That the arguments are finite says that they hold real numbers. -/
module

public import proofs.«01_k».proof.Proof.Spec
public import proofs.«01_k».proof.Proof.Gen.Pre_finite
public import Idealize.ShloMosaic.Lib.Pointwise
public import Idealize.ShloMosaic.Lib.ReduceAll

@[expose] public section

noncomputable section

namespace Cert.Finite

open Cert.Pre_finite Cert.Pre_finite.Gen Cert.Spec Idealize.ShloMosaic

theorem inf_word : Ideal.ofBits .f32 0x7F800000#32 = (⊤ : EReal) := by
  simp [Ideal.ofBits, Ideal.ieee]

/-- An array whose elements are all less than infinity in absolute value holds reals. -/
theorem real_of_all (x : FVec Ideal S32x256x8x128 .f32) (j : S_.Idx)
    (h : Host.reduce IntOp.andi (cmpf .olt (Host.absf x) (broadcastInDim S32x256x8x128 ![] bcast_S_S32x256x8x128
      (constant (F := Ideal) S_ .f32 0x7F800000#32))) (constantI S_ 1 1#1) reducesTo_S32x256x8x128_S_d0_1_2_3 h_S_ j = 1#1) :
    ∃ A, Real4 x A := by
  have hx : ∀ (u : Fin 32) (i : Fin 256) (h : Fin 8) (d : Fin 128), ∃ r : ℝ, x (ix4 u i h d) = (r : EReal) := by
    intro u i b d
    have e := Host.reduce_andi_eq_one _ _ _ _ _ h (ix4 u i b d) (Subsingleton.elim _ _)
    revert e
    pointwise
    rw [inf_word]
    generalize x (ix4 u i b d) = y
    intro e
    have hy : max (y : EReal) (-y) < ⊤ := by
      by_contra hn
      rw [show FloatOps.absf y = max (y : EReal) (-y) from rfl, decide_eq_false hn] at e
      exact absurd e (by decide)
    exact ⟨EReal.toReal y, (EReal.coe_toReal (fun ht => by simp [ht] at hy) (fun hb => by simp [hb] at hy)).symm⟩
  choose A hA using hx
  exact ⟨fun u i b d => if H : u < 32 ∧ i < 256 ∧ b < 8 ∧ d < 128 then A ⟨u, H.1⟩ ⟨i, H.2.1⟩ ⟨b, H.2.2.1⟩ ⟨d, H.2.2.2⟩ else 0,
    fun u i b d => by
      rw [hA]
      dsimp only
      rw [dif_pos ⟨u.isLt, i.isLt, b.isLt, d.isLt⟩]⟩

/-- Under the precondition all four arguments do. -/
theorem data (x0 x1 x2 x3 : FVec Ideal S32x256x8x128 .f32) (h : Cert.Pre_finite.fn (F := Ideal) x0 x1 x2 x3 = fun _ => 1#1) :
    ∃ D : Data, Real4 x0 D.q ∧ Real4 x1 D.lf ∧ Real4 x2 D.lb ∧ Real4 x3 D.v := by
  have e := congrFun h (Shape.Idx.first h_S_)
  unfold Cert.Pre_finite.fn Cert.Pre_finite.fn_part1 at e
  obtain ⟨e, e3⟩ := (IntOp.andi_eq_one).1 e
  obtain ⟨e, e2⟩ := (IntOp.andi_eq_one).1 e
  obtain ⟨e0, e1⟩ := (IntOp.andi_eq_one).1 e
  obtain ⟨q, hq⟩ := real_of_all x0 _ e0
  obtain ⟨lf, hf⟩ := real_of_all x1 _ e1
  obtain ⟨lb, hb⟩ := real_of_all x2 _ e2
  obtain ⟨v, hv⟩ := real_of_all x3 _ e3
  exact ⟨⟨q, lf, lb, v⟩, hq, hf, hb, hv⟩

end Cert.Finite

end
-- ==== Proof.Equal.lean ====
/- THE VALUE CLAIM.  From memories that agree on arguments that hold reals, the kernel's and the reference's results are equal:
   both are the recurrence's outputs and final states. -/
module

public import proofs.«01_k».proof.Defs
public import proofs.«01_k».proof.Proof.Point
public import proofs.«01_k».proof.Proof.RefValue
public import proofs.«01_k».proof.Proof.Finite
public import proofs.«01_k».proof.Proof.Gen.KernelIdeal.Value
public import Idealize.ShloMosaic.Lib.Quiescent

@[expose] public section

set_option maxRecDepth 16384

noncomputable section

namespace Cert.Equal

open Cert.Spec Idealize.ShloMosaic Idealize.ShloMosaic.TcCoe Idealize.SL.Sem

/-- The reference runs, leaves its arguments alone and declares no semaphore. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩ fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0 :=
  (θ_run ReferenceIdeal.defs _ _).mono (fun r h => ⟨fun c => (h c).2.2.2, sem_eq_zero_of_no_sems rfl r.2⟩) (RefRun.run_refAt m g)

section
variable {m : (ℓ : Loc KernelIdeal.nD KernelIdeal.τ KernelIdeal.sig) → Buf (Elt Ideal) ℓ} {c : Dev KernelIdeal.nD} {D : Data}
  {s : ReferenceIdeal.Step.State Ideal} (A : Point.Args m c D) (H : RefValue.After D 256 s)
include A H

/-- The three results, array by array. -/
theorem same0 : ReferenceIdeal.Step.R_main_v17 s = (KernelIdeal.Gen.dats m 0 c).arrAt 6 KernelIdeal.cfg0.N := by
  funext x
  obtain ⟨h, u, i, d, rfl⟩ : ∃ h u i d, x = ix4 h u i d := ⟨x 0, x 1, x 2, x 3, by funext a; fin_cases a <;> rfl⟩
  exact (RefValue.out0 H h u i d).trans (Point.result0 A h u i d).symm

theorem same1 : ReferenceIdeal.Step.R_main_v21 s = (KernelIdeal.Gen.dats m 0 c).arrAt 7 KernelIdeal.cfg0.N := by
  funext x
  obtain ⟨h, u, i, d, rfl⟩ : ∃ h u i d, x = ix4 h u i d := ⟨x 0, x 1, x 2, x 3, by funext a; fin_cases a <;> rfl⟩
  exact (RefValue.out1 H h u i d).trans (Point.result1 A h u i d).symm

theorem same2 : ReferenceIdeal.Step.R_main_v26 s = (KernelIdeal.Gen.dats m 0 c).arrAt 8 KernelIdeal.cfg0.N := by
  funext x
  obtain ⟨u, a, h, k, e, rfl⟩ : ∃ u a h k e, x = ix5 u a h k e := ⟨x 0, x 1, x 2, x 3, x 4, by funext a; fin_cases a <;> rfl⟩
  exact (RefValue.out2 H u a h k e).trans (Point.result2 A u a h k e).symm

end

/-- The kernel and the reference compute the same three arrays. -/
theorem algebraic : algebraic_KernelIdeal_ReferenceIdeal_pre_finite := by
  intro m g m' g' hpre hargs
  refine ⟨fun c => (KernelIdeal.Gen.dats m 0 c).arrAt 6 KernelIdeal.cfg0.N, fun c => (KernelIdeal.Gen.dats m 0 c).arrAt 7 KernelIdeal.cfg0.N,
    fun c => (KernelIdeal.Gen.dats m 0 c).arrAt 8 KernelIdeal.cfg0.N, KernelIdeal.Value.run_blocks m g, ?_⟩
  refine (θ_run ReferenceIdeal.defs _ _).mono (fun r h c => ?_) (RefRun.run_refAt m' g')
  obtain ⟨h0, h1, h2, ha⟩ := h c
  obtain ⟨D, hq, hf, hb, hv⟩ := Finite.data _ _ _ _ (hpre c)
  obtain ⟨e0, e1, e2, e3⟩ := hargs c
  have A : Point.Args m c D := ⟨hq, hf, hb, hv⟩
  have H : RefValue.After D 256 (RefRun.refAt (RefRun.start m' c) 256) := by
    unfold RefRun.start
    rw [e0, e1, e2, e3]
    exact RefValue.after hq hf hb hv 256 le_rfl
  exact ⟨h0.trans (same0 A H), h1.trans (same1 A H), h2.trans (same2 A H), ha⟩

end Cert.Equal

end
-- ==== Proof.Halves.lean ====
/- THE TWO HALVES OF A WORD.  A bf16 number is the upper half of the f32 number with the same value, so a word's halves, each
   put into the upper half of a word of its own and read as f32, are the bf16 numbers of its bits. -/
module

public import Idealize.ShloMosaic.PureOps.Ideal

@[expose] public section

noncomputable section

namespace Cert.Halves

open Idealize.ShloMosaic

/-- The number in the upper half of a word, and in the lower half. -/
def upper (w : BitVec 32) : EReal := Ideal.ofBits .bf16 (w.extractLsb' 16 16)
def lower (w : BitVec 32) : EReal := Ideal.ofBits .bf16 (w.extractLsb' 0 16)

/-- Sixteen bits followed by zeros are in f32 what they are in bf16. -/
theorem widen (h : BitVec 16) : Ideal.ofBits .f32 (h ++ 0#16) = Ideal.ofBits .bf16 h := by
  have hs : (h ++ 0#16).extractLsb' (8 + 23) 1 = h.extractLsb' (8 + 7) 1 := by ext i hi; simp; grind
  have he : (h ++ 0#16).extractLsb' 23 8 = h.extractLsb' 7 8 := by ext i hi; simp; grind
  have hf : ((h ++ 0#16).extractLsb' 0 23).toNat = (h.extractLsb' 0 7).toNat * 2 ^ 16 := by
    have e : (h ++ 0#16).toNat = h.toNat * 65536 := by rw [BitVec.toNat_append, Nat.shiftLeft_eq]; simp
    simp only [BitVec.extractLsb'_toNat, e, Nat.shiftRight_zero]
    omega
  have p1 : (2 : ℝ) ^ (1 - (2 ^ (8 - 1) - 1) - 7 : Int) = 2 ^ 16 * 2 ^ (1 - (2 ^ (8 - 1) - 1) - 23 : Int) := by norm_num
  have p2 (x : Int) : (2 : ℝ) ^ (x - (2 ^ (8 - 1) - 1) - 7 : Int) = 2 ^ 16 * 2 ^ (x - (2 ^ (8 - 1) - 1) - 23 : Int) := by
    rw [show (x - (2 ^ (8 - 1) - 1) - 7 : Int) = 16 + (x - (2 ^ (8 - 1) - 1) - 23) by ring, zpow_add₀ (by norm_num)]
    norm_num
  show Ideal.ieee 8 23 (h ++ 0#16) = Ideal.ieee 8 7 h
  unfold Ideal.ieee
  simp only [hs, he, hf]
  generalize (h.extractLsb' 0 7).toNat = f
  generalize (h.extractLsb' 7 8).toNat = x
  generalize (if (h.extractLsb' (8 + 7) 1 == 1#1) = true then (-1 : ℝ) else 1) = g
  have z : f * 2 ^ 16 = 0 ↔ f = 0 := by omega
  simp only [z]
  congr 1
  congr 1
  · congr 1
    rw [show ((7 : ℕ) : Int) = 7 from rfl, show ((23 : ℕ) : Int) = 23 from rfl, p1]
    push_cast; ring
  · congr 1
    rw [show ((7 : ℕ) : Int) = 7 from rfl, show ((23 : ℕ) : Int) = 23 from rfl, p2]
    push_cast; ring

/-- The bits of the mask of the upper half. -/
theorem mask_bit : ∀ i : Fin 32, (4294901760#32).getLsbD i = decide (16 ≤ i.val) := by decide

theorem upper_eq (w : BitVec 32) : Ideal.ofBits .f32 (w &&& 4294901760#32) = upper w := by
  refine Eq.trans (congrArg _ ?_) (widen _)
  apply BitVec.eq_of_getLsbD_eq
  intro i hi
  rw [BitVec.getLsbD_and, mask_bit ⟨i, hi⟩, BitVec.getLsbD_append, BitVec.getLsbD_extractLsb']
  by_cases h : i < 16
  · simp [h]
  · simp [h, show 16 ≤ i by omega, show i - 16 < 16 by omega, show 16 + (i - 16) = i by omega]

theorem lower_eq (w : BitVec 32) : Ideal.ofBits .f32 (w <<< 16) = lower w := by
  refine Eq.trans (congrArg _ ?_) (widen _)
  apply BitVec.eq_of_getLsbD_eq
  intro i hi
  rw [BitVec.getLsbD_shiftLeft, BitVec.getLsbD_append, BitVec.getLsbD_extractLsb']
  by_cases h : i < 16
  · simp [h]
  · simp [h, hi, show i - 16 < 16 by omega]

end Cert.Halves

end
-- ==== Proof.ExpertSpec.lean ====
/- ONE EXPERT.  The mathematics that the experts' kernel and its reference share: a row of words read as 1024 numbers, its
   products with the columns of two matrices, the gated hidden row and that row's products with the columns of a third. -/
module

public import proofs.«01_k».proof.Proof.Halves

@[expose] public section

noncomputable section

namespace Cert.ExpertSpec

open Idealize.ShloMosaic Cert.Halves

/-- Number `k` of a row of 512 words: the upper halves come first. -/
def entry (w : Fin 512 → BitVec 32) (k : Fin 1024) : EReal :=
  if h : (k : ℕ) < 512 then upper (w ⟨k, h⟩) else lower (w ⟨k - 512, by omega⟩)

/-- A row times column `f` of a matrix. -/
def dot (x : Fin 1024 → EReal) (M : Fin 1024 → Fin 1024 → EReal) (f : Fin 1024) : EReal := ∑ k, x k * M k f

/-- The first 512 numbers are the upper halves, the others the lower ones. -/
theorem entry_upper (w : Fin 512 → BitVec 32) (j : Fin 1024) (k : Fin 512) (h : (j : ℕ) = k) : entry w j = upper (w k) := by
  unfold entry
  rw [dif_pos (by omega)]
  exact congrArg (fun i => upper (w i)) (Fin.ext h)

theorem entry_lower (w : Fin 512 → BitVec 32) (j : Fin 1024) (k : Fin 512) (h : (j : ℕ) = 512 + k) : entry w j = lower (w k) := by
  unfold entry
  rw [dif_neg (by omega)]
  exact congrArg (fun i => lower (w i)) (Fin.ext (show (j : ℕ) - 512 = k by omega))

/-- A sum over 1024 numbers, half by half. -/
theorem sum_halves (g : Fin 1024 → EReal) :
    ∑ k, g k = ∑ k : Fin 512, g ⟨k, by omega⟩ + ∑ k : Fin 512, g ⟨512 + k, by omega⟩ :=
  Fin.sum_univ_add (a := 512) (b := 512) g

/-- The product of a row of words, half by half. -/
theorem dot_entry (w : Fin 512 → BitVec 32) (M : Fin 1024 → Fin 1024 → EReal) (f : Fin 1024) :
    dot (entry w) M f = ∑ k : Fin 512, upper (w k) * M ⟨k, by omega⟩ f + ∑ k : Fin 512, lower (w k) * M ⟨512 + k, by omega⟩ f := by
  refine (sum_halves _).trans (congrArg₂ (· + ·) ?_ ?_)
  · exact Finset.sum_congr rfl fun k _ => congrArg (· * _) (entry_upper w _ k rfl)
  · exact Finset.sum_congr rfl fun k _ => congrArg (· * _) (entry_lower w _ k rfl)

/-- The hidden row: the gate's product through the gate function, times the other product. -/
def hiddenRow (x : Fin 1024 → EReal) (G U : Fin 1024 → Fin 1024 → EReal) (f : Fin 1024) : EReal :=
  dot x G f * Ideal.logistic (dot x G f) * dot x U f

/-- The expert's result for a row of words. -/
def expert (w : Fin 512 → BitVec 32) (G U D : Fin 1024 → Fin 1024 → EReal) (f : Fin 1024) : EReal :=
  dot (hiddenRow (entry w) G U) D f

end Cert.ExpertSpec

end
-- ==== Proof.FfnRow.lean ====
/- A GRID POINT'S RESULT, READ AT AN INDEX: the expert of `ExpertSpec.lean` on one row of the point's words. -/
module

public import proofs.«01_k».proof.Proof.ExpertSpec
public import proofs.«01_k».proof.Proof.Gen.FfnIdeal.Skeleton
public import Idealize.ShloMosaic.Lib.Pointwise
public import Idealize.ShloMosaic.Lib.MatmulPlain

@[expose] public section

set_option maxRecDepth 16384

noncomputable section

namespace Cert.FfnRow

open Cert.ExpertSpec Cert.Halves Cert.FfnIdeal Cert.FfnIdeal.Gen Idealize.ShloMosaic Idealize.ShloMosaic.TcCoe

/-- The cast weights are the weights. -/
theorem gate_cast (x : Vec Ideal S1x1x1024x1024 .f32) (k f : Fin 1024) : k0_pay1 x (ix2 k f) = x (ix4 0 0 k f) := by
  unfold k0_pay1
  pointwise
  done

theorem up_cast (x : Vec Ideal S1x1x1024x1024 .f32) (k f : Fin 1024) : k0_pay2 x (ix2 k f) = x (ix4 0 0 k f) := by
  unfold k0_pay2
  pointwise
  done

theorem down_cast (x : Vec Ideal S1x1x1024x1024 .f32) (k f : Fin 1024) : k0_pay3 x (ix2 k f) = x (ix4 0 0 k f) := by
  unfold k0_pay3
  pointwise
  done

/-- A point's result is the expert's. -/
theorem result (x : Vec Ideal S1x512x512 .i32) (g u d : Vec Ideal S1024x1024 .bf16) (r : Fin 512) (f : Fin 1024) :
    k0_pay4 x g u d (ix3 0 r f) = expert (fun k => x (ix3 0 r k)) (fun a b => g (ix2 a b)) (fun a b => u (ix2 a b)) (fun a b => d (ix2 a b)) f := by
  unfold k0_pay4
  pointwise
  have hi (w : BitVec 32) : Ideal.ofBits .f32 (IntOp.andi w 4294901760#32) = upper w := upper_eq w
  have lo (w : BitVec 32) : Ideal.ofBits .f32 (IntOp.shli .vector w 16#32) = lower w := lower_eq w
  simp only [hi, lo]
  unfold expert
  rw [dot]
  simp only [hiddenRow, dot_entry]

end Cert.FfnRow

end
-- ==== Proof.FfnPoint.lean ====
/- A GRID POINT OF THE EXPERTS' KERNEL.  A point casts its expert's three weight matrices into scratch when it is the first
   point of that expert, and the later points of the expert find them there.  Either way its result is the same expression
   `k0_pay4` of its block of words and of what the scratch buffers hold. -/
module

public import proofs.«01_k».proof.Proof.Gen.FfnIdeal.Value
public import Idealize.ShloMosaic.Lib.VecWindow

@[expose] public section

set_option maxRecDepth 16384

noncomputable section

namespace Cert.FfnPoint

open Cert.FfnIdeal Cert.FfnIdeal.Gen Idealize.ShloMosaic Idealize.ShloMosaic.TcCoe Idealize.ShloMosaic.Tactic

variable {F : FTy → Type} [FloatOps F]

/-- The whole block of a buffer of words, of weights, of cast weights and of results. -/
abbrev wordsR : Rect S1x512x512 := Rect.unit ![0, 0, 0] S1x512x512.size inb_S1x512x512_S1x512x512_0_0_0
abbrev weightR : Rect S1x1x1024x1024 := Rect.unit ![0, 0, 0, 0] S1x1x1024x1024.size inb_S1x1x1024x1024_S1x1x1024x1024_0_0_0_0
abbrev castR : Rect S1024x1024 := Rect.unit ![0, 0] S1024x1024.size inb_S1024x1024_S1024x1024_0_0
abbrev resultR : Rect S1x512x1024 := Rect.unit ![0, 0, 0] S1x512x1024.size inb_S1x512x1024_S1x512x1024_0_0_0

section

variable (c : Dev nD) (i : grid0.Coords) (arg2 : Memref sig .tc .vmem S1x512x512 .i32) (harg2 : arg2.IsWhole)
  (arg3 : Memref sig .tc .vmem S1x1x1024x1024 .f32) (harg3 : arg3.IsWhole) (arg4 : Memref sig .tc .vmem S1x1x1024x1024 .f32) (harg4 : arg4.IsWhole)
  (arg5 : Memref sig .tc .vmem S1x1x1024x1024 .f32) (harg5 : arg5.IsWhole) (arg6 : Memref sig .tc .vmem S1x512x1024 .bf16) (harg6 : arg6.IsWhole)
  (arg7 : Memref sig .tc .vmem S1024x1024 .bf16) (harg7 : arg7.IsWhole) (arg8 : Memref sig .tc .vmem S1024x1024 .bf16) (harg8 : arg8.IsWhole)
  (arg9 : Memref sig .tc .vmem S1024x1024 .bf16) (harg9 : arg9.IsWhole)
  (x0 : Vec F S1x512x512 .i32) (x1 x2 x3 : Vec F S1x1x1024x1024 .f32) (xs0 xs1 xs2 : Vec F S1024x1024 .bf16)

/-- What the first point of an expert leaves in the scratch buffers: the cast weights. -/
theorem gate_first (hc : cond0_0 i) : sout0_A_0 c i arg2 harg2 arg3 harg3 arg4 harg4 arg5 harg5 arg6 harg6 arg7 harg7 arg8 harg8 arg9 harg9 hc x0 x1 x2 x3 = k0_pay1 x1 := by
  unfold sout0_A_0
  have e : (kernelRun0_A c i arg2 harg2 arg3 harg3 arg4 harg4 arg5 harg5 arg6 harg6 arg7 harg7 arg8 harg8 arg9 harg9 hc x0 x1 x2 x3).2.1
      = [⟨castR, k0_pay1 (View.readAt (Elt F) arg3.view weightR.toLoadRect (harg3.unread x1))⟩] := by sl_kernel_rfl
  rw [e, View.read_writes_full, View.readAt_full, harg3.read_unread]

theorem up_first (hc : cond0_0 i) : sout0_A_1 c i arg2 harg2 arg3 harg3 arg4 harg4 arg5 harg5 arg6 harg6 arg7 harg7 arg8 harg8 arg9 harg9 hc x0 x1 x2 x3 = k0_pay2 x2 := by
  unfold sout0_A_1
  have e : (kernelRun0_A c i arg2 harg2 arg3 harg3 arg4 harg4 arg5 harg5 arg6 harg6 arg7 harg7 arg8 harg8 arg9 harg9 hc x0 x1 x2 x3).2.2.1
      = [⟨castR, k0_pay2 (View.readAt (Elt F) arg4.view weightR.toLoadRect (harg4.unread x2))⟩] := by sl_kernel_rfl
  rw [e, View.read_writes_full, View.readAt_full, harg4.read_unread]

theorem down_first (hc : cond0_0 i) : sout0_A_2 c i arg2 harg2 arg3 harg3 arg4 harg4 arg5 harg5 arg6 harg6 arg7 harg7 arg8 harg8 arg9 harg9 hc x0 x1 x2 x3 = k0_pay3 x3 := by
  unfold sout0_A_2
  have e : (kernelRun0_A c i arg2 harg2 arg3 harg3 arg4 harg4 arg5 harg5 arg6 harg6 arg7 harg7 arg8 harg8 arg9 harg9 hc x0 x1 x2 x3).2.2.2.val
      = [⟨castR, k0_pay3 (View.readAt (Elt F) arg5.view weightR.toLoadRect (harg5.unread x3))⟩] := by sl_kernel_rfl
  rw [e, View.read_writes_full, View.readAt_full, harg5.read_unread]

/-- The result of the first point of an expert, -/
theorem out_first (hc : cond0_0 i) : out0_A_4 c i arg2 harg2 arg3 harg3 arg4 harg4 arg5 harg5 arg6 harg6 arg7 harg7 arg8 harg8 arg9 harg9 hc x0 x1 x2 x3
    = k0_pay4 x0 (k0_pay1 x1) (k0_pay2 x2) (k0_pay3 x3) := by
  unfold out0_A_4
  have e : (kernelRun0_A c i arg2 harg2 arg3 harg3 arg4 harg4 arg5 harg5 arg6 harg6 arg7 harg7 arg8 harg8 arg9 harg9 hc x0 x1 x2 x3).1
      = [⟨resultR, k0_pay4 (View.readAt (Elt F) arg2.view wordsR.toLoadRect (harg2.unread x0))
          (arg7.view.readCov [⟨castR, k0_pay1 (View.readAt (Elt F) arg3.view weightR.toLoadRect (harg3.unread x1))⟩] castR.toLoadRect)
          (arg8.view.readCov [⟨castR, k0_pay2 (View.readAt (Elt F) arg4.view weightR.toLoadRect (harg4.unread x2))⟩] castR.toLoadRect)
          (arg9.view.readCov [⟨castR, k0_pay3 (View.readAt (Elt F) arg5.view weightR.toLoadRect (harg5.unread x3))⟩] castR.toLoadRect)⟩] := by
    sl_kernel_rfl
  rw [e, View.read_writes_full, View.readCov_cons_toLoadRect, View.readCov_cons_toLoadRect, View.readCov_cons_toLoadRect]
  simp only [View.readAt_full, Memref.IsWhole.read_unread]

/-- and of a later one. -/
theorem out_later (hc : ¬cond0_0 i) : out0_B_4 c i arg2 harg2 arg3 harg3 arg4 harg4 arg5 harg5 arg6 harg6 arg7 harg7 arg8 harg8 arg9 harg9 hc x0 x1 x2 x3 xs0 xs1 xs2
    = k0_pay4 x0 xs0 xs1 xs2 := by
  unfold out0_B_4
  have e : (kernelRun0_B c i arg2 harg2 arg3 harg3 arg4 harg4 arg5 harg5 arg6 harg6 arg7 harg7 arg8 harg8 arg9 harg9 hc x0 x1 x2 x3 xs0 xs1 xs2).1
      = [⟨resultR, k0_pay4 (View.readAt (Elt F) arg2.view wordsR.toLoadRect (harg2.unread x0))
          (View.readAt (Elt F) arg7.view castR.toLoadRect (harg7.unread xs0)) (View.readAt (Elt F) arg8.view castR.toLoadRect (harg8.unread xs1))
          (View.readAt (Elt F) arg9.view castR.toLoadRect (harg9.unread xs2))⟩] := by
    sl_kernel_rfl
  rw [e, View.read_writes_full]
  simp only [View.readAt_full, Memref.IsWhole.read_unread]

end

end Cert.FfnPoint

end
-- ==== Proof.FfnBlocks.lean ====
/- THE LAUNCH OF THE EXPERTS' KERNEL.  Grid point `t` works for expert `t / 6` on its block `t % 6` of 512 rows.  The scratch
   buffers hold that expert's cast weights after each of its points, so an element of the final array is `k0_pay4` of the
   point's own blocks. -/
module

public import proofs.«01_k».proof.Proof.FfnPoint
public import Idealize.ShloMosaic.Lib.Pointwise
public import Idealize.ShloMosaic.Lib.Claim

@[expose] public section

set_option maxRecDepth 16384

noncomputable section

namespace Cert.FfnBlocks

open Cert.FfnIdeal Cert.FfnIdeal.Gen Idealize.ShloMosaic Idealize.ShloMosaic.TcCoe
open Idealize.ShloMosaic.Pipeline (Dat)

/-- The index maps: the words and the results by expert and block, the weights by expert. -/
theorem index_words (t : Fin cfg0.N) : win0_0.index t 0 = t.val / 6 ∧ win0_0.index t 1 = t.val % 6 ∧ win0_0.index t 2 = 0 := by
  revert t
  exact (by decide +kernel : ∀ t : Fin grid0.N, win0_0.index t 0 = t.val / 6 ∧ win0_0.index t 1 = t.val % 6 ∧ win0_0.index t 2 = 0)

theorem index_gate (t : Fin cfg0.N) : win0_1.index t 0 = 0 ∧ win0_1.index t 1 = t.val / 6 ∧ win0_1.index t 2 = 0 ∧ win0_1.index t 3 = 0 := by
  revert t
  exact (by decide +kernel : ∀ t : Fin grid0.N, win0_1.index t 0 = 0 ∧ win0_1.index t 1 = t.val / 6 ∧ win0_1.index t 2 = 0 ∧ win0_1.index t 3 = 0)

theorem index_up (t : Fin cfg0.N) : win0_2.index t 0 = 0 ∧ win0_2.index t 1 = t.val / 6 ∧ win0_2.index t 2 = 0 ∧ win0_2.index t 3 = 0 := by
  revert t
  exact (by decide +kernel : ∀ t : Fin grid0.N, win0_2.index t 0 = 0 ∧ win0_2.index t 1 = t.val / 6 ∧ win0_2.index t 2 = 0 ∧ win0_2.index t 3 = 0)

theorem index_down (t : Fin cfg0.N) : win0_3.index t 0 = 0 ∧ win0_3.index t 1 = t.val / 6 ∧ win0_3.index t 2 = 0 ∧ win0_3.index t 3 = 0 := by
  revert t
  exact (by decide +kernel : ∀ t : Fin grid0.N, win0_3.index t 0 = 0 ∧ win0_3.index t 1 = t.val / 6 ∧ win0_3.index t 2 = 0 ∧ win0_3.index t 3 = 0)

theorem index_result (t : Fin cfg0.N) : win0_4.index t 0 = t.val / 6 ∧ win0_4.index t 1 = t.val % 6 ∧ win0_4.index t 2 = 0 := by
  revert t
  exact (by decide +kernel : ∀ t : Fin grid0.N, win0_4.index t 0 = t.val / 6 ∧ win0_4.index t 1 = t.val % 6 ∧ win0_4.index t 2 = 0)

/-- The expert of a grid point, and the row of the expert's that is row `r` of the point's block. -/
def owner (t : Fin cfg0.N) : Fin 16 := ⟨t.val / 6, by have := lt_of_lt_of_eq t.isLt N_0; omega⟩
def line (t : Fin cfg0.N) (r : Fin 512) : Fin 3072 := ⟨t.val % 6 * 512 + r, by omega⟩

variable {F : FTy → Type} [FloatOps F] (m : (ℓ : Loc nD τ sig) → Buf (Elt F) ℓ) (c : Dev nD) (t : Fin cfg0.N)

/-- A weight array's index whose coordinates are those of the point's block. -/
theorem emb_weight (k f : Fin 1024) (b : Fin 4 → ℕ) (hb : b 0 = 0 ∧ b 1 = t.val / 6 ∧ b 2 = 0 ∧ b 3 = 0)
    (e : Shape.Idx ⟨4, ![1, 16, 1024, 1024]⟩) (he : ∀ a, (e a : ℕ) = b a * S1x1x1024x1024.size a + (ix4 (0 : Fin 1) (0 : Fin 1) k f a : ℕ)) :
    e = ix4 0 (owner t) k f := by
  obtain ⟨h0, h1, h2, h3⟩ := hb
  funext a
  apply Fin.ext
  refine (he a).trans ?_
  fin_cases a
  · show b 0 * 1 + 0 = 0
    rw [h0]
  · show b 1 * 1 + 0 = t.val / 6
    rw [h1]; omega
  · show b 2 * 1024 + (k : ℕ) = k
    rw [h2]; omega
  · show b 3 * 1024 + (f : ℕ) = f
    rw [h3]; omega

/-- The point's blocks: its words, -/
theorem words_block (r k : Fin 512) : iblk m c 0 t (ix3 0 r k) = m ((c.tc : Thread nD τ).loc main_arg0) (ix3 (owner t) (line t r) k) := by
  refine ((View.read_apply _ _).trans (cast_eq _ _)).trans (congrArg (V m c main_arg0) ?_)
  obtain ⟨h0, h1, h2⟩ := index_words t
  funext a
  apply Fin.ext
  refine (win0_0.rect_emb_val t (ix3 0 r k) a).trans ?_
  fin_cases a
  · show win0_0.index t 0 * 1 + 0 = t.val / 6
    rw [h0]; omega
  · show win0_0.index t 1 * 512 + (r : ℕ) = t.val % 6 * 512 + r
    rw [h1]
  · show win0_0.index t 2 * 512 + (k : ℕ) = k
    rw [h2]; omega

/-- and its expert's weights. -/
theorem gate_block (k f : Fin 1024) : iblk m c 1 t (ix4 0 0 k f) = m ((c.tc : Thread nD τ).loc main_arg1) (ix4 0 (owner t) k f) :=
  ((View.read_apply _ _).trans (cast_eq _ _)).trans (congrArg (V m c main_arg1)
    (emb_weight t k f (win0_1.index t) (index_gate t) _ fun a => (win0_1.rect_emb_val t (ix4 0 0 k f) a).trans rfl))

theorem up_block (k f : Fin 1024) : iblk m c 2 t (ix4 0 0 k f) = m ((c.tc : Thread nD τ).loc main_arg2) (ix4 0 (owner t) k f) :=
  ((View.read_apply _ _).trans (cast_eq _ _)).trans (congrArg (V m c main_arg2)
    (emb_weight t k f (win0_2.index t) (index_up t) _ fun a => (win0_2.rect_emb_val t (ix4 0 0 k f) a).trans rfl))

theorem down_block (k f : Fin 1024) : iblk m c 3 t (ix4 0 0 k f) = m ((c.tc : Thread nD τ).loc main_arg3) (ix4 0 (owner t) k f) :=
  ((View.read_apply _ _).trans (cast_eq _ _)).trans (congrArg (V m c main_arg3)
    (emb_weight t k f (win0_3.index t) (index_down t) _ fun a => (win0_3.rect_emb_val t (ix4 0 0 k f) a).trans rfl))

/-- An index of a weight block. -/
theorem weight_index (x : Shape.Idx S1x1x1024x1024) : ∃ k f : Fin 1024, x = ix4 0 0 k f :=
  ⟨x 2, x 3, by funext a; fin_cases a <;> first | rfl | exact Subsingleton.elim (α := Fin 1) _ _⟩

/-- Points of one expert have the same weight blocks. -/
theorem same_weights (s : Fin cfg0.N) (h : owner s = owner t) :
    iblk m c 1 s = iblk m c 1 t ∧ iblk m c 2 s = iblk m c 2 t ∧ iblk m c 3 s = iblk m c 3 t := by
  refine ⟨?_, ?_, ?_⟩ <;> funext x <;> obtain ⟨k, f, rfl⟩ := weight_index x
  · exact (gate_block m c s k f).trans ((congrArg (fun e => m ((c.tc : Thread nD τ).loc main_arg1) (ix4 0 e k f)) h).trans (gate_block m c t k f).symm)
  · exact (up_block m c s k f).trans ((congrArg (fun e => m ((c.tc : Thread nD τ).loc main_arg2) (ix4 0 e k f)) h).trans (up_block m c t k f).symm)
  · exact (down_block m c s k f).trans ((congrArg (fun e => m ((c.tc : Thread nD τ).loc main_arg3) (ix4 0 e k f)) h).trans (down_block m c t k f).symm)

/-- What a point leaves in its result's buffer and in the scratch buffers. -/
theorem outs (n : ℕ) : ∀ hn : n < cfg0.N, outsAt0 m c n hn
    = (k0_pay4 (iblk m c 0 ⟨n, hn⟩) (k0_pay1 (iblk m c 1 ⟨n, hn⟩)) (k0_pay2 (iblk m c 2 ⟨n, hn⟩)) (k0_pay3 (iblk m c 3 ⟨n, hn⟩)),
        k0_pay1 (iblk m c 1 ⟨n, hn⟩), k0_pay2 (iblk m c 2 ⟨n, hn⟩), k0_pay3 (iblk m c 3 ⟨n, hn⟩)) := by
  induction n using Nat.strong_induction_on with
  | _ n ih =>
    intro hn
    by_cases h : n % 6 = 0
    · refine (outsAt0_A m c ⟨n, hn⟩ h).trans ?_
      rw [FfnPoint.out_first, FfnPoint.gate_first, FfnPoint.up_first, FfnPoint.down_first]
    · have hp : n - 1 < cfg0.N := by omega
      obtain ⟨e1, e2, e3⟩ := same_weights m c ⟨n, hn⟩ ⟨n - 1, hp⟩ (Fin.ext (show (n - 1) / 6 = n / 6 by omega))
      refine (outsAt0_B m c ⟨n, hn⟩ h).trans ?_
      have e := ih (n - 1) (by omega) hp
      simp only [e, e1, e2, e3, FfnPoint.out_later]
      rfl

/-- An element of the final array is the one that its point left in its block. -/
theorem final (r : Fin 512) (f : Fin 1024) :
    (dats m 0 c).arrAt 4 cfg0.N (ix3 (owner t) (line t r) f)
      = k0_pay4 (iblk m c 0 t) (k0_pay1 (iblk m c 1 t)) (k0_pay2 (iblk m c 2 t)) (k0_pay3 (iblk m c 3 t)) (ix3 0 r f) := by
  have E := (dats m 0 c).arrAt_emb_eq_flushed 4 (Value.disjoint4) t (flush0_4 t) (ix3 0 r f)
  have hi : ((cfg0.win 4).blk t).view.emb (ix3 0 r f) = ix3 (owner t) (line t r) f := by
    obtain ⟨h0, h1, h2⟩ := index_result t
    funext a
    apply Fin.ext
    refine (win0_4.rect_emb_val t (ix3 0 r f) a).trans ?_
    fin_cases a
    · show win0_4.index t 0 * 1 + 0 = t.val / 6
      rw [h0]; omega
    · show win0_4.index t 1 * 512 + (r : ℕ) = t.val % 6 * 512 + r
      rw [h1]
    · show win0_4.index t 2 * 1024 + (f : ℕ) = f
      rw [h2]; omega
  rw [hi] at E
  refine E.trans ((cast_eq _ _).trans ?_)
  rw [Value.flushed4]
  refine Eq.trans ?_ (congrFun (congrArg Prod.fst (outs m c t.val t.isLt)) (ix3 0 r f))
  generalize (outsAt0 m c t.val t.isLt).1 = Y
  rfl

end Cert.FfnBlocks

end
-- ==== Proof.ExpertsRow.lean ====
/- THE REFERENCE'S RESULT, READ AT AN INDEX: the expert of `ExpertSpec.lean` on one row of words. -/
module

public import proofs.«01_k».proof.Proof.ExpertSpec
public import proofs.«01_k».proof.Proof.Gen.ExpertsIdeal.Run
public import Idealize.ShloMosaic.Lib.Pointwise
public import Idealize.ShloMosaic.Lib.BitcastConvert
public import Idealize.ShloMosaic.Lib.StackMember

@[expose] public section

set_option maxRecDepth 16384

noncomputable section

namespace Cert.ExpertsRow

open Cert.ExpertSpec Cert.Halves Cert.ExpertsIdeal Cert.ExpertsIdeal.Gen Idealize.ShloMosaic Idealize.ShloMosaic.TcCoe

/-- The rows of numbers that the reference makes of the words. -/
def rows (w : IVec S16x3072x512 32) : FVec Ideal S16x3072x1024 .f32 :=
  extf .f32 (concatenate S16x3072x1024 2 [⟨S16x3072x512, (shapeCast S16x3072x512 (extractStridedSlice S16x3072x512x1 ![0, 0, 0, 1]
      (bitcastToFloat (F := Ideal) .bf16 (Host.bitcastConvertNarrow S16x3072x512x2 16 w splits_S16x3072x512_w32_S16x3072x512x2_w16))
      slices_S16x3072x512x2_S16x3072x512x1_0_0_0_1) shapeCasts_S16x3072x512x1_S16x3072x512)⟩,
    ⟨S16x3072x512, (shapeCast S16x3072x512 (extractStridedSlice S16x3072x512x1 ![0, 0, 0, 0]
      (bitcastToFloat (F := Ideal) .bf16 (Host.bitcastConvertNarrow S16x3072x512x2 16 w splits_S16x3072x512_w32_S16x3072x512x2_w16))
      slices_S16x3072x512x2_S16x3072x512x1_0_0_0_0) shapeCasts_S16x3072x512x1_S16x3072x512)⟩]
    concatenates_S16x3072x512_S16x3072x512_S16x3072x1024_d2) bitsLt_bf16_f32

theorem rows_apply (w : IVec S16x3072x512 32) (e : Fin 16) (r : Fin 3072) (k : Fin 1024) :
    rows w (ix3 e r k) = entry (fun j => w (ix3 e r j)) k := by
  unfold rows entry
  pointwise
  have drop (j : Fin 512) (b : Fin 2) : splits_S16x3072x512_w32_S16x3072x512x2_w16.drop (ix4 e r j b) = ix3 e r j := by
    funext a; fin_cases a <;> rfl
  simp only [drop]
  rfl

/-- Every expert's rows times its matrix. -/
def product (x : FVec Ideal S16x3072x1024 .f32) (M : FVec Ideal S1x16x1024x1024 .f32) : FVec Ideal S16x3072x1024 .f32 :=
  Host.dotGeneral dot_S16x3072x1024_S16x1024x1024_S16x3072x1024_2_1_1_2_0_0 none x
    (shapeCast S16x1024x1024 M shapeCasts_S1x16x1024x1024_S16x1024x1024)

theorem product_apply (x : FVec Ideal S16x3072x1024 .f32) (M : FVec Ideal S1x16x1024x1024 .f32) (e : Fin 16) (r : Fin 3072) (f : Fin 1024) :
    product x M (ix3 e r f) = dot (fun k => x (ix3 e r k)) (fun a b => M (ix4 0 e a b)) f := by
  have h (k : Fin 1024) : (shapeCast S16x1024x1024 M shapeCasts_S1x16x1024x1024_S16x1024x1024) (ix3 e k f) = M (ix4 0 e k f) := by
    pointwise
  unfold product dot
  generalize shapeCast S16x1024x1024 M shapeCasts_S1x16x1024x1024_S16x1024x1024 = B at h
  refine (StackMember.dotGeneral_stack_apply _ none x B e r f).trans ?_
  exact Finset.sum_congr rfl fun k _ => congrArg (x (ix3 e r k) * ·) (h k)

/-- The gate function of an array. -/
def gate (g : FVec Ideal S16x3072x1024 .f32) : FVec Ideal S16x3072x1024 .f32 :=
  Host.divf (broadcastInDim S16x3072x1024 ![] bcast_S_S16x3072x1024 (constant S_ .f32 0x3F800000#32))
    (addf (broadcastInDim S16x3072x1024 ![] bcast_S_S16x3072x1024 (constant S_ .f32 0x3F800000#32)) (Host.exp (Host.negf g)))

theorem gate_apply (g : FVec Ideal S16x3072x1024 .f32) (e : Fin 16) (r : Fin 3072) (f : Fin 1024) :
    gate g (ix3 e r f) = Ideal.logistic (g (ix3 e r f)) := by
  unfold gate
  pointwise
  rfl

/-- The hidden rows. -/
def hiddenRows (g u : FVec Ideal S16x3072x1024 .f32) : FVec Ideal S16x3072x1024 .f32 := mulf (mulf g (gate g)) u

theorem hiddenRows_apply (g u : FVec Ideal S16x3072x1024 .f32) (e : Fin 16) (r : Fin 3072) (f : Fin 1024) :
    hiddenRows g u (ix3 e r f) = g (ix3 e r f) * Ideal.logistic (g (ix3 e r f)) * u (ix3 e r f) := by
  rw [← gate_apply]
  unfold hiddenRows
  generalize gate g = s
  pointwise

/-- The reference's result. -/
def result (w : IVec S16x3072x512 32) (G U D : FVec Ideal S1x16x1024x1024 .f32) : FVec Ideal S16x3072x1024 .bf16 :=
  truncf .bf16 (product (hiddenRows (product (rows w) G) (product (rows w) U)) D) bitsLt_bf16_f32

theorem result_apply (w : IVec S16x3072x512 32) (G U D : FVec Ideal S1x16x1024x1024 .f32) (e : Fin 16) (r : Fin 3072) (f : Fin 1024) :
    result w G U D (ix3 e r f)
      = expert (fun j => w (ix3 e r j)) (fun a b => G (ix4 0 e a b)) (fun a b => U (ix4 0 e a b)) (fun a b => D (ix4 0 e a b)) f := by
  have h (M : FVec Ideal S1x16x1024x1024 .f32) (k : Fin 1024) :
      product (rows w) M (ix3 e r k) = dot (entry fun j => w (ix3 e r j)) (fun a b => M (ix4 0 e a b)) k := by
    rw [product_apply]
    exact congrArg (fun x => dot x _ k) (funext fun i => rows_apply w e r i)
  have out : result w G U D (ix3 e r f) = product (hiddenRows (product (rows w) G) (product (rows w) U)) D (ix3 e r f) := by
    unfold result
    generalize product (hiddenRows (product (rows w) G) (product (rows w) U)) D = p
    pointwise
  rw [out, product_apply]
  unfold expert
  refine congrArg (fun x => dot x _ f) (funext fun k => ?_)
  rw [hiddenRows_apply, h, h]
  rfl

end Cert.ExpertsRow

end
-- ==== Proof.FfnEqual.lean ====
/- THE EXPERTS' VALUE CLAIM.  From memories that agree on the arguments, the experts' kernel and its reference leave the same
   array: both hold the expert of `ExpertSpec.lean` on every row. -/
module

public import proofs.«01_k».proof.Defs
public import proofs.«01_k».proof.Proof.FfnRow
public import proofs.«01_k».proof.Proof.FfnBlocks
public import proofs.«01_k».proof.Proof.ExpertsRow
public import Idealize.ShloMosaic.Lib.Quiescent

@[expose] public section

set_option maxRecDepth 16384

noncomputable section

namespace Cert.FfnEqual

open Cert.ExpertSpec Idealize.ShloMosaic Idealize.ShloMosaic.TcCoe Idealize.SL.Sem

/-- The reference runs, leaves its arguments alone and declares no semaphore. -/
theorem frame_reference : quiescent_ExpertsIdeal := fun m g _ =>
  (θ_run ExpertsIdeal.defs _ _).mono (fun r h => ⟨fun c => (h c).2, sem_eq_zero_of_no_sems rfl r.2⟩) (ExpertsIdeal.Value.run m g)

/-- Every row of the kernel's array belongs to a grid point. -/
theorem point_of (e : Fin 16) (r : Fin 3072) :
    ∃ (t : Fin FfnIdeal.cfg0.N) (i : Fin 512), FfnBlocks.owner t = e ∧ FfnBlocks.line t i = r := by
  have h : 6 * (e : ℕ) + r / 512 < FfnIdeal.cfg0.N := lt_of_lt_of_eq (by omega) FfnIdeal.Gen.N_0.symm
  refine ⟨⟨6 * e + r / 512, h⟩, ⟨r % 512, by omega⟩, Fin.ext ?_, Fin.ext ?_⟩
  · show (6 * (e : ℕ) + r / 512) / 6 = e
    omega
  · show (6 * (e : ℕ) + r / 512) % 6 * 512 + r % 512 = r
    omega

/-- The kernel's array, read at an index. -/
theorem kernel_apply (m : (ℓ : Loc FfnIdeal.nD FfnIdeal.τ FfnIdeal.sig) → Buf (Elt Ideal) ℓ) (c : Dev FfnIdeal.nD) (e : Fin 16) (r : Fin 3072)
    (f : Fin 1024) : (FfnIdeal.Gen.dats m 0 c).arrAt 4 FfnIdeal.cfg0.N (ix3 e r f)
      = expert (fun j => m ((c.tc : Thread FfnIdeal.nD FfnIdeal.τ).loc FfnIdeal.main_arg0) (ix3 e r j))
          (fun a b => m ((c.tc : Thread FfnIdeal.nD FfnIdeal.τ).loc FfnIdeal.main_arg1) (ix4 0 e a b))
          (fun a b => m ((c.tc : Thread FfnIdeal.nD FfnIdeal.τ).loc FfnIdeal.main_arg2) (ix4 0 e a b))
          (fun a b => m ((c.tc : Thread FfnIdeal.nD FfnIdeal.τ).loc FfnIdeal.main_arg3) (ix4 0 e a b)) f := by
  obtain ⟨t, i, rfl, rfl⟩ := point_of e r
  rw [FfnBlocks.final, FfnRow.result]
  simp only [FfnRow.gate_cast, FfnRow.up_cast, FfnRow.down_cast]
  have h0 := fun k => FfnBlocks.words_block m c t i k
  have h1 := fun a b => FfnBlocks.gate_block m c t a b
  have h2 := fun a b => FfnBlocks.up_block m c t a b
  have h3 := fun a b => FfnBlocks.down_block m c t a b
  simp only [h0, h1, h2, h3]

/-- The kernel and the reference compute the same array. -/
theorem algebraic : algebraic_FfnIdeal_ExpertsIdeal := by
  intro m g m' g' _ hargs
  refine ⟨fun c => (FfnIdeal.Gen.dats m 0 c).arrAt 4 FfnIdeal.cfg0.N, FfnIdeal.Value.run_blocks m g, ?_⟩
  refine (θ_run ExpertsIdeal.defs _ _).mono (fun r h c => ?_) (ExpertsIdeal.Value.run m' g')
  obtain ⟨h0, ha⟩ := h c
  obtain ⟨e0, e1, e2, e3⟩ := hargs c
  refine ⟨h0.trans ?_, ha⟩
  rw [e0, e1, e2, e3]
  funext x
  obtain ⟨e, i, f, rfl⟩ : ∃ e i f, x = ix3 e i f := ⟨x 0, x 1, x 2, by funext a; fin_cases a <;> rfl⟩
  exact (ExpertsRow.result_apply _ _ _ _ e i f).trans (kernel_apply m c e i f).symm

end Cert.FfnEqual

end
-- ==== Proof.ProjSpec.lean ====
/- THE PROJECTIONS OF A TOKEN, over the extended reals.  `Args` holds the arrays that both programs are given; the other
   definitions are the seven results, written entry by entry. -/
module

public import Idealize.ShloMosaic.PureOps.Ideal
public import Idealize.ShloMosaic.Lib.Pointwise

@[expose] public section

noncomputable section

namespace Cert.ProjSpec

open Idealize.ShloMosaic

/-- The row before row `i` of its run of 64 rows, which is zero for the first, -/
def before {n : ℕ} (u : Fin n → EReal) (i : Fin n) : EReal := if i.val % 64 = 0 then 0 else u ⟨i - 1, by omega⟩

/-- and the row after it, which is zero for the last. -/
def after {n : ℕ} (u : Fin n → EReal) (i : Fin n) : EReal := if h : i.val % 64 ≠ 63 ∧ i.val + 1 < n then u ⟨i + 1, h.2⟩ else 0

/-- The convolution of three taps, without its bias. -/
def taps {n : ℕ} (u : Fin n → EReal) (a b c : EReal) (i : Fin n) : EReal := before u i * a + u i * b + after u i * c

/-- A part of the rows that begins with a run has the runs of the whole. -/
theorem taps_part {n N : ℕ} (u : Fin n → EReal) (v : Fin N → EReal) (o : ℕ) (ho : o % 64 = 0) (hN : o + n ≤ N) (hn : n % 64 = 0)
    (h : ∀ i : Fin n, u i = v ⟨o + i, by omega⟩) (a b c : EReal) (i : Fin n) : taps u a b c i = taps v a b c ⟨o + i, by omega⟩ := by
  have hb : before u i = before v ⟨o + i, by omega⟩ := by
    unfold before
    by_cases hi : i.val % 64 = 0
    · rw [if_pos hi, if_pos (show (o + i.val) % 64 = 0 by omega)]
    · rw [if_neg hi, if_neg (show ¬(o + i.val) % 64 = 0 by omega), h]
      exact congrArg v (Fin.ext (show o + (i.val - 1) = o + i.val - 1 by omega))
  have ha : after u i = after v ⟨o + i, by omega⟩ := by
    unfold after
    by_cases hi : i.val % 64 ≠ 63 ∧ i.val + 1 < n
    · rw [dif_pos hi, dif_pos (show (o + i.val) % 64 ≠ 63 ∧ o + i.val + 1 < N by omega), h]
      exact congrArg v (Fin.ext (show o + (i.val + 1) = o + i.val + 1 by omega))
    · rw [dif_neg hi, dif_neg (show ¬((o + i.val) % 64 ≠ 63 ∧ o + i.val + 1 < N) by omega)]
  unfold taps
  rw [hb, ha, h i]

/-- A row normalized by its root mean square, scaled and shifted. -/
def normed (x n a s : Fin 1024 → EReal) (k : Fin 1024) : EReal :=
  x k * Ideal.rsqrt (Ideal.div (∑ j, x j * x j) (Ideal.ofBits .f32 0x44800000#32) + Ideal.ofBits .f32 0x358637BD#32) * n k
    * (Ideal.ofBits .f32 0x3F800000#32 + a k) + s k

/-- A row times a column. -/
def times (h w : Fin 1024 → EReal) : EReal := ∑ k, h k * w k

/-- The function of a value and of its lower bound whose logarithm to base 2 is a forget gate. -/
def bounded (p lo : EReal) : EReal := lo + (Ideal.ofBits .f32 0x3F800000#32 - lo) * Ideal.logistic p

/-- The arrays given: tokens, modulation, scale of the norm, bounds, the convolution's taps and bias, and two matrices. -/
structure Args where
  x : Fin 16384 → Fin 1024 → EReal
  mod : Fin 8 → Fin 6144 → EReal
  norm : Fin 1024 → EReal
  bound : Fin 2 → Fin 2 → Fin 1024 → EReal
  tap : Fin 3 → Fin 1024 → EReal
  bias : Fin 1024 → EReal
  win : Fin 1024 → Fin 10240 → EReal
  wout : Fin 1024 → Fin 1024 → EReal

namespace Args

variable (A : Args)

/-- The request that a token belongs to. -/
def request (i : Fin 16384) : Fin 8 := ⟨i / 4096, by omega⟩

/-- A token's row after the modulated norm. -/
def hidden (i : Fin 16384) : Fin 1024 → EReal :=
  normed (A.x i) A.norm (fun k => A.mod (request i) ⟨1024 + k, by omega⟩) (fun k => A.mod (request i) ⟨k, by omega⟩)

/-- Entry `f` of a token's projection `g`, one of ten. -/
def proj (g : Fin 10) (i : Fin 16384) (f : Fin 1024) : EReal := times (A.hidden i) fun k => A.win k ⟨1024 * g + f, by omega⟩

/-- The short convolution of the product of projections 2 and 0. -/
def conv (i : Fin 16384) (f : Fin 1024) : EReal :=
  taps (fun i => A.proj 2 i f * A.proj 0 i f) (A.tap 0 f) (A.tap 1 f) (A.tap 2 f) i + A.bias f

/-- The first result: the gated output of the convolution's branch. -/
def branch (i : Fin 16384) (f : Fin 1024) : EReal :=
  Ideal.logistic (A.proj 8 i f) * times (fun k => A.proj 1 i k * A.conv i k) fun k => A.wout k f

/-- The value times its logistic function, of projection `g`. -/
def silu (g : Fin 10) (i : Fin 16384) (f : Fin 1024) : EReal := A.proj g i f * Ideal.logistic (A.proj g i f)

/-- The bound of a direction: the first entry of the softmax of the direction's two. -/
def lower (d : Fin 2) (f : Fin 1024) : EReal := Ideal.logistic (A.bound d 0 f - A.bound d 1 f)

/-- The forget gate of a direction, to base 2. -/
def forget (d : Fin 2) (g : Fin 10) (i : Fin 16384) (f : Fin 1024) : EReal :=
  Ideal.log (bounded (A.proj g i f) (A.lower d f)) * (((Real.log 2)⁻¹ : ℝ) : EReal)

/-- The arguments, read off the arrays given. -/
def ofArrays (x : Shape.Idx ⟨3, ![4, 4096, 1024]⟩ → EReal) (mod : Shape.Idx ⟨2, ![8, 6144]⟩ → EReal) (norm : Shape.Idx ⟨2, ![1, 1024]⟩ → EReal)
    (bound : Shape.Idx ⟨3, ![2, 2, 1024]⟩ → EReal) (tap : Shape.Idx ⟨3, ![1, 3, 1024]⟩ → EReal) (bias : Shape.Idx ⟨2, ![1, 1024]⟩ → EReal)
    (win : Shape.Idx ⟨3, ![1, 1024, 10240]⟩ → EReal) (wout : Shape.Idx ⟨3, ![1, 1024, 1024]⟩ → EReal) : Args where
  x i k := x (ix3 ⟨i / 4096, by omega⟩ ⟨i % 4096, by omega⟩ k)
  mod a b := mod (ix2 a b)
  norm k := norm (ix2 0 k)
  bound d j f := bound (ix3 d j f)
  tap b f := tap (ix3 0 b f)
  bias f := bias (ix2 0 f)
  win a b := win (ix3 0 a b)
  wout a b := wout (ix3 0 a b)

/-- Entry `d` of head `h`. -/
def lane (h : Fin 8) (d : Fin 128) : Fin 1024 := ⟨128 * h + d, by omega⟩

end Args

end Cert.ProjSpec

end
-- ==== Proof.ProjRow.lean ====
/- A GRID POINT'S VALUES, READ AT AN INDEX. -/
module

public import proofs.«01_k».proof.Proof.ProjSpec
public import proofs.«01_k».proof.Proof.Gen.ProjIdeal.Skeleton
public import Idealize.ShloMosaic.Lib.Pointwise
public import Idealize.ShloMosaic.Lib.MatmulPlain

@[expose] public section

set_option maxRecDepth 16384

noncomputable section

namespace Cert.ProjRow

open Cert.ProjSpec Cert.ProjIdeal Cert.ProjIdeal.Gen Idealize.ShloMosaic Idealize.ShloMosaic.TcCoe

/-- The normalized row. -/
theorem hidden (s a n : Vec Ideal S1x1024 .f32) (x : Vec Ideal S256x1024 .f32) (r : Fin 256) (k : Fin 1024) :
    k0_pay6 s a x n (ix2 r k) = normed (fun k => x (ix2 r k)) (fun k => n (ix2 0 k)) (fun k => a (ix2 0 k)) (fun k => s (ix2 0 k)) k := by
  unfold k0_pay6 normed
  pointwise
  done

theorem hidden_cast (h : FVec Ideal S256x1024 .f32) (r : Fin 256) (k : Fin 1024) : k0_pay7 h (ix2 r k) = h (ix2 r k) := by
  unfold k0_pay7
  pointwise

/-- The projections, among them the values. -/
theorem plain (h : FVec Ideal S256x1024 .bf16) (w : Vec Ideal S1024x1024 .bf16) (r : Fin 256) (f : Fin 1024) :
    k0_pay42 h w (ix2 r f) = times (fun k => h (ix2 r k)) (fun k => w (ix2 k f)) := by
  unfold k0_pay42 times
  pointwise
  done

theorem plain' (h : FVec Ideal S256x1024 .bf16) (w : Vec Ideal S1024x1024 .bf16) : k0_pay20 h w = k0_pay42 h w := rfl

theorem silu_q (h : FVec Ideal S256x1024 .bf16) (w : Vec Ideal S1024x1024 .bf16) (r : Fin 256) (f : Fin 1024) :
    k0_pay10 h w (ix2 r f) = k0_pay42 h w (ix2 r f) * Ideal.logistic (k0_pay42 h w (ix2 r f)) := by
  have e : k0_pay10 h w = mulf (k0_pay42 h w) (logistic (k0_pay42 h w)) := rfl
  rw [e]
  generalize k0_pay42 h w = p
  pointwise
  done

theorem silu_g (h : FVec Ideal S256x1024 .bf16) (w : Vec Ideal S1024x1024 .bf16) (r : Fin 256) (f : Fin 1024) :
    k0_pay52 h w (ix2 r f) = k0_pay42 h w (ix2 r f) * Ideal.logistic (k0_pay42 h w (ix2 r f)) :=
  silu_q h w r f

theorem sigmoid (h : FVec Ideal S256x1024 .bf16) (w : Vec Ideal S1024x1024 .bf16) (r : Fin 256) (f : Fin 1024) :
    k0_pay5 h w (ix2 r f) = Ideal.logistic (k0_pay42 h w (ix2 r f)) := by
  have e : k0_pay5 h w = truncf .bf16 (logistic (k0_pay42 h w)) bitsLt_bf16_f32 := rfl
  rw [e]
  generalize k0_pay42 h w = p
  pointwise
  done

/-- A forget gate. -/
theorem forget (p : FVec Ideal S256x1024 .f32) (a b : Vec Ideal S1x1024 .f32) (r : Fin 256) (f : Fin 1024) :
    k0_pay22 p (k0_pay21 a) b (ix2 r f)
      = Ideal.log (bounded (p (ix2 r f)) (Ideal.logistic (a (ix2 0 f) - b (ix2 0 f)))) * (((Real.log 2)⁻¹ : ℝ) : EReal) := by
  unfold k0_pay22 k0_pay21 bounded
  pointwise
  rfl

theorem forget' (h : FVec Ideal S256x1024 .bf16) (w : Vec Ideal S1024x1024 .bf16) (a b : Vec Ideal S1x1024 .f32) :
    k0_pay32 h w a b = k0_pay22 (k0_pay42 h w) (k0_pay21 a) b := rfl

/-- The convolution of the product of two projections, as the kernel writes it: rows turned by one either way, and zero at
    the ends of the runs. -/
def convOf (u : FVec Ideal S256x1024 .f32) (a b c : Vec Ideal S1x1024 .f32) : FVec Ideal S256x1024 .f32 :=
  addf (addf
    (mulf (select (broadcastTo S256x1024 (shapeCast S256x1 (cmpi .eq (andi (iota .tc S256x1 32 [0] iota_S256x1_d0_w32) (broadcast S256x1 63#32))
        (broadcast S256x1 0#32)) shapeCasts_S256x1_S256x1) broadcasts_S256x1_S256x1024)
      (broadcast S256x1024 (Scalar.ofBits .f32 0x00000000#32)) (dynamicRotate 0 1#32 none u rotates_S256x1024_d0))
      (broadcastTo S256x1024 (shapeCast S1x1024 a shapeCasts_S1x1024_S1x1024) broadcasts_S1x1024_S256x1024))
    (mulf u (broadcastTo S256x1024 (shapeCast S1x1024 b shapeCasts_S1x1024_S1x1024) broadcasts_S1x1024_S256x1024)))
    (mulf (select (broadcastTo S256x1024 (shapeCast S256x1 (cmpi .eq (andi (iota .tc S256x1 32 [0] iota_S256x1_d0_w32) (broadcast S256x1 63#32))
        (broadcast S256x1 63#32)) shapeCasts_S256x1_S256x1) broadcasts_S256x1_S256x1024)
      (broadcast S256x1024 (Scalar.ofBits .f32 0x00000000#32)) (dynamicRotate 0 255#32 none u rotates_S256x1024_d0))
      (broadcastTo S256x1024 (shapeCast S1x1024 c shapeCasts_S1x1024_S1x1024) broadcasts_S1x1024_S256x1024))

/-- The kernel's tests for the first and the last row of a run. -/
theorem first_row (r : Fin 256) : IntOp.cmpi .eq (IntOp.andi (BitVec.ofNat 32 r.val) 63#32) 0#32 = if r.val % 64 = 0 then 1#1 else 0#1 := by
  revert r
  decide +kernel

theorem last_row (r : Fin 256) : IntOp.cmpi .eq (IntOp.andi (BitVec.ofNat 32 r.val) 63#32) 63#32 = if r.val % 64 = 63 then 1#1 else 0#1 := by
  revert r
  decide +kernel

/-- The convolution, -/
theorem conv (h : FVec Ideal S256x1024 .f32) (v w : Vec Ideal S1024x1024 .bf16) (a b c : Vec Ideal S1x1024 .f32) (r : Fin 256) (f : Fin 1024) :
    k0_pay8 h v w a b c (ix2 r f)
      = taps (fun i => k0_pay42 (k0_pay7 h) v (ix2 i f) * k0_pay42 (k0_pay7 h) w (ix2 i f)) (a (ix2 0 f)) (b (ix2 0 f)) (c (ix2 0 f)) r := by
  have e (i : Fin 256) : k0_pay42 (k0_pay7 h) v (ix2 i f) * k0_pay42 (k0_pay7 h) w (ix2 i f)
      = mulf (k0_pay42 (k0_pay7 h) v) (k0_pay42 (k0_pay7 h) w) (ix2 i f) := by
    generalize k0_pay42 (k0_pay7 h) v = x, k0_pay42 (k0_pay7 h) w = y
    pointwise
  simp only [e]
  have e' : k0_pay8 h v w a b c = convOf (mulf (k0_pay42 (k0_pay7 h) v) (k0_pay42 (k0_pay7 h) w)) a b c := rfl
  rw [e']
  generalize mulf (k0_pay42 (k0_pay7 h) v) (k0_pay42 (k0_pay7 h) w) = u
  unfold convOf taps before after
  pointwise
  rw [first_row r, last_row r]
  have hr : r.val < 256 := r.isLt
  by_cases h0 : r.val % 64 = 0
  · have h1 : r.val % 64 ≠ 63 ∧ r.val + 1 < 256 := by omega
    have h2 : (⟨(r.val + 256 - 255) % 256, by omega⟩ : Fin 256) = ⟨r.val + 1, h1.2⟩ := Fin.ext (by show (r.val + 256 - 255) % 256 = r.val + 1; omega)
    rw [if_pos h0, if_pos h0, dif_pos h1, if_neg h1.1, h2, zero_mul]
    rfl
  · have h2 : (⟨(r.val + 256 - 1) % 256, by omega⟩ : Fin 256) = ⟨r.val - 1, by omega⟩ := Fin.ext (by show (r.val + 256 - 1) % 256 = r.val - 1; omega)
    rw [if_neg h0, if_neg h0, h2]
    by_cases h3 : r.val % 64 = 63
    · rw [if_pos h3, dif_neg (fun h => h.1 h3), zero_mul]
      rfl
    · have h1 : r.val % 64 ≠ 63 ∧ r.val + 1 < 256 := by omega
      have h4 : (⟨(r.val + 256 - 255) % 256, by omega⟩ : Fin 256) = ⟨r.val + 1, h1.2⟩ := Fin.ext (by show (r.val + 256 - 255) % 256 = r.val + 1; omega)
      rw [if_neg h3, dif_pos h1, h4]
      rfl

/-- and the branch that it is in. -/
theorem branch (h : FVec Ideal S256x1024 .bf16) (u : FVec Ideal S256x1024 .f32) (b : Vec Ideal S1x1024 .f32) (w o g : Vec Ideal S1024x1024 .bf16)
    (r : Fin 256) (f : Fin 1024) :
    k0_pay9 h u b w o g (ix2 r f) = Ideal.logistic (k0_pay42 h g (ix2 r f))
      * times (fun k => k0_pay42 h w (ix2 r k) * (u (ix2 r k) + b (ix2 0 k))) (fun k => o (ix2 k f)) := by
  simp only [plain]
  unfold k0_pay9 times
  pointwise
  done

end Cert.ProjRow

end
-- ==== Proof.ProjPoint.lean ====
/- A GRID POINT OF THE PROJECTIONS.  A point reads its block of rows, the modulation's row of its request and the other arrays
   whole, and stores two results as blocks of rows and five results head by head.  A result stored head by head is, head
   for head, a block of rows. -/
module

public import proofs.«01_k».proof.Proof.ProjRow
public import proofs.«01_k».proof.Proof.Gen.ProjIdeal.Value
public import Idealize.ShloMosaic.Lib.VecWindow

@[expose] public section

set_option maxRecDepth 16384

noncomputable section

namespace Cert.ProjPoint

open Cert.ProjSpec.Args Cert.ProjIdeal Cert.ProjIdeal.Gen Idealize.ShloMosaic Idealize.ShloMosaic.TcCoe Idealize.ShloMosaic.Tactic

/-- The blocks that a point reads and writes: a column group of the matrix, a row of the bounds, a tap, a head, and whole arrays. -/
abbrev groupR (g : Fin 10) : Rect S1024x10240 :=
  Rect.unit ![0, 1024 * g.val] S1024x1024.size (by intro a; fin_cases a <;> simp <;> omega)
abbrev boundR (b : Fin 4) : Rect S4x1024 := Rect.unit ![b.val, 0] S1x1024.size (by intro a; fin_cases a <;> simp <;> omega)
abbrev tapR (b : Fin 3) : Rect S3x1024 := Rect.unit ![b.val, 0] S1x1024.size (by intro a; fin_cases a <;> simp <;> omega)
abbrev headR (h : Fin 8) : Rect S8x256x128 := Rect.unit ![h.val, 0, 0] S1x256x128.size (by intro a; fin_cases a <;> simp <;> omega)
abbrev rowsR : Rect S256x1024 := Rect.unit ![0, 0] S256x1024.size inb_S256x1024_S256x1024_0_0
abbrev oneR : Rect S1x1024 := Rect.unit ![0, 0] S1x1024.size inb_S1x1024_S1x1024_0_0
abbrev squareR : Rect S1024x1024 := Rect.unit ![0, 0] S1024x1024.size inb_S1024x1024_S1024x1024_0_0
abbrev shiftR (i : grid0.Coords) : Rect S8x6144 := Rect.unit (k0_off1 i) S1x1024.size (k0_off1_inb i)
abbrev scaleR (i : grid0.Coords) : Rect S8x6144 := Rect.unit (k0_off2 i) S1x1024.size (k0_off2_inb i)

section Lists

variable {F : FTy → Type} [FloatOps F]

/-- Contents that all the pieces of a list agree with are what the list leaves where it writes. -/
theorem canon_agree {S : Shape} {e : EltTy} (G : S.Idx → Elt F e) (y : S.Idx) : ∀ L : List (View.Piece (Elt F) S e),
    (∀ p ∈ L, ∀ j, p.2 j = G (p.1.emb j)) → (∃ p ∈ L, y ∈ p.1.set) → View.canon L y = G y
  | [], _, h => by obtain ⟨_, hm, _⟩ := h; exact absurd hm List.not_mem_nil
  | ⟨r, w⟩ :: L, h, hy => by
    by_cases hr : y ∈ r.set
    · obtain ⟨x, rfl⟩ : ∃ x, r.emb x = y := r.exists_idx_of_mem hr
      rw [View.canon_cons_emb]
      exact h ⟨r, w⟩ List.mem_cons_self x
    · rw [View.canon_cons_of_not_mem ⟨r, w⟩ L hr]
      refine canon_agree G y L (fun p hp => h p (List.mem_cons_of_mem _ hp)) ?_
      obtain ⟨p, hm, hp⟩ := hy
      rcases List.mem_cons.mp hm with rfl | hm
      · exact absurd hp hr
      · exact ⟨p, hm, hp⟩

/-- An index of a head's block, in the whole. -/
theorem head_emb (h : Fin 8) (r : Fin 256) (d : Fin 128) : (headR h).emb (ix3 0 r d) = ix3 h r d := by
  funext a
  apply Fin.ext
  fin_cases a
  · show h.val + 1 * 0 = h.val
    omega
  · show 0 + 1 * r.val = r.val
    omega
  · show 0 + 1 * d.val = d.val
    omega

/-- Eight heads, one after the other, leave each head's block. -/
theorem canon_heads {e : EltTy} (w : Fin 8 → Vec F S1x256x128 e) (h : Fin 8) (r : Fin 256) (d : Fin 128) :
    View.canon (Val := Elt F) (s := S8x256x128) (e := e) [⟨headR 7, w 7⟩, ⟨headR 6, w 6⟩, ⟨headR 5, w 5⟩, ⟨headR 4, w 4⟩, ⟨headR 3, w 3⟩, ⟨headR 2, w 2⟩,
      ⟨headR 1, w 1⟩, ⟨headR 0, w 0⟩] (ix3 h r d) = w h (ix3 0 r d) := by
  refine canon_agree (fun y => w (y 0) (ix3 0 (y 1) (y 2))) (ix3 h r d) _ ?_ ?_
  · have piece (k : Fin 8) (j : S1x256x128.Idx) : w k j = w ((headR k).emb j 0) (ix3 0 ((headR k).emb j 1) ((headR k).emb j 2)) := by
      obtain ⟨a, b, rfl⟩ : ∃ a b, j = ix3 0 a b :=
        ⟨j 1, j 2, by funext a; fin_cases a <;> first | rfl | exact Subsingleton.elim (α := Fin 1) _ _⟩
      rw [head_emb]
      rfl
    intro p hp
    simp only [List.mem_cons, List.not_mem_nil, or_false] at hp
    rcases hp with rfl | rfl | rfl | rfl | rfl | rfl | rfl | rfl <;> exact piece _
  · have mem : ix3 h r d ∈ (headR h).set := head_emb h r d ▸ (headR h).idx_mem _
    fin_cases h
    · exact ⟨⟨headR 0, w 0⟩, by simp, mem⟩
    · exact ⟨⟨headR 1, w 1⟩, by simp, mem⟩
    · exact ⟨⟨headR 2, w 2⟩, by simp, mem⟩
    · exact ⟨⟨headR 3, w 3⟩, by simp, mem⟩
    · exact ⟨⟨headR 4, w 4⟩, by simp, mem⟩
    · exact ⟨⟨headR 5, w 5⟩, by simp, mem⟩
    · exact ⟨⟨headR 6, w 6⟩, by simp, mem⟩
    · exact ⟨⟨headR 7, w 7⟩, by simp, mem⟩

end Lists

/-- A head cut out of a block of rows, cast or not. -/
theorem cut (Y : FVec Ideal S256x1024 .f32) (o : ℕ) (ho : o + 128 ≤ 1024) (hs : S256x1024.Slices ![0, o] S256x128) (r : Fin 256) (d : Fin 128) :
    shapeCast S1x256x128 (extractStridedSlice S256x128 ![0, o] Y hs) shapeCasts_S256x128_S1x256x128 (ix3 0 r d)
      = Y (ix2 r ⟨o + d, by omega⟩) := by
  pointwise

theorem cut_cast (Y : FVec Ideal S256x1024 .f32) (o : ℕ) (ho : o + 128 ≤ 1024) (hs : S256x1024.Slices ![0, o] S256x128) (r : Fin 256) (d : Fin 128) :
    shapeCast S1x256x128 (truncf .bf16 (extractStridedSlice S256x128 ![0, o] Y hs) bitsLt_bf16_f32) shapeCasts_S256x128_S1x256x128 (ix3 0 r d)
      = Y (ix2 r ⟨o + d, by omega⟩) := by
  pointwise

/-- The eight heads of a block of rows, not cast -/
def heads (Y : FVec Ideal S256x1024 .f32) : Fin 8 → Vec Ideal S1x256x128 .f32 :=
  ![shapeCast S1x256x128 (extractStridedSlice S256x128 ![0, 0] Y slices_S256x1024_o0_0_S256x128) shapeCasts_S256x128_S1x256x128,
    shapeCast S1x256x128 (extractStridedSlice S256x128 ![0, 128] Y slices_S256x1024_o0_128_S256x128) shapeCasts_S256x128_S1x256x128,
    shapeCast S1x256x128 (extractStridedSlice S256x128 ![0, 256] Y slices_S256x1024_o0_256_S256x128) shapeCasts_S256x128_S1x256x128,
    shapeCast S1x256x128 (extractStridedSlice S256x128 ![0, 384] Y slices_S256x1024_o0_384_S256x128) shapeCasts_S256x128_S1x256x128,
    shapeCast S1x256x128 (extractStridedSlice S256x128 ![0, 512] Y slices_S256x1024_o0_512_S256x128) shapeCasts_S256x128_S1x256x128,
    shapeCast S1x256x128 (extractStridedSlice S256x128 ![0, 640] Y slices_S256x1024_o0_640_S256x128) shapeCasts_S256x128_S1x256x128,
    shapeCast S1x256x128 (extractStridedSlice S256x128 ![0, 768] Y slices_S256x1024_o0_768_S256x128) shapeCasts_S256x128_S1x256x128,
    shapeCast S1x256x128 (extractStridedSlice S256x128 ![0, 896] Y slices_S256x1024_o0_896_S256x128) shapeCasts_S256x128_S1x256x128]

theorem heads_apply (Y : FVec Ideal S256x1024 .f32) (h : Fin 8) (r : Fin 256) (d : Fin 128) : heads Y h (ix3 0 r d) = Y (ix2 r (lane h d)) := by
  fin_cases h
  exacts [cut Y 0 (by omega) slices_S256x1024_o0_0_S256x128 r d, cut Y 128 (by omega) slices_S256x1024_o0_128_S256x128 r d, cut Y 256 (by omega) slices_S256x1024_o0_256_S256x128 r d, cut Y 384 (by omega) slices_S256x1024_o0_384_S256x128 r d, cut Y 512 (by omega) slices_S256x1024_o0_512_S256x128 r d, cut Y 640 (by omega) slices_S256x1024_o0_640_S256x128 r d, cut Y 768 (by omega) slices_S256x1024_o0_768_S256x128 r d, cut Y 896 (by omega) slices_S256x1024_o0_896_S256x128 r d]

/-- and cast. -/
def heads_cast (Y : FVec Ideal S256x1024 .f32) : Fin 8 → Vec Ideal S1x256x128 .bf16 :=
  ![shapeCast S1x256x128 (truncf .bf16 (extractStridedSlice S256x128 ![0, 0] Y slices_S256x1024_o0_0_S256x128) bitsLt_bf16_f32) shapeCasts_S256x128_S1x256x128,
    shapeCast S1x256x128 (truncf .bf16 (extractStridedSlice S256x128 ![0, 128] Y slices_S256x1024_o0_128_S256x128) bitsLt_bf16_f32) shapeCasts_S256x128_S1x256x128,
    shapeCast S1x256x128 (truncf .bf16 (extractStridedSlice S256x128 ![0, 256] Y slices_S256x1024_o0_256_S256x128) bitsLt_bf16_f32) shapeCasts_S256x128_S1x256x128,
    shapeCast S1x256x128 (truncf .bf16 (extractStridedSlice S256x128 ![0, 384] Y slices_S256x1024_o0_384_S256x128) bitsLt_bf16_f32) shapeCasts_S256x128_S1x256x128,
    shapeCast S1x256x128 (truncf .bf16 (extractStridedSlice S256x128 ![0, 512] Y slices_S256x1024_o0_512_S256x128) bitsLt_bf16_f32) shapeCasts_S256x128_S1x256x128,
    shapeCast S1x256x128 (truncf .bf16 (extractStridedSlice S256x128 ![0, 640] Y slices_S256x1024_o0_640_S256x128) bitsLt_bf16_f32) shapeCasts_S256x128_S1x256x128,
    shapeCast S1x256x128 (truncf .bf16 (extractStridedSlice S256x128 ![0, 768] Y slices_S256x1024_o0_768_S256x128) bitsLt_bf16_f32) shapeCasts_S256x128_S1x256x128,
    shapeCast S1x256x128 (truncf .bf16 (extractStridedSlice S256x128 ![0, 896] Y slices_S256x1024_o0_896_S256x128) bitsLt_bf16_f32) shapeCasts_S256x128_S1x256x128]

theorem heads_cast_apply (Y : FVec Ideal S256x1024 .f32) (h : Fin 8) (r : Fin 256) (d : Fin 128) : heads_cast Y h (ix3 0 r d) = Y (ix2 r (lane h d)) := by
  fin_cases h
  exacts [cut_cast Y 0 (by omega) slices_S256x1024_o0_0_S256x128 r d, cut_cast Y 128 (by omega) slices_S256x1024_o0_128_S256x128 r d, cut_cast Y 256 (by omega) slices_S256x1024_o0_256_S256x128 r d, cut_cast Y 384 (by omega) slices_S256x1024_o0_384_S256x128 r d, cut_cast Y 512 (by omega) slices_S256x1024_o0_512_S256x128 r d, cut_cast Y 640 (by omega) slices_S256x1024_o0_640_S256x128 r d, cut_cast Y 768 (by omega) slices_S256x1024_o0_768_S256x128 r d, cut_cast Y 896 (by omega) slices_S256x1024_o0_896_S256x128 r d]

/-- The rows that a point's projections are made of. -/
abbrev hiddenOf (i : grid0.Coords) (x0 : Vec Ideal S256x1024 .f32) (x1 : Vec Ideal S8x6144 .f32) (x2 : Vec Ideal S1x1024 .f32) : FVec Ideal S256x1024 .f32 :=
  k0_pay6 (View.ld (Val := Elt Ideal) (e' := .f32) x1 (shiftR i)) (View.ld (Val := Elt Ideal) (e' := .f32) x1 (scaleR i)) x0 x2

/-- A column group of the matrix, a row of the bounds and a tap. -/
abbrev W (x6 : Vec Ideal S1024x10240 .bf16) (g : Fin 10) : Vec Ideal S1024x1024 .bf16 := View.ld (Val := Elt Ideal) (e' := .bf16) x6 (groupR g)
abbrev B (x3 : Vec Ideal S4x1024 .f32) (b : Fin 4) : Vec Ideal S1x1024 .f32 := View.ld (Val := Elt Ideal) (e' := .f32) x3 (boundR b)
abbrev T (x4 : Vec Ideal S3x1024 .f32) (b : Fin 3) : Vec Ideal S1x1024 .f32 := View.ld (Val := Elt Ideal) (e' := .f32) x4 (tapR b)

section

variable (c : Dev nD) (i : grid0.Coords) (arg1 : Memref sig .tc .vmem S256x1024 .f32) (harg1 : arg1.IsWhole) (arg2 : Memref sig .tc .vmem S8x6144 .f32) (harg2 : arg2.IsWhole)
  (arg3 : Memref sig .tc .vmem S1x1024 .f32) (harg3 : arg3.IsWhole) (arg4 : Memref sig .tc .vmem S4x1024 .f32) (harg4 : arg4.IsWhole)
  (arg5 : Memref sig .tc .vmem S3x1024 .f32) (harg5 : arg5.IsWhole) (arg6 : Memref sig .tc .vmem S1x1024 .f32) (harg6 : arg6.IsWhole)
  (arg7 : Memref sig .tc .vmem S1024x10240 .bf16) (harg7 : arg7.IsWhole) (arg8 : Memref sig .tc .vmem S1024x1024 .bf16) (harg8 : arg8.IsWhole)
  (arg9 : Memref sig .tc .vmem S256x1024 .bf16) (harg9 : arg9.IsWhole) (arg10 : Memref sig .tc .vmem S8x256x128 .bf16) (harg10 : arg10.IsWhole)
  (arg11 : Memref sig .tc .vmem S8x256x128 .f32) (harg11 : arg11.IsWhole) (arg12 : Memref sig .tc .vmem S8x256x128 .f32) (harg12 : arg12.IsWhole)
  (arg13 : Memref sig .tc .vmem S8x256x128 .bf16) (harg13 : arg13.IsWhole) (arg14 : Memref sig .tc .vmem S8x256x128 .bf16) (harg14 : arg14.IsWhole)
  (arg15 : Memref sig .tc .vmem S256x1024 .bf16) (harg15 : arg15.IsWhole)
  (x0 : Vec Ideal S256x1024 .f32) (x1 : Vec Ideal S8x6144 .f32) (x2 : Vec Ideal S1x1024 .f32) (x3 : Vec Ideal S4x1024 .f32) (x4 : Vec Ideal S3x1024 .f32) (x5 : Vec Ideal S1x1024 .f32) (x6 : Vec Ideal S1024x10240 .bf16) (x7 : Vec Ideal S1024x1024 .bf16)

/-- The loads of a point, through its buffers. -/
abbrev hiddenL : FVec Ideal S256x1024 .f32 := k0_pay6 (View.readAt (Elt Ideal) arg2.view (shiftR i).toLoadRect (harg2.unread x1))
  (View.readAt (Elt Ideal) arg2.view (scaleR i).toLoadRect (harg2.unread x1)) (View.readAt (Elt Ideal) arg1.view (rowsR).toLoadRect (harg1.unread x0))
  (View.readAt (Elt Ideal) arg3.view (oneR).toLoadRect (harg3.unread x2))
abbrev groupL (g : Fin 10) : Vec Ideal S1024x1024 .bf16 := View.readAt (Elt Ideal) arg7.view (groupR g).toLoadRect (harg7.unread x6)
abbrev boundL (b : Fin 4) : Vec Ideal S1x1024 .f32 := View.readAt (Elt Ideal) arg4.view (boundR b).toLoadRect (harg4.unread x3)
abbrev tapL (b : Fin 3) : Vec Ideal S1x1024 .f32 := View.readAt (Elt Ideal) arg5.view (tapR b).toLoadRect (harg5.unread x4)

theorem hiddenL_eq : hiddenL i arg1 harg1 arg2 harg2 arg3 harg3 x0 x1 x2 = hiddenOf i x0 x1 x2 := by
  unfold hiddenL hiddenOf
  rw [View.readAt_full, View.readAt_full, harg1.read_unread, harg3.read_unread, View.readAt_eq_ld, View.readAt_eq_ld, harg2.read_unread]
theorem groupL_eq (g : Fin 10) : groupL arg7 harg7 x6 g = W x6 g := by
  unfold groupL W
  rw [View.readAt_eq_ld, harg7.read_unread]
theorem boundL_eq (b : Fin 4) : boundL arg4 harg4 x3 b = B x3 b := by
  unfold boundL B
  rw [View.readAt_eq_ld, harg4.read_unread]
theorem tapL_eq (b : Fin 3) : tapL arg5 harg5 x4 b = T x4 b := by
  unfold tapL T
  rw [View.readAt_eq_ld, harg5.read_unread]

/-- The first result: the gated output of the convolution's branch. -/
theorem branch : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = k0_pay9 (k0_pay7 (hiddenOf i x0 x1 x2)) (k0_pay8 (hiddenOf i x0 x1 x2) (W x6 2) (W x6 0) (T x4 0) (T x4 1) (T x4 2)) x5 (W x6 1) x7 (W x6 8) := by
  unfold out0_A_8
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1
      = [⟨rowsR, k0_pay9 (k0_pay7 (hiddenL i arg1 harg1 arg2 harg2 arg3 harg3 x0 x1 x2)) (k0_pay8 (hiddenL i arg1 harg1 arg2 harg2 arg3 harg3 x0 x1 x2) (groupL arg7 harg7 x6 2) (groupL arg7 harg7 x6 0) (tapL arg5 harg5 x4 0) (tapL arg5 harg5 x4 1) (tapL arg5 harg5 x4 2)) (View.readAt (Elt Ideal) arg6.view (oneR).toLoadRect (harg6.unread x5))
          (groupL arg7 harg7 x6 1) (View.readAt (Elt Ideal) arg8.view (squareR).toLoadRect (harg8.unread x7)) (groupL arg7 harg7 x6 8)⟩] := by sl_kernel_rfl
  rw [e, View.read_writes_full, hiddenL_eq]
  simp only [groupL_eq, tapL_eq]
  rw [View.readAt_full, View.readAt_full, harg6.read_unread, harg8.read_unread]

/-- The last result: the gate of the scan's branch. -/
theorem last : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = k0_pay5 (k0_pay7 (hiddenOf i x0 x1 x2)) (W x6 9) := by
  unfold out0_A_14
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.2.1
      = [⟨rowsR, k0_pay5 (k0_pay7 (hiddenL i arg1 harg1 arg2 harg2 arg3 harg3 x0 x1 x2)) (groupL arg7 harg7 x6 9)⟩] := by sl_kernel_rfl
  rw [e, View.read_writes_full, hiddenL_eq]
  simp only [groupL_eq, tapL_eq]
  skip

/-- The second result. -/
theorem silu_q (h : Fin 8) (r : Fin 256) (d : Fin 128) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 h r d)
    = k0_pay10 (k0_pay7 (hiddenOf i x0 x1 x2)) (W x6 3) (ix2 r (lane h d)) := by
  unfold out0_A_9
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1
      = [⟨headR 7, k0_pay19 (k0_pay10 (k0_pay7 (hiddenL i arg1 harg1 arg2 harg2 arg3 harg3 x0 x1 x2)) (groupL arg7 harg7 x6 3))⟩,
        ⟨headR 6, k0_pay18 (k0_pay10 (k0_pay7 (hiddenL i arg1 harg1 arg2 harg2 arg3 harg3 x0 x1 x2)) (groupL arg7 harg7 x6 3))⟩,
        ⟨headR 5, k0_pay17 (k0_pay10 (k0_pay7 (hiddenL i arg1 harg1 arg2 harg2 arg3 harg3 x0 x1 x2)) (groupL arg7 harg7 x6 3))⟩,
        ⟨headR 4, k0_pay16 (k0_pay10 (k0_pay7 (hiddenL i arg1 harg1 arg2 harg2 arg3 harg3 x0 x1 x2)) (groupL arg7 harg7 x6 3))⟩,
        ⟨headR 3, k0_pay15 (k0_pay10 (k0_pay7 (hiddenL i arg1 harg1 arg2 harg2 arg3 harg3 x0 x1 x2)) (groupL arg7 harg7 x6 3))⟩,
        ⟨headR 2, k0_pay14 (k0_pay13 (k0_pay7 (hiddenL i arg1 harg1 arg2 harg2 arg3 harg3 x0 x1 x2)) (groupL arg7 harg7 x6 3))⟩,
        ⟨headR 1, k0_pay12 (k0_pay7 (hiddenL i arg1 harg1 arg2 harg2 arg3 harg3 x0 x1 x2)) (groupL arg7 harg7 x6 3)⟩,
        ⟨headR 0, k0_pay11 (k0_pay7 (hiddenL i arg1 harg1 arg2 harg2 arg3 harg3 x0 x1 x2)) (groupL arg7 harg7 x6 3)⟩] := by sl_kernel_rfl
  rw [e, View.read_writes_junk_eq_canon]
  have y : k0_pay10 (k0_pay7 (hiddenL i arg1 harg1 arg2 harg2 arg3 harg3 x0 x1 x2)) (groupL arg7 harg7 x6 3) = k0_pay10 (k0_pay7 (hiddenOf i x0 x1 x2)) (W x6 3) := by
    rw [hiddenL_eq]
    simp only [groupL_eq, boundL_eq]
  rw [← y]
  exact (canon_heads (heads_cast (k0_pay10 (k0_pay7 (hiddenL i arg1 harg1 arg2 harg2 arg3 harg3 x0 x1 x2)) (groupL arg7 harg7 x6 3))) h r d).trans (heads_cast_apply _ h r d)

/-- The third, the forget gate of the first direction, -/
theorem forget_first (h : Fin 8) (r : Fin 256) (d : Fin 128) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 h r d)
    = k0_pay22 (k0_pay20 (k0_pay7 (hiddenOf i x0 x1 x2)) (W x6 4)) (k0_pay21 (B x3 0)) (B x3 1) (ix2 r (lane h d)) := by
  unfold out0_A_10
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1
      = [⟨headR 7, k0_pay31 (k0_pay22 (k0_pay20 (k0_pay7 (hiddenL i arg1 harg1 arg2 harg2 arg3 harg3 x0 x1 x2)) (groupL arg7 harg7 x6 4)) (k0_pay21 (boundL arg4 harg4 x3 0)) (boundL arg4 harg4 x3 1))⟩,
        ⟨headR 6, k0_pay30 (k0_pay22 (k0_pay20 (k0_pay7 (hiddenL i arg1 harg1 arg2 harg2 arg3 harg3 x0 x1 x2)) (groupL arg7 harg7 x6 4)) (k0_pay21 (boundL arg4 harg4 x3 0)) (boundL arg4 harg4 x3 1))⟩,
        ⟨headR 5, k0_pay29 (k0_pay28 (k0_pay20 (k0_pay7 (hiddenL i arg1 harg1 arg2 harg2 arg3 harg3 x0 x1 x2)) (groupL arg7 harg7 x6 4)) (k0_pay21 (boundL arg4 harg4 x3 0)) (boundL arg4 harg4 x3 1))⟩,
        ⟨headR 4, k0_pay27 (k0_pay20 (k0_pay7 (hiddenL i arg1 harg1 arg2 harg2 arg3 harg3 x0 x1 x2)) (groupL arg7 harg7 x6 4)) (k0_pay21 (boundL arg4 harg4 x3 0)) (boundL arg4 harg4 x3 1)⟩,
        ⟨headR 3, k0_pay26 (k0_pay20 (k0_pay7 (hiddenL i arg1 harg1 arg2 harg2 arg3 harg3 x0 x1 x2)) (groupL arg7 harg7 x6 4)) (k0_pay21 (boundL arg4 harg4 x3 0)) (boundL arg4 harg4 x3 1)⟩,
        ⟨headR 2, k0_pay25 (k0_pay20 (k0_pay7 (hiddenL i arg1 harg1 arg2 harg2 arg3 harg3 x0 x1 x2)) (groupL arg7 harg7 x6 4)) (k0_pay21 (boundL arg4 harg4 x3 0)) (boundL arg4 harg4 x3 1)⟩,
        ⟨headR 1, k0_pay24 (k0_pay20 (k0_pay7 (hiddenL i arg1 harg1 arg2 harg2 arg3 harg3 x0 x1 x2)) (groupL arg7 harg7 x6 4)) (k0_pay21 (boundL arg4 harg4 x3 0)) (boundL arg4 harg4 x3 1)⟩,
        ⟨headR 0, k0_pay23 (k0_pay20 (k0_pay7 (hiddenL i arg1 harg1 arg2 harg2 arg3 harg3 x0 x1 x2)) (groupL arg7 harg7 x6 4)) (k0_pay21 (boundL arg4 harg4 x3 0)) (boundL arg4 harg4 x3 1)⟩] := by sl_kernel_rfl
  rw [e, View.read_writes_junk_eq_canon]
  have y : k0_pay22 (k0_pay20 (k0_pay7 (hiddenL i arg1 harg1 arg2 harg2 arg3 harg3 x0 x1 x2)) (groupL arg7 harg7 x6 4)) (k0_pay21 (boundL arg4 harg4 x3 0)) (boundL arg4 harg4 x3 1) = k0_pay22 (k0_pay20 (k0_pay7 (hiddenOf i x0 x1 x2)) (W x6 4)) (k0_pay21 (B x3 0)) (B x3 1) := by
    rw [hiddenL_eq]
    simp only [groupL_eq, boundL_eq]
  rw [← y]
  exact (canon_heads (heads (k0_pay22 (k0_pay20 (k0_pay7 (hiddenL i arg1 harg1 arg2 harg2 arg3 harg3 x0 x1 x2)) (groupL arg7 harg7 x6 4)) (k0_pay21 (boundL arg4 harg4 x3 0)) (boundL arg4 harg4 x3 1))) h r d).trans (heads_apply _ h r d)

/-- and the fourth, that of the second. -/
theorem forget_second (h : Fin 8) (r : Fin 256) (d : Fin 128) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 h r d)
    = k0_pay32 (k0_pay7 (hiddenOf i x0 x1 x2)) (W x6 5) (B x3 2) (B x3 3) (ix2 r (lane h d)) := by
  unfold out0_A_11
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1
      = [⟨headR 7, k0_pay41 (k0_pay32 (k0_pay7 (hiddenL i arg1 harg1 arg2 harg2 arg3 harg3 x0 x1 x2)) (groupL arg7 harg7 x6 5) (boundL arg4 harg4 x3 2) (boundL arg4 harg4 x3 3))⟩,
        ⟨headR 6, k0_pay40 (k0_pay32 (k0_pay7 (hiddenL i arg1 harg1 arg2 harg2 arg3 harg3 x0 x1 x2)) (groupL arg7 harg7 x6 5) (boundL arg4 harg4 x3 2) (boundL arg4 harg4 x3 3))⟩,
        ⟨headR 5, k0_pay39 (k0_pay32 (k0_pay7 (hiddenL i arg1 harg1 arg2 harg2 arg3 harg3 x0 x1 x2)) (groupL arg7 harg7 x6 5) (boundL arg4 harg4 x3 2) (boundL arg4 harg4 x3 3))⟩,
        ⟨headR 4, k0_pay38 (k0_pay32 (k0_pay7 (hiddenL i arg1 harg1 arg2 harg2 arg3 harg3 x0 x1 x2)) (groupL arg7 harg7 x6 5) (boundL arg4 harg4 x3 2) (boundL arg4 harg4 x3 3))⟩,
        ⟨headR 3, k0_pay37 (k0_pay32 (k0_pay7 (hiddenL i arg1 harg1 arg2 harg2 arg3 harg3 x0 x1 x2)) (groupL arg7 harg7 x6 5) (boundL arg4 harg4 x3 2) (boundL arg4 harg4 x3 3))⟩,
        ⟨headR 2, k0_pay36 (k0_pay32 (k0_pay7 (hiddenL i arg1 harg1 arg2 harg2 arg3 harg3 x0 x1 x2)) (groupL arg7 harg7 x6 5) (boundL arg4 harg4 x3 2) (boundL arg4 harg4 x3 3))⟩,
        ⟨headR 1, k0_pay35 (k0_pay34 (k0_pay7 (hiddenL i arg1 harg1 arg2 harg2 arg3 harg3 x0 x1 x2)) (groupL arg7 harg7 x6 5) (boundL arg4 harg4 x3 2) (boundL arg4 harg4 x3 3))⟩,
        ⟨headR 0, k0_pay33 (k0_pay7 (hiddenL i arg1 harg1 arg2 harg2 arg3 harg3 x0 x1 x2)) (groupL arg7 harg7 x6 5) (boundL arg4 harg4 x3 2) (boundL arg4 harg4 x3 3)⟩] := by sl_kernel_rfl
  rw [e, View.read_writes_junk_eq_canon]
  have y : k0_pay32 (k0_pay7 (hiddenL i arg1 harg1 arg2 harg2 arg3 harg3 x0 x1 x2)) (groupL arg7 harg7 x6 5) (boundL arg4 harg4 x3 2) (boundL arg4 harg4 x3 3) = k0_pay32 (k0_pay7 (hiddenOf i x0 x1 x2)) (W x6 5) (B x3 2) (B x3 3) := by
    rw [hiddenL_eq]
    simp only [groupL_eq, boundL_eq]
  rw [← y]
  exact (canon_heads (heads (k0_pay32 (k0_pay7 (hiddenL i arg1 harg1 arg2 harg2 arg3 harg3 x0 x1 x2)) (groupL arg7 harg7 x6 5) (boundL arg4 harg4 x3 2) (boundL arg4 harg4 x3 3))) h r d).trans (heads_apply _ h r d)

/-- The fifth result, the values, -/
theorem values (h : Fin 8) (r : Fin 256) (d : Fin 128) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 h r d)
    = k0_pay42 (k0_pay7 (hiddenOf i x0 x1 x2)) (W x6 6) (ix2 r (lane h d)) := by
  unfold out0_A_12
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1
      = [⟨headR 7, k0_pay51 (k0_pay42 (k0_pay7 (hiddenL i arg1 harg1 arg2 harg2 arg3 harg3 x0 x1 x2)) (groupL arg7 harg7 x6 6))⟩,
        ⟨headR 6, k0_pay50 (k0_pay49 (k0_pay42 (k0_pay7 (hiddenL i arg1 harg1 arg2 harg2 arg3 harg3 x0 x1 x2)) (groupL arg7 harg7 x6 6)))⟩,
        ⟨headR 5, k0_pay48 (k0_pay42 (k0_pay7 (hiddenL i arg1 harg1 arg2 harg2 arg3 harg3 x0 x1 x2)) (groupL arg7 harg7 x6 6))⟩,
        ⟨headR 4, k0_pay47 (k0_pay42 (k0_pay7 (hiddenL i arg1 harg1 arg2 harg2 arg3 harg3 x0 x1 x2)) (groupL arg7 harg7 x6 6))⟩,
        ⟨headR 3, k0_pay46 (k0_pay42 (k0_pay7 (hiddenL i arg1 harg1 arg2 harg2 arg3 harg3 x0 x1 x2)) (groupL arg7 harg7 x6 6))⟩,
        ⟨headR 2, k0_pay45 (k0_pay42 (k0_pay7 (hiddenL i arg1 harg1 arg2 harg2 arg3 harg3 x0 x1 x2)) (groupL arg7 harg7 x6 6))⟩,
        ⟨headR 1, k0_pay44 (k0_pay42 (k0_pay7 (hiddenL i arg1 harg1 arg2 harg2 arg3 harg3 x0 x1 x2)) (groupL arg7 harg7 x6 6))⟩,
        ⟨headR 0, k0_pay43 (k0_pay42 (k0_pay7 (hiddenL i arg1 harg1 arg2 harg2 arg3 harg3 x0 x1 x2)) (groupL arg7 harg7 x6 6))⟩] := by sl_kernel_rfl
  rw [e, View.read_writes_junk_eq_canon]
  have y : k0_pay42 (k0_pay7 (hiddenL i arg1 harg1 arg2 harg2 arg3 harg3 x0 x1 x2)) (groupL arg7 harg7 x6 6) = k0_pay42 (k0_pay7 (hiddenOf i x0 x1 x2)) (W x6 6) := by
    rw [hiddenL_eq]
    simp only [groupL_eq, boundL_eq]
  rw [← y]
  exact (canon_heads (heads_cast (k0_pay42 (k0_pay7 (hiddenL i arg1 harg1 arg2 harg2 arg3 harg3 x0 x1 x2)) (groupL arg7 harg7 x6 6))) h r d).trans (heads_cast_apply _ h r d)

/-- and the sixth. -/
theorem silu_g (h : Fin 8) (r : Fin 256) (d : Fin 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 h r d)
    = k0_pay52 (k0_pay7 (hiddenOf i x0 x1 x2)) (W x6 7) (ix2 r (lane h d)) := by
  unfold out0_A_13
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.1
      = [⟨headR 7, k0_pay4 (k0_pay52 (k0_pay7 (hiddenL i arg1 harg1 arg2 harg2 arg3 harg3 x0 x1 x2)) (groupL arg7 harg7 x6 7))⟩,
        ⟨headR 6, k0_pay3 (k0_pay52 (k0_pay7 (hiddenL i arg1 harg1 arg2 harg2 arg3 harg3 x0 x1 x2)) (groupL arg7 harg7 x6 7))⟩,
        ⟨headR 5, k0_pay2 (k0_pay52 (k0_pay7 (hiddenL i arg1 harg1 arg2 harg2 arg3 harg3 x0 x1 x2)) (groupL arg7 harg7 x6 7))⟩,
        ⟨headR 4, k0_pay1 (k0_pay57 (k0_pay7 (hiddenL i arg1 harg1 arg2 harg2 arg3 harg3 x0 x1 x2)) (groupL arg7 harg7 x6 7))⟩,
        ⟨headR 3, k0_pay56 (k0_pay7 (hiddenL i arg1 harg1 arg2 harg2 arg3 harg3 x0 x1 x2)) (groupL arg7 harg7 x6 7)⟩,
        ⟨headR 2, k0_pay55 (k0_pay7 (hiddenL i arg1 harg1 arg2 harg2 arg3 harg3 x0 x1 x2)) (groupL arg7 harg7 x6 7)⟩,
        ⟨headR 1, k0_pay54 (k0_pay7 (hiddenL i arg1 harg1 arg2 harg2 arg3 harg3 x0 x1 x2)) (groupL arg7 harg7 x6 7)⟩,
        ⟨headR 0, k0_pay53 (k0_pay7 (hiddenL i arg1 harg1 arg2 harg2 arg3 harg3 x0 x1 x2)) (groupL arg7 harg7 x6 7)⟩] := by sl_kernel_rfl
  rw [e, View.read_writes_junk_eq_canon]
  have y : k0_pay52 (k0_pay7 (hiddenL i arg1 harg1 arg2 harg2 arg3 harg3 x0 x1 x2)) (groupL arg7 harg7 x6 7) = k0_pay52 (k0_pay7 (hiddenOf i x0 x1 x2)) (W x6 7) := by
    rw [hiddenL_eq]
    simp only [groupL_eq, boundL_eq]
  rw [← y]
  exact (canon_heads (heads_cast (k0_pay52 (k0_pay7 (hiddenL i arg1 harg1 arg2 harg2 arg3 harg3 x0 x1 x2)) (groupL arg7 harg7 x6 7))) h r d).trans (heads_cast_apply _ h r d)

end

end Cert.ProjPoint

end
-- ==== Proof.ProjBlocks.lean ====
/- THE LAUNCH OF THE PROJECTIONS.  Grid point `t` works on the 256 tokens from `256 t`, which belong to request `t / 16`.  An
   element of a result is what the token's own point left there, and that is the entry that `ProjSpec.lean` names. -/
module

public import proofs.«01_k».proof.Proof.ProjPoint
public import Idealize.ShloMosaic.Lib.Pointwise
public import Idealize.ShloMosaic.Lib.Claim
public import Idealize.ShloMosaic.Lib.Tactic.CleanTypes

@[expose] public section

set_option maxRecDepth 16384

noncomputable section

namespace Cert.ProjBlocks

open Cert.ProjSpec Cert.ProjSpec.Args Cert.ProjPoint Cert.ProjIdeal Cert.ProjIdeal.Gen Idealize.ShloMosaic Idealize.ShloMosaic.TcCoe
open Idealize.ShloMosaic.Pipeline (Dat)

/-- The index maps: the tokens and the results by point, the other arrays whole. -/
theorem index_rows (t : Fin cfg0.N) : (win0_0.index t 0 = t.val ∧ win0_0.index t 1 = 0) ∧ (win0_8.index t 0 = t.val ∧ win0_8.index t 1 = 0)
    ∧ (win0_14.index t 0 = t.val ∧ win0_14.index t 1 = 0) := by
  revert t
  exact (by decide +kernel : ∀ t : Fin grid0.N, (win0_0.index t 0 = t.val ∧ win0_0.index t 1 = 0) ∧ (win0_8.index t 0 = t.val ∧ win0_8.index t 1 = 0)
    ∧ (win0_14.index t 0 = t.val ∧ win0_14.index t 1 = 0))

theorem index_heads (t : Fin cfg0.N) : ∀ b : Fin 3, win0_9.index t b = ![0, t.val, 0] b ∧ win0_10.index t b = ![0, t.val, 0] b ∧
    win0_11.index t b = ![0, t.val, 0] b ∧ win0_12.index t b = ![0, t.val, 0] b ∧ win0_13.index t b = ![0, t.val, 0] b := by
  revert t
  exact (by decide +kernel : ∀ t : Fin grid0.N, ∀ b : Fin 3, win0_9.index t b = ![0, t.val, 0] b ∧ win0_10.index t b = ![0, t.val, 0] b ∧
    win0_11.index t b = ![0, t.val, 0] b ∧ win0_12.index t b = ![0, t.val, 0] b ∧ win0_13.index t b = ![0, t.val, 0] b)

theorem index_whole (t : Fin cfg0.N) : ∀ b : Fin 2, win0_1.index t b = 0 ∧ win0_2.index t b = 0 ∧ win0_3.index t b = 0 ∧ win0_4.index t b = 0 ∧
    win0_5.index t b = 0 ∧ win0_6.index t b = 0 ∧ win0_7.index t b = 0 := by
  revert t
  exact (by decide +kernel : ∀ t : Fin grid0.N, ∀ b : Fin 2, win0_1.index t b = 0 ∧ win0_2.index t b = 0 ∧ win0_3.index t b = 0 ∧
    win0_4.index t b = 0 ∧ win0_5.index t b = 0 ∧ win0_6.index t b = 0 ∧ win0_7.index t b = 0)

/-- The modulation's row of a point, and where its shift and its scale lie. -/
theorem offsets (t : Fin cfg0.N) : (k0_off1 (grid0.coords t) 0 = t.val / 16 ∧ k0_off1 (grid0.coords t) 1 = 0) ∧
    (k0_off2 (grid0.coords t) 0 = t.val / 16 ∧ k0_off2 (grid0.coords t) 1 = 1024) := by
  revert t
  exact (by decide +kernel : ∀ t : Fin grid0.N, (k0_off1 (grid0.coords t) 0 = t.val / 16 ∧ k0_off1 (grid0.coords t) 1 = 0) ∧
    (k0_off2 (grid0.coords t) 0 = t.val / 16 ∧ k0_off2 (grid0.coords t) 1 = 1024))

/-- Token `r` of a point. -/
def token (t : Fin cfg0.N) (r : Fin 256) : Fin 16384 := ⟨256 * t.val + r, by have := lt_of_lt_of_eq t.isLt N_0; omega⟩

variable (m : (ℓ : Loc nD τ sig) → Buf (Elt Ideal) ℓ) (c : Dev nD) (t : Fin cfg0.N)

/-- The arguments that the launch is given. -/
def args : Args :=
  ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The host flattens the tokens' batches, -/
theorem host_x (i : Fin 16384) (k : Fin 1024) : V m c main_v4 (ix2 i k) = (args m c).x i k := by
  entry_read
  clean_types
  pointwise
  rfl

/-- takes the bounds as four rows, -/
theorem host_bound (d j : Fin 2) (k : Fin 1024) : V m c main_v5 (ix2 ⟨2 * d + j, by omega⟩ k) = (args m c).bound d j k := by
  entry_read
  clean_types
  pointwise
  refine congrArg (m ((c.tc : Thread nD τ).loc main_arg3)) ?_
  congr 1 <;> (apply Fin.ext; simp only; omega)

/-- and drops the leading axis of the taps and the matrices. -/
theorem host_tap (b : Fin 3) (k : Fin 1024) : V m c main_v6 (ix2 b k) = (args m c).tap b k := by
  entry_read
  clean_types
  pointwise
  rfl

theorem host_win (a : Fin 1024) (b : Fin 10240) : V m c main_v1 (ix2 a b) = (args m c).win a b := by
  entry_read
  clean_types
  pointwise
  rfl

theorem host_wout (a b : Fin 1024) : V m c main_v3 (ix2 a b) = (args m c).wout a b := by
  entry_read
  clean_types
  pointwise
  rfl

/-- An index of an array taken whole, in the array. -/
theorem emb_whole {n l : ℕ} (a : Fin n) (b : Fin l) (o : Fin 2 → ℕ) (ho : ∀ x, o x = 0) (e : Shape.Idx ⟨2, ![n, l]⟩)
    (he : ∀ x, (e x : ℕ) = o x * (⟨2, ![n, l]⟩ : Shape).size x + (ix2 a b x : ℕ)) : e = ix2 a b := by
  funext x
  apply Fin.ext
  refine (he x).trans ?_
  rw [ho x, Nat.zero_mul, Nat.zero_add]

/-- A point's blocks: its tokens, -/
theorem rows_block (r : Fin 256) (k : Fin 1024) : iblk m c 0 t (ix2 r k) = (args m c).x (token t r) k := by
  refine (((View.read_apply _ _).trans (cast_eq _ _)).trans (congrArg (V m c main_v4) ?_)).trans (host_x m c (token t r) k)
  obtain ⟨⟨h0, h1⟩, -, -⟩ := index_rows t
  funext a
  apply Fin.ext
  refine (win0_0.rect_emb_val t (ix2 r k) a).trans ?_
  fin_cases a
  · show win0_0.index t 0 * 256 + (r : ℕ) = 256 * t.val + r
    rw [h0]; omega
  · show win0_0.index t 1 * 1024 + (k : ℕ) = k
    rw [h1]; omega

/-- and the other arrays. -/
theorem mod_block (a : Fin 8) (b : Fin 6144) : iblk m c 1 t (ix2 a b) = (args m c).mod a b := by
  refine (((View.read_apply _ _).trans (cast_eq _ _)).trans (congrArg (V m c main_arg1) (emb_whole (n := 8) (l := 6144) a b (win0_1.index t) ?_ _ fun x =>
    win0_1.rect_emb_val t (ix2 a b) x)))
  intro b
  exact (index_whole t b).1

theorem norm_block (k : Fin 1024) : iblk m c 2 t (ix2 0 k) = (args m c).norm k := by
  refine (((View.read_apply _ _).trans (cast_eq _ _)).trans (congrArg (V m c main_arg2) (emb_whole (n := 1) (l := 1024) 0 k (win0_2.index t) ?_ _ fun x =>
    win0_2.rect_emb_val t (ix2 0 k) x)))
  intro b
  exact (index_whole t b).2.1

theorem bound_block (d j : Fin 2) (k : Fin 1024) : iblk m c 3 t (ix2 ⟨2 * d + j, by omega⟩ k) = (args m c).bound d j k := by
  refine (((View.read_apply _ _).trans (cast_eq _ _)).trans (congrArg (V m c main_v5) (emb_whole (n := 4) (l := 1024) ⟨2 * d + j, by omega⟩ k (win0_3.index t) ?_ _ fun x =>
    win0_3.rect_emb_val t (ix2 ⟨2 * d + j, by omega⟩ k) x))).trans (host_bound m c d j k)
  intro b
  exact (index_whole t b).2.2.1

theorem tap_block (b : Fin 3) (k : Fin 1024) : iblk m c 4 t (ix2 b k) = (args m c).tap b k := by
  refine (((View.read_apply _ _).trans (cast_eq _ _)).trans (congrArg (V m c main_v6) (emb_whole (n := 3) (l := 1024) b k (win0_4.index t) ?_ _ fun x =>
    win0_4.rect_emb_val t (ix2 b k) x))).trans (host_tap m c b k)
  intro b
  exact (index_whole t b).2.2.2.1

theorem bias_block (k : Fin 1024) : iblk m c 5 t (ix2 0 k) = (args m c).bias k := by
  refine (((View.read_apply _ _).trans (cast_eq _ _)).trans (congrArg (V m c main_arg5) (emb_whole (n := 1) (l := 1024) 0 k (win0_5.index t) ?_ _ fun x =>
    win0_5.rect_emb_val t (ix2 0 k) x)))
  intro b
  exact (index_whole t b).2.2.2.2.1

theorem win_block (a : Fin 1024) (b : Fin 10240) : iblk m c 6 t (ix2 a b) = (args m c).win a b := by
  refine (((View.read_apply _ _).trans (cast_eq _ _)).trans (congrArg (V m c main_v1) (emb_whole (n := 1024) (l := 10240) a b (win0_6.index t) ?_ _ fun x =>
    win0_6.rect_emb_val t (ix2 a b) x))).trans (host_win m c a b)
  intro b
  exact (index_whole t b).2.2.2.2.2.1

theorem wout_block (a b : Fin 1024) : iblk m c 7 t (ix2 a b) = (args m c).wout a b := by
  refine (((View.read_apply _ _).trans (cast_eq _ _)).trans (congrArg (V m c main_v3) (emb_whole (n := 1024) (l := 1024) a b (win0_7.index t) ?_ _ fun x =>
    win0_7.rect_emb_val t (ix2 a b) x))).trans (host_wout m c a b)
  intro b
  exact (index_whole t b).2.2.2.2.2.2

/-- Parts of them: the shift and the scale of the point's request, -/
theorem shift_row (k : Fin 1024) : View.ld (Val := Elt Ideal) (e' := .f32) (iblk m c 1 t) (shiftR (grid0.coords t)) (ix2 0 k)
    = (args m c).mod ⟨t.val / 16, by have := lt_of_lt_of_eq t.isLt N_0; omega⟩ ⟨k, by omega⟩ := by
  refine (congrArg (iblk m c 1 t) ?_).trans (mod_block m c t _ _)
  obtain ⟨⟨h0, h1⟩, -⟩ := offsets t
  funext a
  apply Fin.ext
  fin_cases a
  · show k0_off1 (grid0.coords t) 0 + 1 * 0 = t.val / 16
    omega
  · show k0_off1 (grid0.coords t) 1 + 1 * k.val = k
    omega

theorem scale_row (k : Fin 1024) : View.ld (Val := Elt Ideal) (e' := .f32) (iblk m c 1 t) (scaleR (grid0.coords t)) (ix2 0 k)
    = (args m c).mod ⟨t.val / 16, by have := lt_of_lt_of_eq t.isLt N_0; omega⟩ ⟨1024 + k, by omega⟩ := by
  refine (congrArg (iblk m c 1 t) ?_).trans (mod_block m c t _ _)
  obtain ⟨-, h0, h1⟩ := offsets t
  funext a
  apply Fin.ext
  fin_cases a
  · show k0_off2 (grid0.coords t) 0 + 1 * 0 = t.val / 16
    omega
  · show k0_off2 (grid0.coords t) 1 + 1 * k.val = 1024 + k
    omega

/-- a column group, -/
theorem group_entry (g : Fin 10) (k f : Fin 1024) : W (iblk m c 6 t) g (ix2 k f) = (args m c).win k ⟨1024 * g + f, by omega⟩ := by
  refine (congrArg (iblk m c 6 t) ?_).trans (win_block m c t _ _)
  funext a
  apply Fin.ext
  fin_cases a
  · show 0 + 1 * k.val = k
    omega
  · show 1024 * g.val + 1 * f.val = 1024 * g + f
    omega

/-- a bound and a tap. -/
theorem bound_entry (d j : Fin 2) (k : Fin 1024) : B (iblk m c 3 t) ⟨2 * d + j, by omega⟩ (ix2 0 k) = (args m c).bound d j k := by
  refine (congrArg (iblk m c 3 t) ?_).trans (bound_block m c t d j k)
  funext a
  apply Fin.ext
  fin_cases a
  · show (2 * d.val + j.val) + 1 * 0 = 2 * d + j
    omega
  · show 0 + 1 * k.val = k
    omega

theorem tap_entry (b : Fin 3) (k : Fin 1024) : T (iblk m c 4 t) b (ix2 0 k) = (args m c).tap b k := by
  refine (congrArg (iblk m c 4 t) ?_).trans (tap_block m c t b k)
  funext a
  apply Fin.ext
  fin_cases a
  · show b.val + 1 * 0 = b
    omega
  · show 0 + 1 * k.val = k
    omega

/-- The rows that a point makes, -/
abbrev rowsOf : FVec Ideal S256x1024 .f32 := hiddenOf (grid0.coords t) (iblk m c 0 t) (iblk m c 1 t) (iblk m c 2 t)

theorem rows_entry (r : Fin 256) (k : Fin 1024) : rowsOf m c t (ix2 r k) = (args m c).hidden (token t r) k := by
  refine (ProjRow.hidden _ _ _ _ r k).trans ?_
  have q : (⟨t.val / 16, by have := lt_of_lt_of_eq t.isLt N_0; omega⟩ : Fin 8) = request (token t r) :=
    Fin.ext (show t.val / 16 = (256 * t.val + r) / 4096 by omega)
  unfold Args.hidden
  rw [← q]
  congr 1
  · exact funext fun k => rows_block m c t r k
  · exact funext fun k => norm_block m c t k
  · exact funext fun k => scale_row m c t k
  · exact funext fun k => shift_row m c t k

/-- and its projections. -/
theorem proj_entry (g : Fin 10) (r : Fin 256) (f : Fin 1024) :
    k0_pay42 (k0_pay7 (rowsOf m c t)) (W (iblk m c 6 t) g) (ix2 r f) = (args m c).proj g (token t r) f := by
  refine (ProjRow.plain _ _ r f).trans ?_
  unfold proj
  congr 1
  · exact funext fun k => (ProjRow.hidden_cast _ r k).trans (rows_entry m c t r k)
  · exact funext fun k => group_entry m c t g k f

/-- The convolution's rows. -/
theorem conv_entry (r : Fin 256) (k : Fin 1024) :
    k0_pay8 (rowsOf m c t) (W (iblk m c 6 t) 2) (W (iblk m c 6 t) 0) (T (iblk m c 4 t) 0) (T (iblk m c 4 t) 1) (T (iblk m c 4 t) 2) (ix2 r k)
      + iblk m c 5 t (ix2 0 k) = (args m c).conv (token t r) k := by
  have hN : 256 * t.val + 256 ≤ 16384 := by have := lt_of_lt_of_eq t.isLt N_0; omega
  unfold Args.conv
  refine congrArg₂ (· + ·) ?_ (bias_block m c t k)
  refine (ProjRow.conv _ _ _ _ _ _ r k).trans ?_
  rw [tap_entry, tap_entry, tap_entry]
  refine taps_part _ (fun i => (args m c).proj 2 i k * (args m c).proj 0 i k) (256 * t.val) (by omega) hN (by omega) (fun i => ?_) _ _ _ r
  exact congrArg₂ (· * ·) (proj_entry m c t 2 i k) (proj_entry m c t 0 i k)

/-- The entries of a point's results: the branch's, -/
theorem branch_entry (r : Fin 256) (f : Fin 1024) : (outsAt0 m c t).1 (ix2 r f) = (args m c).branch (token t r) f := by
  unfold outsAt0
  dsimp only
  rw [ProjPoint.branch]
  refine (ProjRow.branch _ _ _ _ _ _ r f).trans ?_
  unfold Args.branch
  refine congrArg₂ (· * ·) (congrArg Ideal.logistic (proj_entry m c t 8 r f)) ?_
  refine congrArg₂ times (funext fun k => ?_) (funext fun k => wout_block m c t k f)
  exact congrArg₂ (· * ·) (proj_entry m c t 1 r k) (conv_entry m c t r k)

/-- the gate's of the scan's branch, -/
theorem last_entry (r : Fin 256) (f : Fin 1024) :
    (outsAt0 m c t).2.2.2.2.2.2 (ix2 r f) = Ideal.logistic ((args m c).proj 9 (token t r) f) := by
  unfold outsAt0
  dsimp only
  rw [ProjPoint.last]
  exact (ProjRow.sigmoid _ _ r f).trans (congrArg Ideal.logistic (proj_entry m c t 9 r f))

/-- and those laid out by heads. -/
theorem silu_q_entry (h : Fin 8) (r : Fin 256) (d : Fin 128) : (outsAt0 m c t).2.1 (ix3 h r d) = (args m c).silu 3 (token t r) (lane h d) := by
  unfold outsAt0
  dsimp only
  rw [ProjPoint.silu_q]
  refine (ProjRow.silu_q _ _ r _).trans ?_
  rw [proj_entry]
  rfl

theorem forget_first_entry (h : Fin 8) (r : Fin 256) (d : Fin 128) :
    (outsAt0 m c t).2.2.1 (ix3 h r d) = (args m c).forget 0 4 (token t r) (lane h d) := by
  unfold outsAt0
  dsimp only
  rw [ProjPoint.forget_first, ProjRow.plain', ProjRow.forget, proj_entry]
  rw [show B (iblk m c 3 t) 0 (ix2 0 (lane h d)) = _ from bound_entry m c t 0 0 (lane h d),
    show B (iblk m c 3 t) 1 (ix2 0 (lane h d)) = _ from bound_entry m c t 0 1 (lane h d)]
  rfl

theorem forget_second_entry (h : Fin 8) (r : Fin 256) (d : Fin 128) :
    (outsAt0 m c t).2.2.2.1 (ix3 h r d) = (args m c).forget 1 5 (token t r) (lane h d) := by
  unfold outsAt0
  dsimp only
  rw [ProjPoint.forget_second, ProjRow.forget', ProjRow.forget, proj_entry]
  rw [show B (iblk m c 3 t) 2 (ix2 0 (lane h d)) = _ from bound_entry m c t 1 0 (lane h d),
    show B (iblk m c 3 t) 3 (ix2 0 (lane h d)) = _ from bound_entry m c t 1 1 (lane h d)]
  rfl

theorem values_entry (h : Fin 8) (r : Fin 256) (d : Fin 128) : (outsAt0 m c t).2.2.2.2.1 (ix3 h r d) = (args m c).proj 6 (token t r) (lane h d) := by
  unfold outsAt0
  dsimp only
  rw [ProjPoint.values]
  exact proj_entry m c t 6 r _

theorem silu_g_entry (h : Fin 8) (r : Fin 256) (d : Fin 128) :
    (outsAt0 m c t).2.2.2.2.2.1 (ix3 h r d) = (args m c).silu 7 (token t r) (lane h d) := by
  unfold outsAt0
  dsimp only
  rw [ProjPoint.silu_g]
  refine (ProjRow.silu_g _ _ r _).trans ?_
  rw [proj_entry]
  rfl

/-- An index of a point's block, in a result taken by rows and in one taken by heads. -/
theorem emb_rows (r : Fin 256) (f : Fin 1024) (o : Fin 2 → ℕ) (ho : o 0 = t.val ∧ o 1 = 0) (e : Shape.Idx ⟨2, ![16384, 1024]⟩)
    (he : ∀ x, (e x : ℕ) = o x * S256x1024.size x + (ix2 r f x : ℕ)) : e = ix2 (token t r) f := by
  obtain ⟨h0, h1⟩ := ho
  funext x
  apply Fin.ext
  refine (he x).trans ?_
  fin_cases x
  · show o 0 * 256 + (r : ℕ) = 256 * t.val + r
    rw [h0]; omega
  · show o 1 * 1024 + (f : ℕ) = f
    rw [h1]; omega

theorem emb_heads (h : Fin 8) (r : Fin 256) (d : Fin 128) (o : Fin 3 → ℕ) (ho : ∀ x, o x = ![0, t.val, 0] x) (e : Shape.Idx ⟨3, ![8, 16384, 128]⟩)
    (he : ∀ x, (e x : ℕ) = o x * S8x256x128.size x + (ix3 h r d x : ℕ)) : e = ix3 h (token t r) d := by
  funext x
  apply Fin.ext
  refine ((he x).trans (congrArg (· * _ + _) (ho x))).trans ?_
  fin_cases x
  · show 0 * 8 + (h : ℕ) = h
    omega
  · show t.val * 256 + (r : ℕ) = 256 * t.val + r
    omega
  · show 0 * 128 + (d : ℕ) = d
    omega

/-- The final arrays: an element is the one that its point left in its block. -/
theorem final8 (r : Fin 256) (f : Fin 1024) : (dats m 0 c).arrAt 8 cfg0.N (ix2 (token t r) f) = (args m c).branch (token t r) f := by
  have E := (dats m 0 c).arrAt_emb_eq_flushed 8 (Value.disjoint8) t (flush0_8 t) (ix2 r f)
  have hi : ((cfg0.win 8).blk t).view.emb (ix2 r f) = ix2 (token t r) f :=
    emb_rows t r f (win0_8.index t) ((index_rows t).2.1) _ fun x => win0_8.rect_emb_val t (ix2 r f) x
  rw [hi] at E
  refine E.trans ((cast_eq _ _).trans ?_)
  rw [Value.flushed8]
  refine Eq.trans ?_ (branch_entry m c t r f)
  generalize (outsAt0 m c t).1 = Y
  rfl

theorem final9 (h : Fin 8) (r : Fin 256) (d : Fin 128) : (dats m 0 c).arrAt 9 cfg0.N (ix3 h (token t r) d) = (args m c).silu 3 (token t r) (lane h d) := by
  have E := (dats m 0 c).arrAt_emb_eq_flushed 9 (Value.disjoint9) t (flush0_9 t) (ix3 h r d)
  have hi : ((cfg0.win 9).blk t).view.emb (ix3 h r d) = ix3 h (token t r) d :=
    emb_heads t h r d (win0_9.index t) (fun x => (index_heads t x).1) _ fun x => win0_9.rect_emb_val t (ix3 h r d) x
  rw [hi] at E
  refine E.trans ((cast_eq _ _).trans ?_)
  rw [Value.flushed9]
  refine Eq.trans ?_ (silu_q_entry m c t h r d)
  generalize (outsAt0 m c t).2.1 = Y
  rfl

theorem final10 (h : Fin 8) (r : Fin 256) (d : Fin 128) : (dats m 0 c).arrAt 10 cfg0.N (ix3 h (token t r) d) = (args m c).forget 0 4 (token t r) (lane h d) := by
  have E := (dats m 0 c).arrAt_emb_eq_flushed 10 (Value.disjoint10) t (flush0_10 t) (ix3 h r d)
  have hi : ((cfg0.win 10).blk t).view.emb (ix3 h r d) = ix3 h (token t r) d :=
    emb_heads t h r d (win0_10.index t) (fun x => (index_heads t x).2.1) _ fun x => win0_10.rect_emb_val t (ix3 h r d) x
  rw [hi] at E
  refine E.trans ((cast_eq _ _).trans ?_)
  rw [Value.flushed10]
  refine Eq.trans ?_ (forget_first_entry m c t h r d)
  generalize (outsAt0 m c t).2.2.1 = Y
  rfl

theorem final11 (h : Fin 8) (r : Fin 256) (d : Fin 128) : (dats m 0 c).arrAt 11 cfg0.N (ix3 h (token t r) d) = (args m c).forget 1 5 (token t r) (lane h d) := by
  have E := (dats m 0 c).arrAt_emb_eq_flushed 11 (Value.disjoint11) t (flush0_11 t) (ix3 h r d)
  have hi : ((cfg0.win 11).blk t).view.emb (ix3 h r d) = ix3 h (token t r) d :=
    emb_heads t h r d (win0_11.index t) (fun x => (index_heads t x).2.2.1) _ fun x => win0_11.rect_emb_val t (ix3 h r d) x
  rw [hi] at E
  refine E.trans ((cast_eq _ _).trans ?_)
  rw [Value.flushed11]
  refine Eq.trans ?_ (forget_second_entry m c t h r d)
  generalize (outsAt0 m c t).2.2.2.1 = Y
  rfl

theorem final12 (h : Fin 8) (r : Fin 256) (d : Fin 128) : (dats m 0 c).arrAt 12 cfg0.N (ix3 h (token t r) d) = (args m c).proj 6 (token t r) (lane h d) := by
  have E := (dats m 0 c).arrAt_emb_eq_flushed 12 (Value.disjoint12) t (flush0_12 t) (ix3 h r d)
  have hi : ((cfg0.win 12).blk t).view.emb (ix3 h r d) = ix3 h (token t r) d :=
    emb_heads t h r d (win0_12.index t) (fun x => (index_heads t x).2.2.2.1) _ fun x => win0_12.rect_emb_val t (ix3 h r d) x
  rw [hi] at E
  refine E.trans ((cast_eq _ _).trans ?_)
  rw [Value.flushed12]
  refine Eq.trans ?_ (values_entry m c t h r d)
  generalize (outsAt0 m c t).2.2.2.2.1 = Y
  rfl

theorem final13 (h : Fin 8) (r : Fin 256) (d : Fin 128) : (dats m 0 c).arrAt 13 cfg0.N (ix3 h (token t r) d) = (args m c).silu 7 (token t r) (lane h d) := by
  have E := (dats m 0 c).arrAt_emb_eq_flushed 13 (Value.disjoint13) t (flush0_13 t) (ix3 h r d)
  have hi : ((cfg0.win 13).blk t).view.emb (ix3 h r d) = ix3 h (token t r) d :=
    emb_heads t h r d (win0_13.index t) (fun x => (index_heads t x).2.2.2.2) _ fun x => win0_13.rect_emb_val t (ix3 h r d) x
  rw [hi] at E
  refine E.trans ((cast_eq _ _).trans ?_)
  rw [Value.flushed13]
  refine Eq.trans ?_ (silu_g_entry m c t h r d)
  generalize (outsAt0 m c t).2.2.2.2.2.1 = Y
  rfl

theorem final14 (r : Fin 256) (f : Fin 1024) : (dats m 0 c).arrAt 14 cfg0.N (ix2 (token t r) f) = Ideal.logistic ((args m c).proj 9 (token t r) f) := by
  have E := (dats m 0 c).arrAt_emb_eq_flushed 14 (Value.disjoint14) t (flush0_14 t) (ix2 r f)
  have hi : ((cfg0.win 14).blk t).view.emb (ix2 r f) = ix2 (token t r) f :=
    emb_rows t r f (win0_14.index t) ((index_rows t).2.2) _ fun x => win0_14.rect_emb_val t (ix2 r f) x
  rw [hi] at E
  refine E.trans ((cast_eq _ _).trans ?_)
  rw [Value.flushed14]
  refine Eq.trans ?_ (last_entry m c t r f)
  generalize (outsAt0 m c t).2.2.2.2.2.2 = Y
  rfl

end Cert.ProjBlocks

end
-- ==== Proof.ProjectionsRow.lean ====
/- THE REFERENCE'S PROJECTIONS, READ AT AN INDEX: the entries that `ProjSpec.lean` names. -/
module

public import proofs.«01_k».proof.Proof.ProjSpec
public import proofs.«01_k».proof.Proof.Gen.ProjectionsIdeal.Run
public import Idealize.ShloMosaic.Lib.Pointwise
public import Idealize.ShloMosaic.Lib.StackMember

@[expose] public section

set_option maxRecDepth 16384

noncomputable section

namespace Cert.ProjectionsRow

open Cert.ProjSpec Cert.ProjSpec.Args Cert.ProjectionsIdeal Cert.ProjectionsIdeal.Gen Cert.ProjectionsIdeal.Value
open Idealize.ShloMosaic Idealize.ShloMosaic.TcCoe

/-- The reference's normed rows, in their batches, -/
def normedRows (x : FVec Ideal S4x4096x1024 .f32) (n : FVec Ideal S1x1024 .f32) (md : FVec Ideal S8x6144 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ n shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] md slices_S8x6144_S4x1024_0_1024))))) (broadcastInDim S4x4096x1024 ![0, 1, 2] bcast_S4x1x1024_S4x4096x1024_0_1_2 (broadcastInDim S4x1x1024 ![0, 2] bcast_S4x1024_S4x1x1024_0_2 (extractStridedSlice S4x1024 ![0, 0] md slices_S8x6144_S4x1024_0_0)))

theorem normedRows_apply (x : FVec Ideal S4x4096x1024 .f32) (n : FVec Ideal S1x1024 .f32) (md : FVec Ideal S8x6144 .f32) (b : Fin 4) (i : Fin 4096)
    (k : Fin 1024) : normedRows x n md (ix3 b i k) = normed (fun k => x (ix3 b i k)) (fun k => n (ix2 0 k))
      (fun k => md (ix2 ⟨b, by omega⟩ ⟨1024 + k, by omega⟩)) (fun k => md (ix2 ⟨b, by omega⟩ ⟨k, by omega⟩)) k := by
  unfold normedRows normed
  pointwise
  done

/-- and as one list of tokens. -/
theorem tokens (y : FVec Ideal S4x4096x1024 .f32) (i : Fin 16384) (k : Fin 1024) :
    (shapeCast S16384x1024 y shapeCasts_S4x4096x1024_S16384x1024) (ix2 i k) = y (ix3 ⟨i / 4096, by omega⟩ ⟨i % 4096, by omega⟩ k) := by
  pointwise

variable (V0 : Valuation τ sig (Elt Ideal))

/-- The arguments that the reference is given. -/
def args : Args :=
  ofArrays (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))

/-- The product of all rows with the matrix. -/
theorem product_apply (i : Fin 16384) (j : Fin 10240) : res_main_v26 V0 (ix2 i j) = times ((args V0).hidden i) fun k => (args V0).win k j := by
  have e : res_main_v26 V0 = Host.dotGeneral dot_S16384x1024_S1024x10240_S16384x10240_1_0_0_1_n_n none (shapeCast S16384x1024
      (normedRows (V0 (Proc.devRef .tc main_arg0)) (V0 (Proc.devRef .tc main_arg2)) (V0 (Proc.devRef .tc main_arg1))) shapeCasts_S4x4096x1024_S16384x1024)
      (shapeCast S1024x10240 (V0 (Proc.devRef .tc main_arg6)) shapeCasts_S1x1024x10240_S1024x10240) := rfl
  have l (k : Fin 1024) : (shapeCast S16384x1024 (normedRows (V0 (Proc.devRef .tc main_arg0)) (V0 (Proc.devRef .tc main_arg2))
      (V0 (Proc.devRef .tc main_arg1))) shapeCasts_S4x4096x1024_S16384x1024) (ix2 i k) = (args V0).hidden i k :=
    (tokens _ i k).trans (normedRows_apply _ _ _ _ _ k)
  have r (M : FVec Ideal S1x1024x10240 .f32) (k : Fin 1024) : (shapeCast S1024x10240 M shapeCasts_S1x1024x10240_S1024x10240) (ix2 k j) = M (ix3 0 k j) := by
    pointwise
  have r := r (V0 (Proc.devRef .tc main_arg6))
  rw [e]
  clear e
  revert l r
  generalize (shapeCast S16384x1024 (normedRows (V0 (Proc.devRef .tc main_arg0)) (V0 (Proc.devRef .tc main_arg2))
      (V0 (Proc.devRef .tc main_arg1))) shapeCasts_S4x4096x1024_S16384x1024) = A
  generalize (shapeCast S1024x10240 (V0 (Proc.devRef .tc main_arg6)) shapeCasts_S1x1024x10240_S1024x10240) = M
  intro l r
  refine (StackMember.dotGeneral_plain_apply none A M i j).trans ?_
  exact Finset.sum_congr rfl fun k _ => congrArg₂ (· * ·) (l k) (r k)

/-- One of the ten projections is a part of it. -/
theorem part (o : ℕ) (g : Fin 10) (ho : o = 1024 * g.val) (hs : S16384x10240.Slices ![0, o] S16384x1024) (i : Fin 16384) (f : Fin 1024) :
    (extractStridedSlice S16384x1024 ![0, o] (res_main_v26 V0) hs) (ix2 i f) = (args V0).proj g i f := by
  subst ho
  refine Eq.trans ?_ (product_apply V0 i ⟨1024 * g + f, by omega⟩)
  generalize res_main_v26 V0 = P
  pointwise

/-- The logistic function of an array. -/
def sigmoid (p : FVec Ideal S16384x1024 .f32) : FVec Ideal S16384x1024 .f32 :=
  Host.divf (broadcastInDim S16384x1024 ![] bcast_S_S16384x1024 (constant S_ .f32 0x3F800000#32))
    (addf (broadcastInDim S16384x1024 ![] bcast_S_S16384x1024 (constant S_ .f32 0x3F800000#32)) (Host.exp (Host.negf p)))

theorem sigmoid_apply (p : FVec Ideal S16384x1024 .f32) (i : Fin 16384) (f : Fin 1024) : sigmoid p (ix2 i f) = Ideal.logistic (p (ix2 i f)) := by
  unfold sigmoid
  pointwise
  rfl

/-- An array laid out by heads, -/
def heads (p : FVec Ideal S16384x1024 .f32) : FVec Ideal S8x16384x128 .f32 :=
  transpose S8x16384x128 [1, 0, 2] (shapeCast S16384x8x128 p shapeCasts_S16384x1024_S16384x8x128) transposes_S16384x8x128_S8x16384x128_1_0_2

theorem heads_apply (p : FVec Ideal S16384x1024 .f32) (h : Fin 8) (i : Fin 16384) (d : Fin 128) : heads p (ix3 h i d) = p (ix2 i (lane h d)) := by
  unfold heads
  pointwise
  refine congrArg p ?_
  unfold lane
  congr 1 <;> (apply Fin.ext; simp only; omega)

/-- and a cast one. -/
theorem heads_cast (p : FVec Ideal S16384x1024 .f32) (h : Fin 8) (i : Fin 16384) (d : Fin 128) :
    (truncf .bf16 (heads p) bitsLt_bf16_f32 : FVec Ideal S8x16384x128 .bf16) (ix3 h i d) = p (ix2 i (lane h d)) := by
  rw [← heads_apply p h i d]
  generalize heads p = q
  pointwise

/-- A value times its logistic function. -/
theorem silu_apply (p : FVec Ideal S16384x1024 .f32) (i : Fin 16384) (f : Fin 1024) :
    mulf p (sigmoid p) (ix2 i f) = p (ix2 i f) * Ideal.logistic (p (ix2 i f)) := by
  rw [← sigmoid_apply p i f]
  generalize sigmoid p = q
  pointwise

/-- Runs of 64 rows with a row of zeros at either end, -/
def padded (u : FVec Ideal S16384x1024 .f32) : FVec Ideal S256x66x1024 .f32 :=
  pad S256x66x1024 ![0, 1, 0] ![0, 1, 0] ![0, 0, 0] (shapeCast S256x64x1024 u shapeCasts_S16384x1024_S256x64x1024)
    (sitofp .f32 (constantI S_ 32 0#32)) pads_S256x64x1024_S256x66x1024_000_110_000 h_S_

theorem padded_apply (u : FVec Ideal S16384x1024 .f32) (p : Fin 256) (q : Fin 66) (f : Fin 1024) :
    padded u (ix3 p q f) = if h : 1 ≤ q.val ∧ q.val ≤ 64 then u (ix2 ⟨64 * p + (q - 1), by omega⟩ f) else 0 := by
  unfold padded
  pointwise
  have z : (FloatOps.sitofp (F := Ideal) FTy.f32 0#32 : EReal) = 0 := by simp [FloatOps.sitofp]
  by_cases h : 1 ≤ q.val ∧ q.val ≤ 64
  · rw [dif_pos h, dif_pos ⟨h.1, by omega⟩]
    refine congrArg u ?_
    congr 1
    exact Fin.ext (by simp only; omega)
  · rw [dif_neg h, dif_neg (by omega)]
    exact z

/-- and the reference's convolution of them. -/
def convRows (P : FVec Ideal S256x66x1024 .f32) (w : FVec Ideal S3x1024 .f32) (b : FVec Ideal S1x1024 .f32) : FVec Ideal S16384x1024 .f32 :=
  shapeCast S16384x1024 (addf (addf (addf (mulf (extractStridedSlice S256x64x1024 ![0, 0, 0] P slices_S256x66x1024_S256x64x1024_0_0_0) (broadcastInDim S256x64x1024 ![0, 1, 2] bcast_S1x1x1024_S256x64x1024_0_1_2 (broadcastInDim S1x1x1024 ![2] bcast_S1024_S1x1x1024_2 (shapeCast S1024 (extractStridedSlice S1x1024 ![0, 0] w slices_S3x1024_S1x1024_0_0) shapeCasts_S1x1024_S1024)))) (mulf (extractStridedSlice S256x64x1024 ![0, 1, 0] P slices_S256x66x1024_S256x64x1024_0_1_0) (broadcastInDim S256x64x1024 ![0, 1, 2] bcast_S1x1x1024_S256x64x1024_0_1_2 (broadcastInDim S1x1x1024 ![2] bcast_S1024_S1x1x1024_2 (shapeCast S1024 (extractStridedSlice S1x1024 ![1, 0] w slices_S3x1024_S1x1024_1_0) shapeCasts_S1x1024_S1024))))) (mulf (extractStridedSlice S256x64x1024 ![0, 2, 0] P slices_S256x66x1024_S256x64x1024_0_2_0) (broadcastInDim S256x64x1024 ![0, 1, 2] bcast_S1x1x1024_S256x64x1024_0_1_2 (broadcastInDim S1x1x1024 ![2] bcast_S1024_S1x1x1024_2 (shapeCast S1024 (extractStridedSlice S1x1024 ![2, 0] w slices_S3x1024_S1x1024_2_0) shapeCasts_S1x1024_S1024))))) (broadcastInDim S256x64x1024 ![0, 1, 2] bcast_S1x1x1024_S256x64x1024_0_1_2 (broadcastInDim S1x1x1024 ![2] bcast_S1024_S1x1x1024_2 (shapeCast S1024 b shapeCasts_S1x1024_S1024)))) shapeCasts_S256x64x1024_S16384x1024

theorem convRows_apply (P : FVec Ideal S256x66x1024 .f32) (w : FVec Ideal S3x1024 .f32) (b : FVec Ideal S1x1024 .f32) (i : Fin 16384) (f : Fin 1024) :
    convRows P w b (ix2 i f) = P (ix3 ⟨i / 64, by omega⟩ ⟨i % 64, by omega⟩ f) * w (ix2 0 f) + P (ix3 ⟨i / 64, by omega⟩ ⟨1 + i % 64, by omega⟩ f) * w (ix2 1 f)
      + P (ix3 ⟨i / 64, by omega⟩ ⟨2 + i % 64, by omega⟩ f) * w (ix2 2 f) + b (ix2 0 f) := by
  unfold convRows
  pointwise
  done

/-- Of a row's three neighbours, the one before, the row itself and the one after. -/
theorem conv_taps (u : FVec Ideal S16384x1024 .f32) (w : FVec Ideal S3x1024 .f32) (b : FVec Ideal S1x1024 .f32) (i : Fin 16384) (f : Fin 1024) :
    convRows (padded u) w b (ix2 i f) = taps (fun i => u (ix2 i f)) (w (ix2 0 f)) (w (ix2 1 f)) (w (ix2 2 f)) i + b (ix2 0 f) := by
  rw [convRows_apply, padded_apply, padded_apply, padded_apply]
  unfold taps
  refine congrArg (· + _) (congrArg₂ (· + ·) (congrArg₂ (· + ·) (congrArg (· * _) ?_) (congrArg (· * _) ?_)) (congrArg (· * _) ?_))
  · unfold before
    by_cases h : i.val % 64 = 0
    · rw [if_pos h, dif_neg (show ¬(1 ≤ i.val % 64 ∧ i.val % 64 ≤ 64) by omega)]
    · rw [if_neg h, dif_pos (show 1 ≤ i.val % 64 ∧ i.val % 64 ≤ 64 by omega)]
      exact congrArg (fun j => u (ix2 j f)) (Fin.ext (show 64 * (i.val / 64) + (i.val % 64 - 1) = i - 1 by omega))
  · rw [dif_pos (show 1 ≤ 1 + i.val % 64 ∧ 1 + i.val % 64 ≤ 64 by omega)]
    exact congrArg (fun j => u (ix2 j f)) (Fin.ext (show 64 * (i.val / 64) + (1 + i.val % 64 - 1) = i by omega))
  · unfold after
    by_cases h : i.val % 64 ≠ 63 ∧ i.val + 1 < 16384
    · rw [dif_pos h, dif_pos (show 1 ≤ 2 + i.val % 64 ∧ 2 + i.val % 64 ≤ 64 by omega)]
      exact congrArg (fun j => u (ix2 j f)) (Fin.ext (show 64 * (i.val / 64) + (2 + i.val % 64 - 1) = i + 1 by omega))
    · rw [dif_neg h, dif_neg (show ¬(1 ≤ 2 + i.val % 64 ∧ 2 + i.val % 64 ≤ 64) by omega)]

/-- Rows times the second matrix. -/
theorem out_apply (A : FVec Ideal S16384x1024 .f32) (M : FVec Ideal S1x1024x1024 .f32) (i : Fin 16384) (f : Fin 1024) :
    Host.dotGeneral dot_S16384x1024_S1024x1024_S16384x1024_1_0_0_1_n_n none A (shapeCast S1024x1024 M shapeCasts_S1x1024x1024_S1024x1024) (ix2 i f)
      = times (fun k => A (ix2 i k)) fun k => M (ix3 0 k f) := by
  have r (k : Fin 1024) : (shapeCast S1024x1024 M shapeCasts_S1x1024x1024_S1024x1024) (ix2 k f) = M (ix3 0 k f) := by
    pointwise
  revert r
  generalize (shapeCast S1024x1024 M shapeCasts_S1x1024x1024_S1024x1024) = N
  intro r
  refine (StackMember.dotGeneral_plain_apply none A N i f).trans ?_
  exact Finset.sum_congr rfl fun k _ => congrArg (A (ix2 i k) * ·) (r k)

/-- The exponentials of the softmax of the bounds: each less the largest along its axis. -/
def expo (b : FVec Ideal S2x2x1024 .f32) : FVec Ideal S2x2x1024 .f32 :=
  Host.exp (subf b (broadcastInDim S2x2x1024 ![0, 1, 2] bcast_S2x1x1024_S2x2x1024_0_1_2 (broadcastInDim S2x1x1024 ![0, 2] bcast_S2x1024_S2x1x1024_0_2
    (maximumf (broadcastInDim S2x1024 ![] bcast_S_S2x1024 (constant S_ .f32 0xFF800000#32))
      (Host.reduce FloatOps.maximumf b (constant S_ .f32 0xFF800000#32) reducesTo_S2x2x1024_S2x1024_d1 h_S_)))))

/-- That largest number, -/
def largest (b : FVec Ideal S2x2x1024 .f32) (d : Fin 2) (f : Fin 1024) : EReal :=
  max (Ideal.ofBits .f32 0xFF800000#32)
    (Finset.fold max (Ideal.ofBits .f32 0xFF800000#32) b {i | reducesTo_S2x2x1024_S2x1024_d1.drop i = ix2 d f})

theorem expo_apply (b : FVec Ideal S2x2x1024 .f32) (d j : Fin 2) (f : Fin 1024) : expo b (ix3 d j f) = Ideal.exp (b (ix3 d j f) - largest b d f) := by
  unfold expo largest
  pointwise

/-- which is a real number if all are. -/
theorem largest_real (b : FVec Ideal S2x2x1024 .f32) (hb : ∀ i, ∃ r : ℝ, b i = (r : EReal)) (d : Fin 2) (f : Fin 1024) :
    ∃ r : ℝ, largest b d f = (r : EReal) := by
  have w : Ideal.ofBits .f32 0xFF800000#32 = (⊥ : EReal) := by simp [Ideal.ofBits, Ideal.ieee]
  have lt (i) : b i < ⊤ := by
    obtain ⟨r, hr⟩ := hb i
    rw [hr]
    exact EReal.coe_lt_top r
  have gt (i) : ⊥ < b i := by
    obtain ⟨r, hr⟩ := hb i
    rw [hr]
    exact EReal.bot_lt_coe r
  have h1 : largest b d f < ⊤ := by
    unfold largest
    rw [w, max_lt_iff, Finset.fold_max_lt]
    exact ⟨bot_lt_top, bot_lt_top, fun i _ => lt i⟩
  have h2 : ⊥ < largest b d f := by
    unfold largest
    rw [w, lt_max_iff, Finset.lt_fold_max]
    refine Or.inr (Or.inr ⟨ix3 d 0 f, ?_, gt _⟩)
    rw [Finset.mem_filter_univ]
    funext a
    fin_cases a <;> rfl
  exact ⟨_, (EReal.coe_toReal h1.ne h2.ne').symm⟩

/-- The softmax's first entry. -/
def firstEntry (E : FVec Ideal S2x2x1024 .f32) : FVec Ideal S2x1024 .f32 :=
  shapeCast S2x1024 (extractStridedSlice S2x1x1024 ![0, 0, 0] (Host.divf E (broadcastInDim S2x2x1024 ![0, 1, 2] bcast_S2x1x1024_S2x2x1024_0_1_2
    (broadcastInDim S2x1x1024 ![0, 2] bcast_S2x1024_S2x1x1024_0_2 (Host.reduceAdd E (constant S_ .f32 0x00000000#32) reducesTo_S2x2x1024_S2x1024_d1 h_S_))))
    slices_S2x2x1024_S2x1x1024_0_0_0) shapeCasts_S2x1x1024_S2x1024

theorem firstEntry_apply (E : FVec Ideal S2x2x1024 .f32) (d : Fin 2) (f : Fin 1024) :
    firstEntry E (ix2 d f) = Ideal.div (E (ix3 d 0 f)) (E (ix3 d 0 f) + E (ix3 d 1 f)) := by
  unfold firstEntry
  pointwise
  rw [Fin.sum_univ_two]

/-- Of two real bounds it is the logistic function of their difference. -/
theorem softmax_two (x y z : ℝ) : Ideal.div (Ideal.exp ((x : EReal) - (z : EReal)))
    (Ideal.exp ((x : EReal) - (z : EReal)) + Ideal.exp ((y : EReal) - (z : EReal))) = Ideal.logistic ((x : EReal) - (y : EReal)) := by
  rw [← EReal.coe_sub, ← EReal.coe_sub, ← EReal.coe_sub, Ideal.exp_coe, Ideal.exp_coe, ← EReal.coe_add,
    Ideal.div_coe (by positivity), Ideal.logistic_coe, ← EReal.coe_mul]
  congr 1
  have e : Real.exp (-(x - y)) = Real.exp (y - z) / Real.exp (x - z) := by
    rw [← Real.exp_sub]
    congr 1
    ring
  rw [e]
  have p := Real.exp_pos (x - z)
  have q := Real.exp_pos (y - z)
  field_simp

theorem softmax_lower (b : FVec Ideal S2x2x1024 .f32) (hb : ∀ i, ∃ r : ℝ, b i = (r : EReal)) (d : Fin 2) (f : Fin 1024) :
    firstEntry (expo b) (ix2 d f) = Ideal.logistic (b (ix3 d 0 f) - b (ix3 d 1 f)) := by
  rw [firstEntry_apply, expo_apply, expo_apply]
  obtain ⟨x, hx⟩ := hb (ix3 d 0 f)
  obtain ⟨y, hy⟩ := hb (ix3 d 1 f)
  obtain ⟨z, hz⟩ := largest_real b hb d f
  rw [hx, hy, hz, softmax_two]

theorem lower_apply (hb : ∀ i, ∃ r : ℝ, (V0 (Proc.devRef .tc main_arg3) : FVec Ideal S2x2x1024 .f32) i = (r : EReal)) (d : Fin 2) (f : Fin 1024) :
    res_main_v81 V0 (ix2 d f) = (args V0).lower d f :=
  softmax_lower (V0 (Proc.devRef .tc main_arg3)) hb d f

/-- The forget gate of an array and of its bounds. -/
def forgetRows (lo : FVec Ideal S1024 .f32) (p : FVec Ideal S16384x1024 .f32) : FVec Ideal S16384x1024 .f32 :=
  Host.divf (Host.log (addf (broadcastInDim S16384x1024 ![0, 1] bcast_S1x1024_S16384x1024_0_1 (broadcastInDim S1x1024 ![1] bcast_S1024_S1x1024_1 lo))
    (mulf (broadcastInDim S16384x1024 ![0, 1] bcast_S1x1024_S16384x1024_0_1 (broadcastInDim S1x1024 ![1] bcast_S1024_S1x1024_1
      (subf (broadcastInDim S1024 ![] bcast_S_S1024 (constant S_ .f32 0x3F800000#32)) lo))) (sigmoid p))))
    (broadcastInDim S16384x1024 ![] bcast_S_S16384x1024 (id (Host.log (constant S_ .f32 0x40000000#32))))

theorem log_two (x : EReal) : Ideal.div x (Ideal.log (Ideal.ofBits .f32 0x40000000#32)) = x * (((Real.log 2)⁻¹ : ℝ) : EReal) := by
  have w : Ideal.ofBits .f32 0x40000000#32 = ((2 : ℝ) : EReal) := by
    simp [Ideal.ofBits, Ideal.ieee, -EReal.coe_mul]; norm_num
  rw [w, Ideal.log_coe, if_neg (by norm_num), Ideal.div_coe (Real.log_pos (by norm_num)).ne', one_div]

theorem forgetRows_apply (lo : FVec Ideal S1024 .f32) (p : FVec Ideal S16384x1024 .f32) (i : Fin 16384) (f : Fin 1024) :
    forgetRows lo p (ix2 i f) = Ideal.log (bounded (p (ix2 i f)) (lo (ix1 f))) * (((Real.log 2)⁻¹ : ℝ) : EReal) := by
  rw [← log_two]
  unfold bounded
  rw [← sigmoid_apply]
  unfold forgetRows
  generalize sigmoid p = q
  pointwise
  rfl

/-- A direction's bounds, as a row. -/
theorem bounds_row (L : FVec Ideal S2x1024 .f32) (f : Fin 1024) :
    (shapeCast S1024 (extractStridedSlice S1x1024 ![0, 0] L slices_S2x1024_S1x1024_0_0) shapeCasts_S1x1024_S1024) (ix1 f) = L (ix2 0 f)
    ∧ (shapeCast S1024 (extractStridedSlice S1x1024 ![1, 0] L slices_S2x1024_S1x1024_1_0) shapeCasts_S1x1024_S1024) (ix1 f) = L (ix2 1 f) := by
  constructor <;> pointwise

/-- The results: the branch's, -/
def branchRows (P : FVec Ideal S16384x10240 .f32) (w : FVec Ideal S3x1024 .f32) (b : FVec Ideal S1x1024 .f32) (M : FVec Ideal S1x1024x1024 .f32) :
    FVec Ideal S16384x1024 .bf16 :=
  truncf .bf16 (mulf (sigmoid (extractStridedSlice S16384x1024 ![0, 8192] P slices_S16384x10240_S16384x1024_0_8192))
    (Host.dotGeneral dot_S16384x1024_S1024x1024_S16384x1024_1_0_0_1_n_n none
      (mulf (extractStridedSlice S16384x1024 ![0, 1024] P slices_S16384x10240_S16384x1024_0_1024)
        (convRows (padded (mulf (extractStridedSlice S16384x1024 ![0, 2048] P slices_S16384x10240_S16384x1024_0_2048)
          (extractStridedSlice S16384x1024 ![0, 0] P slices_S16384x10240_S16384x1024_0_0))) w b))
      (shapeCast S1024x1024 M shapeCasts_S1x1024x1024_S1024x1024))) bitsLt_bf16_f32

theorem mul_at {S : Shape} (x y : FVec Ideal S .f32) (i : S.Idx) : mulf x y i = x i * y i := rfl

theorem cast_at {S : Shape} (x : FVec Ideal S .f32) (i : S.Idx) : (truncf .bf16 x bitsLt_bf16_f32 : FVec Ideal S .bf16) i = x i := rfl

theorem branch_apply (i : Fin 16384) (f : Fin 1024) :
    branchRows (res_main_v26 V0) (res_main_v38 V0) (V0 (Proc.devRef .tc main_arg5)) (V0 (Proc.devRef .tc main_arg7)) (ix2 i f)
      = (args V0).branch i f := by
  have w (b : Fin 3) (f : Fin 1024) : res_main_v38 V0 (ix2 b f) = (args V0).tap b f := by
    unfold res_main_v38
    show _ = (V0 (Proc.devRef .tc main_arg4)) (ix3 0 b f)
    pointwise
  unfold branchRows
  rw [cast_at, mul_at, sigmoid_apply, part V0 8192 8 rfl, out_apply]
  unfold Args.branch
  refine congrArg₂ (fun x y : EReal => x * y) rfl (congrArg₂ times (funext fun k => ?_) (funext fun k => rfl))
  rw [mul_at, part V0 1024 1 rfl, conv_taps, w, w, w]
  have u : (fun i => mulf (extractStridedSlice S16384x1024 ![0, 2048] (res_main_v26 V0) slices_S16384x10240_S16384x1024_0_2048)
      (extractStridedSlice S16384x1024 ![0, 0] (res_main_v26 V0) slices_S16384x10240_S16384x1024_0_0) (ix2 i k))
      = fun i => (args V0).proj 2 i k * (args V0).proj 0 i k := funext fun i => by
    rw [mul_at, part V0 2048 2 rfl, part V0 0 0 rfl]
  rw [u]
  rfl

/-- the activations of projections 3 and 7, -/
theorem silu_q_apply (h : Fin 8) (i : Fin 16384) (d : Fin 128) :
    (truncf .bf16 (heads (mulf (res_main_v30 V0) (sigmoid (res_main_v30 V0)))) bitsLt_bf16_f32 : FVec Ideal S8x16384x128 .bf16) (ix3 h i d)
      = (args V0).silu 3 i (lane h d) := by
  rw [heads_cast, silu_apply, show res_main_v30 V0 (ix2 i (lane h d)) = _ from part V0 3072 3 rfl slices_S16384x10240_S16384x1024_0_3072 i (lane h d)]
  rfl

theorem silu_g_apply (h : Fin 8) (i : Fin 16384) (d : Fin 128) :
    (truncf .bf16 (heads (mulf (res_main_v34 V0) (sigmoid (res_main_v34 V0)))) bitsLt_bf16_f32 : FVec Ideal S8x16384x128 .bf16) (ix3 h i d)
      = (args V0).silu 7 i (lane h d) := by
  rw [heads_cast, silu_apply, show res_main_v34 V0 (ix2 i (lane h d)) = _ from part V0 7168 7 rfl slices_S16384x10240_S16384x1024_0_7168 i (lane h d)]
  rfl

/-- the forget gates, -/
theorem forget_first_apply (hb : ∀ i, ∃ r : ℝ, (V0 (Proc.devRef .tc main_arg3) : FVec Ideal S2x2x1024 .f32) i = (r : EReal)) (h : Fin 8)
    (i : Fin 16384) (d : Fin 128) : heads (forgetRows (res_main_v95 V0)
      (extractStridedSlice S16384x1024 ![0, 4096] (res_main_v26 V0) slices_S16384x10240_S16384x1024_0_4096)) (ix3 h i d)
      = (args V0).forget 0 4 i (lane h d) := by
  rw [heads_apply, forgetRows_apply, part V0 4096 4 rfl,
    show res_main_v95 V0 (ix1 (lane h d)) = _ from (bounds_row (res_main_v81 V0) (lane h d)).1, lower_apply V0 hb]
  rfl

theorem forget_second_apply (hb : ∀ i, ∃ r : ℝ, (V0 (Proc.devRef .tc main_arg3) : FVec Ideal S2x2x1024 .f32) i = (r : EReal)) (h : Fin 8)
    (i : Fin 16384) (d : Fin 128) : heads (forgetRows (res_main_v118 V0)
      (extractStridedSlice S16384x1024 ![0, 5120] (res_main_v26 V0) slices_S16384x10240_S16384x1024_0_5120)) (ix3 h i d)
      = (args V0).forget 1 5 i (lane h d) := by
  rw [heads_apply, forgetRows_apply, part V0 5120 5 rfl,
    show res_main_v118 V0 (ix1 (lane h d)) = _ from (bounds_row (res_main_v81 V0) (lane h d)).2, lower_apply V0 hb]
  rfl

/-- the values, -/
theorem values_apply (h : Fin 8) (i : Fin 16384) (d : Fin 128) :
    (truncf .bf16 (heads (extractStridedSlice S16384x1024 ![0, 6144] (res_main_v26 V0) slices_S16384x10240_S16384x1024_0_6144)) bitsLt_bf16_f32 :
      FVec Ideal S8x16384x128 .bf16) (ix3 h i d) = (args V0).proj 6 i (lane h d) := by
  rw [heads_cast, part V0 6144 6 rfl]

/-- and the gate of the scan's branch. -/
theorem last_apply (i : Fin 16384) (f : Fin 1024) :
    (truncf .bf16 (sigmoid (extractStridedSlice S16384x1024 ![0, 9216] (res_main_v26 V0) slices_S16384x10240_S16384x1024_0_9216)) bitsLt_bf16_f32 :
      FVec Ideal S16384x1024 .bf16) (ix2 i f) = Ideal.logistic ((args V0).proj 9 i f) := by
  rw [cast_at, sigmoid_apply, part V0 9216 9 rfl]

end Cert.ProjectionsRow

end
-- ==== Proof.ProjEqual.lean ====
/- THE PROJECTIONS' VALUE CLAIM.  From memories that agree on the arguments, of which the bounds hold reals, the kernel and its
   reference leave the same seven arrays: both hold the entries of `ProjSpec.lean`. -/
module

public import proofs.«01_k».proof.Defs
public import proofs.«01_k».proof.Proof.ProjBlocks
public import proofs.«01_k».proof.Proof.ProjectionsRow
public import proofs.«01_k».proof.Proof.Finite
public import proofs.«01_k».proof.Proof.Gen.Pre_finite_bounds
public import Idealize.ShloMosaic.Lib.Quiescent
public import Idealize.ShloMosaic.Lib.ReduceAll

@[expose] public section

set_option maxRecDepth 16384

noncomputable section

namespace Cert.ProjEqual

open Cert.ProjSpec Cert.ProjSpec.Args Idealize.ShloMosaic Idealize.ShloMosaic.TcCoe Idealize.SL.Sem

/-- The reference runs, leaves its arguments alone and declares no semaphore. -/
theorem frame_reference : quiescent_ProjectionsIdeal := fun m g _ =>
  (θ_run ProjectionsIdeal.defs _ _).mono (fun r h => ⟨fun c => (h c).2.2.2.2.2.2.2, sem_eq_zero_of_no_sems rfl r.2⟩) (ProjectionsIdeal.Value.run m g)

section Finite

open Cert.Pre_finite_bounds Cert.Pre_finite_bounds.Gen

/-- The precondition says that the bounds are real numbers. -/
theorem real_bounds (x0 : FVec Ideal S4x4096x1024 .f32) (x1 : FVec Ideal S8x6144 .f32) (x2 : FVec Ideal S1x1024 .f32) (x3 : FVec Ideal S2x2x1024 .f32)
    (x4 : FVec Ideal S1x3x1024 .f32) (x5 : FVec Ideal S1x1024 .f32) (x6 : FVec Ideal S1x1024x10240 .f32) (x7 : FVec Ideal S1x1024x1024 .f32)
    (h : Cert.Pre_finite_bounds.fn (F := Ideal) x0 x1 x2 x3 x4 x5 x6 x7 = fun _ => 1#1) (i : S2x2x1024.Idx) : ∃ r : ℝ, x3 i = (r : EReal) := by
  have e := congrFun h (Shape.Idx.first h_S_)
  unfold Cert.Pre_finite_bounds.fn at e
  obtain ⟨a, b, f, rfl⟩ : ∃ a b f, i = ix3 a b f := ⟨i 0, i 1, i 2, by funext x; fin_cases x <;> rfl⟩
  have e := Host.reduce_andi_eq_one _ _ _ _ _ e (ix3 a b f) (Subsingleton.elim _ _)
  revert e
  pointwise
  rw [Finite.inf_word]
  generalize x3 (ix3 a b f) = y
  intro e
  have hy : max (y : EReal) (-y) < ⊤ := by
    by_contra hn
    rw [show FloatOps.absf y = max (y : EReal) (-y) from rfl, decide_eq_false hn] at e
    exact absurd e (by decide)
  exact ⟨EReal.toReal y, (EReal.coe_toReal (fun ht => by simp [ht] at hy) (fun hb => by simp [hb] at hy)).symm⟩

end Finite

/-- Every token belongs to a grid point. -/
theorem point_of (i : Fin 16384) : ∃ (t : Fin ProjIdeal.cfg0.N) (r : Fin 256), ProjBlocks.token t r = i := by
  have h : i.val / 256 < ProjIdeal.cfg0.N := lt_of_lt_of_eq (by omega) ProjIdeal.Gen.N_0.symm
  refine ⟨⟨i / 256, h⟩, ⟨i % 256, by omega⟩, Fin.ext ?_⟩
  show 256 * (i.val / 256) + i.val % 256 = i
  omega

/-- The two programs' arguments. -/
theorem args_eq (m : (ℓ : Loc ProjIdeal.nD ProjIdeal.τ ProjIdeal.sig) → Buf (Elt Ideal) ℓ)
    (m' : (ℓ : Loc ProjectionsIdeal.nD ProjectionsIdeal.τ ProjectionsIdeal.sig) → Buf (Elt Ideal) ℓ) (c : Dev ProjIdeal.nD)
    (e0 : m' ((c.tc : Thread ProjectionsIdeal.nD ProjectionsIdeal.τ).loc ProjectionsIdeal.main_arg0) = m ((c.tc : Thread ProjIdeal.nD ProjIdeal.τ).loc ProjIdeal.main_arg0))
    (e1 : m' ((c.tc : Thread ProjectionsIdeal.nD ProjectionsIdeal.τ).loc ProjectionsIdeal.main_arg1) = m ((c.tc : Thread ProjIdeal.nD ProjIdeal.τ).loc ProjIdeal.main_arg1))
    (e2 : m' ((c.tc : Thread ProjectionsIdeal.nD ProjectionsIdeal.τ).loc ProjectionsIdeal.main_arg2) = m ((c.tc : Thread ProjIdeal.nD ProjIdeal.τ).loc ProjIdeal.main_arg2))
    (e3 : m' ((c.tc : Thread ProjectionsIdeal.nD ProjectionsIdeal.τ).loc ProjectionsIdeal.main_arg3) = m ((c.tc : Thread ProjIdeal.nD ProjIdeal.τ).loc ProjIdeal.main_arg3))
    (e4 : m' ((c.tc : Thread ProjectionsIdeal.nD ProjectionsIdeal.τ).loc ProjectionsIdeal.main_arg4) = m ((c.tc : Thread ProjIdeal.nD ProjIdeal.τ).loc ProjIdeal.main_arg4))
    (e5 : m' ((c.tc : Thread ProjectionsIdeal.nD ProjectionsIdeal.τ).loc ProjectionsIdeal.main_arg5) = m ((c.tc : Thread ProjIdeal.nD ProjIdeal.τ).loc ProjIdeal.main_arg5))
    (e6 : m' ((c.tc : Thread ProjectionsIdeal.nD ProjectionsIdeal.τ).loc ProjectionsIdeal.main_arg6) = m ((c.tc : Thread ProjIdeal.nD ProjIdeal.τ).loc ProjIdeal.main_arg6))
    (e7 : m' ((c.tc : Thread ProjectionsIdeal.nD ProjectionsIdeal.τ).loc ProjectionsIdeal.main_arg7) = m ((c.tc : Thread ProjIdeal.nD ProjIdeal.τ).loc ProjIdeal.main_arg7)) :
    ProjectionsRow.args (StableHlo.launchContents m' c) = ProjBlocks.args m c := by
  unfold ProjBlocks.args
  rw [← e0, ← e1, ← e2, ← e3, ← e4, ← e5, ← e6, ← e7]
  rfl

/-- Arrays by rows, and by heads, that agree at every token. -/
theorem rows_ext {X Y : Shape.Idx ⟨2, ![16384, 1024]⟩ → EReal}
    (h : ∀ (t : Fin ProjIdeal.cfg0.N) (r : Fin 256) (f : Fin 1024), X (ix2 (ProjBlocks.token t r) f) = Y (ix2 (ProjBlocks.token t r) f)) : X = Y := by
  funext x
  obtain ⟨i, f, rfl⟩ : ∃ i f, x = ix2 i f := ⟨x 0, x 1, by funext a; fin_cases a <;> rfl⟩
  obtain ⟨t, r, rfl⟩ := point_of i
  exact h t r f

theorem heads_ext {X Y : Shape.Idx ⟨3, ![8, 16384, 128]⟩ → EReal}
    (h : ∀ (t : Fin ProjIdeal.cfg0.N) (a : Fin 8) (r : Fin 256) (d : Fin 128),
      X (ix3 a (ProjBlocks.token t r) d) = Y (ix3 a (ProjBlocks.token t r) d)) : X = Y := by
  funext x
  obtain ⟨a, i, d, rfl⟩ : ∃ a i d, x = ix3 a i d := ⟨x 0, x 1, x 2, by funext b; fin_cases b <;> rfl⟩
  obtain ⟨t, r, rfl⟩ := point_of i
  exact h t a r d

section Same

open ProjectionsIdeal ProjectionsIdeal.Gen ProjectionsIdeal.Value ProjectionsRow

variable (m : (ℓ : Loc ProjIdeal.nD ProjIdeal.τ ProjIdeal.sig) → Buf (Elt Ideal) ℓ) (c : Dev ProjIdeal.nD)
  (V : Valuation ProjectionsIdeal.τ ProjectionsIdeal.sig (Elt Ideal)) (A : ProjectionsRow.args V = ProjBlocks.args m c)
  (hb : ∀ i, ∃ r : ℝ, (V (Proc.devRef .tc main_arg3) : FVec Ideal S2x2x1024 .f32) i = (r : EReal))
include A

/-- The seven arrays. -/
theorem same0 : branchRows (res_main_v26 V) (res_main_v38 V) (V (Proc.devRef .tc main_arg5)) (V (Proc.devRef .tc main_arg7))
    = (ProjIdeal.Gen.dats m 0 c).arrAt 8 ProjIdeal.cfg0.N :=
  rows_ext fun t r f => (branch_apply V _ f).trans ((congrArg (fun A => Args.branch A _ f) A).trans (ProjBlocks.final8 m c t r f).symm)

theorem same1 : (truncf .bf16 (heads (mulf (res_main_v30 V) (sigmoid (res_main_v30 V)))) bitsLt_bf16_f32 : FVec Ideal S8x16384x128 .bf16)
    = (ProjIdeal.Gen.dats m 0 c).arrAt 9 ProjIdeal.cfg0.N :=
  heads_ext fun t a r d => (silu_q_apply V a _ d).trans ((congrArg (fun A => Args.silu A 3 _ _) A).trans (ProjBlocks.final9 m c t a r d).symm)

include hb in
theorem same2 : heads (forgetRows (res_main_v95 V) (extractStridedSlice S16384x1024 ![0, 4096] (res_main_v26 V) slices_S16384x10240_S16384x1024_0_4096))
    = (ProjIdeal.Gen.dats m 0 c).arrAt 10 ProjIdeal.cfg0.N :=
  heads_ext fun t a r d => (forget_first_apply V hb a _ d).trans
    ((congrArg (fun A => Args.forget A 0 4 _ _) A).trans (ProjBlocks.final10 m c t a r d).symm)

include hb in
theorem same3 : heads (forgetRows (res_main_v118 V) (extractStridedSlice S16384x1024 ![0, 5120] (res_main_v26 V) slices_S16384x10240_S16384x1024_0_5120))
    = (ProjIdeal.Gen.dats m 0 c).arrAt 11 ProjIdeal.cfg0.N :=
  heads_ext fun t a r d => (forget_second_apply V hb a _ d).trans
    ((congrArg (fun A => Args.forget A 1 5 _ _) A).trans (ProjBlocks.final11 m c t a r d).symm)

theorem same4 : (truncf .bf16 (heads (extractStridedSlice S16384x1024 ![0, 6144] (res_main_v26 V) slices_S16384x10240_S16384x1024_0_6144)) bitsLt_bf16_f32 :
    FVec Ideal S8x16384x128 .bf16) = (ProjIdeal.Gen.dats m 0 c).arrAt 12 ProjIdeal.cfg0.N :=
  heads_ext fun t a r d => (values_apply V a _ d).trans ((congrArg (fun A => Args.proj A 6 _ _) A).trans (ProjBlocks.final12 m c t a r d).symm)

theorem same5 : (truncf .bf16 (heads (mulf (res_main_v34 V) (sigmoid (res_main_v34 V)))) bitsLt_bf16_f32 : FVec Ideal S8x16384x128 .bf16)
    = (ProjIdeal.Gen.dats m 0 c).arrAt 13 ProjIdeal.cfg0.N :=
  heads_ext fun t a r d => (silu_g_apply V a _ d).trans ((congrArg (fun A => Args.silu A 7 _ _) A).trans (ProjBlocks.final13 m c t a r d).symm)

theorem same6 : (truncf .bf16 (sigmoid (extractStridedSlice S16384x1024 ![0, 9216] (res_main_v26 V) slices_S16384x10240_S16384x1024_0_9216)) bitsLt_bf16_f32 :
    FVec Ideal S16384x1024 .bf16) = (ProjIdeal.Gen.dats m 0 c).arrAt 14 ProjIdeal.cfg0.N :=
  rows_ext fun t r f => (last_apply V _ f).trans ((congrArg (fun A => Ideal.logistic (Args.proj A 9 _ f)) A).trans (ProjBlocks.final14 m c t r f).symm)

end Same

/-- The kernel and the reference compute the same seven arrays. -/
theorem algebraic : algebraic_ProjIdeal_ProjectionsIdeal_pre_finite_bounds := by
  intro m g m' g' hpre hargs
  refine ⟨fun c => (ProjIdeal.Gen.dats m 0 c).arrAt 8 ProjIdeal.cfg0.N, fun c => (ProjIdeal.Gen.dats m 0 c).arrAt 9 ProjIdeal.cfg0.N,
    fun c => (ProjIdeal.Gen.dats m 0 c).arrAt 10 ProjIdeal.cfg0.N, fun c => (ProjIdeal.Gen.dats m 0 c).arrAt 11 ProjIdeal.cfg0.N,
    fun c => (ProjIdeal.Gen.dats m 0 c).arrAt 12 ProjIdeal.cfg0.N, fun c => (ProjIdeal.Gen.dats m 0 c).arrAt 13 ProjIdeal.cfg0.N,
    fun c => (ProjIdeal.Gen.dats m 0 c).arrAt 14 ProjIdeal.cfg0.N, ProjIdeal.Value.run_blocks m g, ?_⟩
  refine (θ_run ProjectionsIdeal.defs _ _).mono (fun r h c => ?_) (ProjectionsIdeal.Value.run m' g')
  obtain ⟨h0, h1, h2, h3, h4, h5, h6, ha⟩ := h c
  obtain ⟨e0, e1, e2, e3, e4, e5, e6, e7⟩ := hargs c
  have A := args_eq m m' c e0 e1 e2 e3 e4 e5 e6 e7
  have hb : ∀ i, ∃ r : ℝ, (StableHlo.launchContents m' c (Proc.devRef .tc ProjectionsIdeal.main_arg3) :
      FVec Ideal ProjectionsIdeal.S2x2x1024 .f32) i = (r : EReal) := fun i => by
    obtain ⟨r, hr⟩ := real_bounds _ _ _ _ _ _ _ _ (hpre c) i
    exact ⟨r, (congrFun e3 i).trans hr⟩
  exact ⟨h0.trans (same0 m c _ A), h1.trans (same1 m c _ A), h2.trans (same2 m c _ A hb), h3.trans (same3 m c _ A hb), h4.trans (same4 m c _ A),
    h5.trans (same5 m c _ A), h6.trans (same6 m c _ A), ha⟩

/-- The constant that the kernel names stands for the number that it rounds. -/
theorem preserves : preserves_Proj_ProjIdeal := IdealRules.named_const.statement _ _ _ _ _ rfl

end Cert.ProjEqual

end
-- ==== Proof.FinalSpec.lean ====
/- THE LAST STEP OF THE LAYER, over the extended reals: a token's row, to which the gated output of its experts is added, normalized
   by its root mean square.  Both calls of the kernel and both references compute `closing`; the lemmas here place a block of 512
   tokens in the array of all. -/
module

public import Idealize.ShloMosaic.PureOps.Ideal
public import Idealize.ShloMosaic.Lib.Pointwise

@[expose] public section

noncomputable section

namespace Cert.FinalSpec

open Idealize.ShloMosaic

/-- A row `x` plus the experts' output `y` times the gate `g`, -/
def gated (x y g : Fin 1024 → EReal) (k : Fin 1024) : EReal := x k + g k * y k

/-- and a row normalized and scaled by `n`. -/
def normalized (u n : Fin 1024 → EReal) (k : Fin 1024) : EReal :=
  u k * Ideal.rsqrt (Ideal.div (∑ j, u j * u j) (Ideal.ofBits .f32 0x44800000#32) + Ideal.ofBits .f32 0x358637BD#32) * n k

/-- The result's row. -/
def closing (x y g n : Fin 1024 → EReal) : Fin 1024 → EReal := normalized (gated x y g) n

/-- An index of block `t` of 512 rows, in the array of all rows. -/
theorem emb_rows {N : ℕ} (t : ℕ) (r : Fin 512) (k : Fin 1024) (h : 512 * t + r.val < N) (o : Fin 2 → ℕ) (ho : o 0 = t ∧ o 1 = 0)
    (e : Shape.Idx ⟨2, ![N, 1024]⟩) (he : ∀ x, (e x : ℕ) = o x * (⟨2, ![512, 1024]⟩ : Shape).size x + (ix2 r k x : ℕ)) :
    e = ix2 ⟨512 * t + r, h⟩ k := by
  obtain ⟨h0, h1⟩ := ho
  funext x
  apply Fin.ext
  refine (he x).trans ?_
  fin_cases x
  · show o 0 * 512 + (r : ℕ) = 512 * t + r
    rw [h0]; omega
  · show o 1 * 1024 + (k : ℕ) = k
    rw [h1]; omega

/-- An index of an array taken whole, in the array. -/
theorem emb_whole {n l : ℕ} (a : Fin n) (b : Fin l) (o : Fin 2 → ℕ) (ho : ∀ x, o x = 0) (e : Shape.Idx ⟨2, ![n, l]⟩)
    (he : ∀ x, (e x : ℕ) = o x * (⟨2, ![n, l]⟩ : Shape).size x + (ix2 a b x : ℕ)) : e = ix2 a b := by
  funext x
  apply Fin.ext
  refine (he x).trans ?_
  rw [ho x, Nat.zero_mul, Nat.zero_add]

/-- Arrays of rows that agree at every row of every block are equal. -/
theorem rows_ext {T N : ℕ} (hN : N = 512 * T) {X Y : Shape.Idx ⟨2, ![N, 1024]⟩ → EReal}
    (h : ∀ (t : Fin T) (r : Fin 512) (f : Fin 1024), X (ix2 ⟨512 * t + r, by omega⟩ f) = Y (ix2 ⟨512 * t + r, by omega⟩ f)) : X = Y := by
  funext x
  obtain ⟨i, f, rfl⟩ : ∃ i f, x = ix2 i f := ⟨x 0, x 1, by funext a; fin_cases a <;> rfl⟩
  have hi := i.isLt
  have e : i = ⟨512 * (i / 512) + i % 512, by omega⟩ := Fin.ext (show i.val = 512 * (i.val / 512) + i.val % 512 by omega)
  rw [e]
  exact h ⟨i / 512, by omega⟩ ⟨i % 512, by omega⟩ f

end Cert.FinalSpec

end
-- ==== Proof.FinalPromptEqual.lean ====
/- THE FINAL NORM OF THE CONTEXT TOKENS.  Grid point `t` works on the 512 tokens from `512 t`; every token has the modulation's row 4.
   The kernel and its reference leave the array whose rows are `closing`. -/
module

public import proofs.«01_k».proof.Defs
public import proofs.«01_k».proof.Proof.FinalSpec
public import proofs.«01_k».proof.Proof.Gen.FinalPromptIdeal.Value
public import proofs.«01_k».proof.Proof.Gen.ResultPromptIdeal.Run
public import Idealize.ShloMosaic.Lib.Quiescent
public import Idealize.ShloMosaic.Lib.Claim
public import Idealize.ShloMosaic.Lib.Tactic.CleanTypes

@[expose] public section

set_option maxRecDepth 16384

noncomputable section

namespace Cert.FinalPromptEqual

open Cert.FinalSpec Idealize.ShloMosaic Idealize.ShloMosaic.TcCoe Idealize.SL.Sem

/-- The reference runs, leaves its arguments alone and declares no semaphore. -/
theorem frame_reference : quiescent_ResultPromptIdeal := fun m g _ =>
  (θ_run ResultPromptIdeal.defs _ _).mono (fun r h => ⟨fun c => (h c).2, sem_eq_zero_of_no_sems rfl r.2⟩) (ResultPromptIdeal.Value.run m g)

/-- A token's row of the result, from the arrays given. -/
def row (x : Shape.Idx ⟨2, ![8192, 1024]⟩ → EReal) (y : Shape.Idx ⟨3, ![32, 256, 1024]⟩ → EReal) (mod : Shape.Idx ⟨2, ![8, 6144]⟩ → EReal)
    (n : Shape.Idx ⟨1, ![1024]⟩ → EReal) (i : Fin 8192) : Fin 1024 → EReal :=
  closing (fun k => x (ix2 i k)) (fun k => y (ix3 ⟨i / 256, by omega⟩ ⟨i % 256, by omega⟩ k)) (fun k => mod (ix2 4 ⟨5120 + k, by omega⟩))
    (fun k => n (ix1 k))

section Kernel

open FinalPromptIdeal FinalPromptIdeal.Gen

/-- What a point computes. -/
theorem point (x y : Vec Ideal S512x1024 .f32) (g n : Vec Ideal S1x1024 .f32) (r : Fin 512) (k : Fin 1024) :
    k0_pay1 x g y n (ix2 r k) = closing (fun k => x (ix2 r k)) (fun k => y (ix2 r k)) (fun k => g (ix2 0 k)) (fun k => n (ix2 0 k)) k := by
  unfold k0_pay1 closing normalized gated
  pointwise
  done

/-- The index maps: the tokens by point, the other arrays whole. -/
theorem index_rows (t : Fin cfg0.N) : (win0_0.index t 0 = t.val ∧ win0_0.index t 1 = 0) ∧ (win0_1.index t 0 = t.val ∧ win0_1.index t 1 = 0)
    ∧ (win0_4.index t 0 = t.val ∧ win0_4.index t 1 = 0) := by
  revert t
  exact (by decide +kernel : ∀ t : Fin grid0.N, (win0_0.index t 0 = t.val ∧ win0_0.index t 1 = 0) ∧ (win0_1.index t 0 = t.val ∧ win0_1.index t 1 = 0)
    ∧ (win0_4.index t 0 = t.val ∧ win0_4.index t 1 = 0))

theorem index_whole (t : Fin cfg0.N) : ∀ b : Fin 2, win0_2.index t b = 0 ∧ win0_3.index t b = 0 := by
  revert t
  exact (by decide +kernel : ∀ t : Fin grid0.N, ∀ b : Fin 2, win0_2.index t b = 0 ∧ win0_3.index t b = 0)

variable (m : (ℓ : Loc nD τ sig) → Buf (Elt Ideal) ℓ) (c : Dev nD) (t : Fin cfg0.N)

/-- The host flattens the experts' output and gives the scale an axis. -/
theorem host_y (i : Fin 8192) (k : Fin 1024) :
    V m c main_v0 (ix2 i k) = m ((c.tc : Thread nD τ).loc main_arg1) (ix3 ⟨i / 256, by omega⟩ ⟨i % 256, by omega⟩ k) := by
  entry_read
  clean_types
  pointwise
  done

theorem host_scale (k : Fin 1024) : V m c main_v1 (ix2 0 k) = m ((c.tc : Thread nD τ).loc main_arg3) (ix1 k) := by
  entry_read
  clean_types
  pointwise
  done

/-- Token `r` of a point. -/
theorem token_lt (r : Fin 512) : 512 * t.val + r.val < 8192 := by have := lt_of_lt_of_eq t.isLt N_0; omega

/-- A point's blocks. -/
theorem x_block (r : Fin 512) (k : Fin 1024) :
    iblk m c 0 t (ix2 r k) = m ((c.tc : Thread nD τ).loc main_arg0) (ix2 ⟨512 * t.val + r, token_lt t r⟩ k) :=
  ((View.read_apply _ _).trans (cast_eq _ _)).trans (congrArg (V m c main_arg0)
    (emb_rows t.val r k (token_lt t r) (win0_0.index t) (index_rows t).1 _ fun a => win0_0.rect_emb_val t (ix2 r k) a))

theorem y_block (r : Fin 512) (k : Fin 1024) : iblk m c 1 t (ix2 r k) = V m c main_v0 (ix2 ⟨512 * t.val + r, token_lt t r⟩ k) :=
  ((View.read_apply _ _).trans (cast_eq _ _)).trans (congrArg (V m c main_v0)
    (emb_rows t.val r k (token_lt t r) (win0_1.index t) (index_rows t).2.1 _ fun a => win0_1.rect_emb_val t (ix2 r k) a))

theorem mod_block (a : Fin 8) (b : Fin 6144) : iblk m c 2 t (ix2 a b) = m ((c.tc : Thread nD τ).loc main_arg2) (ix2 a b) :=
  ((View.read_apply _ _).trans (cast_eq _ _)).trans (congrArg (V m c main_arg2)
    (emb_whole (n := 8) (l := 6144) a b (win0_2.index t) (fun b => (index_whole t b).1) _ fun x => win0_2.rect_emb_val t (ix2 a b) x))

theorem scale_block (k : Fin 1024) : iblk m c 3 t (ix2 0 k) = V m c main_v1 (ix2 0 k) :=
  ((View.read_apply _ _).trans (cast_eq _ _)).trans (congrArg (V m c main_v1)
    (emb_whole (n := 1) (l := 1024) 0 k (win0_3.index t) (fun b => (index_whole t b).2) _ fun x => win0_3.rect_emb_val t (ix2 0 k) x))

/-- The gate: row 4 of the modulation, from column 5120. -/
theorem gate_row (k : Fin 1024) : View.ld (Val := Elt Ideal) (e' := .f32) (iblk m c 2 t)
    (Rect.unit (s := S8x6144) ![4, 5120] S1x1024.size inb_S8x6144_S1x1024_4_5120) (ix2 0 k)
      = m ((c.tc : Thread nD τ).loc main_arg2) (ix2 4 ⟨5120 + k, by omega⟩) := by
  refine (congrArg (iblk m c 2 t) ?_).trans (mod_block m c t _ _)
  funext a
  apply Fin.ext
  fin_cases a
  · rfl
  · show 5120 + 1 * k.val = 5120 + k
    omega

/-- What a point leaves. -/
theorem out_entry (r : Fin 512) (k : Fin 1024) : out0_4 (iblk m c 0 t) (iblk m c 1 t) (iblk m c 2 t) (iblk m c 3 t) (ix2 r k)
    = row (m ((c.tc : Thread nD τ).loc main_arg0)) (m ((c.tc : Thread nD τ).loc main_arg1)) (m ((c.tc : Thread nD τ).loc main_arg2))
        (m ((c.tc : Thread nD τ).loc main_arg3)) ⟨512 * t.val + r, token_lt t r⟩ k := by
  have w {n : ℕ} (r : Fin n) (h : ∀ a, (![0, 0] : Fin 2 → ℕ) a + (⟨2, ![n, 1024]⟩ : Shape).size a ≤ (⟨2, ![n, 1024]⟩ : Shape).size a) (k : Fin 1024) :
      (Rect.unit (s := ⟨2, ![n, 1024]⟩) ![0, 0] (⟨2, ![n, 1024]⟩ : Shape).size h).emb (ix2 r k) = ix2 r k := by
    funext a
    apply Fin.ext
    fin_cases a
    · show 0 + 1 * r.val = r
      omega
    · show 0 + 1 * k.val = k
      omega
  unfold out0_4
  have e := w r inb_S512x1024_S512x1024_0_0 k
  refine (congrArg (View.canon _) e.symm).trans ((View.canon_cons_emb _ _ _ _).trans ((point _ _ _ _ r k).trans ?_))
  unfold row
  congr 1
  · exact funext fun k => (congrArg (iblk m c 0 t) (w r inb_S512x1024_S512x1024_0_0 k)).trans (x_block m c t r k)
  · exact funext fun k => (congrArg (iblk m c 1 t) (w r inb_S512x1024_S512x1024_0_0 k)).trans ((y_block m c t r k).trans (host_y m c _ k))
  · exact funext fun k => gate_row m c t k
  · exact funext fun k => (congrArg (iblk m c 3 t) (w 0 inb_S1x1024_S1x1024_0_0 k)).trans ((scale_block m c t k).trans (host_scale m c k))

/-- The array after the launch, token by token. -/
theorem final (r : Fin 512) (k : Fin 1024) : (dats m 0 c).arrAt 4 cfg0.N (ix2 ⟨512 * t.val + r, token_lt t r⟩ k)
    = row (m ((c.tc : Thread nD τ).loc main_arg0)) (m ((c.tc : Thread nD τ).loc main_arg1)) (m ((c.tc : Thread nD τ).loc main_arg2))
        (m ((c.tc : Thread nD τ).loc main_arg3)) ⟨512 * t.val + r, token_lt t r⟩ k := by
  have E := (dats m 0 c).arrAt_emb_eq_flushed 4 (Value.disjoint4) t (flush0_4 t) (ix2 r k)
  have hi : ((cfg0.win 4).blk t).view.emb (ix2 r k) = ix2 ⟨512 * t.val + r, token_lt t r⟩ k :=
    emb_rows t.val r k (token_lt t r) (win0_4.index t) (index_rows t).2.2 _ fun x => win0_4.rect_emb_val t (ix2 r k) x
  rw [hi] at E
  refine E.trans ((cast_eq _ _).trans ?_)
  rw [Value.flushed4]
  refine Eq.trans ?_ (out_entry m c t r k)
  generalize out0_4 (iblk m c 0 t) (iblk m c 1 t) (iblk m c 2 t) (iblk m c 3 t) = Y
  rfl

end Kernel

section Reference

open ResultPromptIdeal ResultPromptIdeal.Gen

/-- The reference's rows with the experts' output added, -/
def sums (x : FVec Ideal S8192x1024 .f32) (y : FVec Ideal S32x256x1024 .f32) (md : FVec Ideal S8x6144 .f32) : FVec Ideal S8192x1024 .f32 :=
  addf x (mulf (broadcastInDim S8192x1024 ![0, 1] bcast_S1x1024_S8192x1024_0_1 (broadcastInDim S1x1024 ![1] bcast_S1024_S1x1024_1 (shapeCast _ (extractStridedSlice S1x1024 ![4, 5120] md slices_S8x6144_S1x1024_4_5120) shapeCasts_S1x1024_S1024))) (shapeCast _ y shapeCasts_S32x256x1024_S8192x1024))

theorem sums_apply (x : FVec Ideal S8192x1024 .f32) (y : FVec Ideal S32x256x1024 .f32) (md : FVec Ideal S8x6144 .f32) (i : Fin 8192) (k : Fin 1024) :
    sums x y md (ix2 i k) = gated (fun k => x (ix2 i k)) (fun k => y (ix3 ⟨i / 256, by omega⟩ ⟨i % 256, by omega⟩ k))
      (fun k => md (ix2 4 ⟨5120 + k, by omega⟩)) k := by
  unfold sums gated
  pointwise
  done

/-- and the norm of rows. -/
def norm (u : FVec Ideal S8192x1024 .f32) (n : FVec Ideal S1024 .f32) : FVec Ideal S8192x1024 .f32 :=
  mulf (mulf u (broadcastInDim S8192x1024 ![0, 1] bcast_S8192x1_S8192x1024_0_1 (Host.rsqrt (addf (Host.divf (broadcastInDim S8192x1 ![0] bcast_S8192_S8192x1_0 (Host.reduceAdd (mulf u u) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 n))

theorem norm_apply (u : FVec Ideal S8192x1024 .f32) (n : FVec Ideal S1024 .f32) (i : Fin 8192) (k : Fin 1024) :
    norm u n (ix2 i k) = normalized (fun k => u (ix2 i k)) (fun k => n (ix1 k)) k := by
  unfold norm normalized
  pointwise
  done

theorem reference_apply (x : FVec Ideal S8192x1024 .f32) (y : FVec Ideal S32x256x1024 .f32) (md : FVec Ideal S8x6144 .f32) (n : FVec Ideal S1024 .f32)
    (i : Fin 8192) (k : Fin 1024) : norm (sums x y md) n (ix2 i k) = row x y md n i k :=
  (norm_apply _ _ i k).trans (congrArg (fun u => normalized u _ k) (funext fun k => sums_apply x y md i k))

end Reference

/-- The kernel and the reference compute the same array. -/
theorem algebraic : algebraic_FinalPromptIdeal_ResultPromptIdeal := by
  intro m g m' g' _ hargs
  refine ⟨fun c => (FinalPromptIdeal.Gen.dats m 0 c).arrAt 4 FinalPromptIdeal.cfg0.N, FinalPromptIdeal.Value.run_blocks m g, ?_⟩
  refine (θ_run ResultPromptIdeal.defs _ _).mono (fun r h c => ?_) (ResultPromptIdeal.Value.run m' g')
  obtain ⟨h0, ha⟩ := h c
  obtain ⟨e0, e1, e2, e3⟩ := hargs c
  refine ⟨h0.trans ?_, ha⟩
  refine Eq.trans (b := norm (sums (m' ((c.tc : Thread ResultPromptIdeal.nD ResultPromptIdeal.τ).loc ResultPromptIdeal.main_arg0)) (m' ((c.tc : Thread ResultPromptIdeal.nD ResultPromptIdeal.τ).loc ResultPromptIdeal.main_arg1)) (m' ((c.tc : Thread ResultPromptIdeal.nD ResultPromptIdeal.τ).loc ResultPromptIdeal.main_arg2))) (m' ((c.tc : Thread ResultPromptIdeal.nD ResultPromptIdeal.τ).loc ResultPromptIdeal.main_arg3))) rfl ?_
  rw [e0, e1, e2, e3]
  exact rows_ext (congrArg (512 * ·) FinalPromptIdeal.Gen.N_0).symm fun t r f => (reference_apply _ _ _ _ _ f).trans (final m c t r f).symm

end Cert.FinalPromptEqual

end
-- ==== Proof.FinalSampleEqual.lean ====
/- THE FINAL NORM OF THE LATENT TOKENS.  Grid point `t` works on the 512 tokens from `512 t`, which belong to request `t / 8`; a token has
   the modulation's row of its request.
   The kernel and its reference leave the array whose rows are `closing`. -/
module

public import proofs.«01_k».proof.Defs
public import proofs.«01_k».proof.Proof.FinalSpec
public import proofs.«01_k».proof.Proof.Gen.FinalSampleIdeal.Value
public import proofs.«01_k».proof.Proof.Gen.ResultSampleIdeal.Run
public import Idealize.ShloMosaic.Lib.Quiescent
public import Idealize.ShloMosaic.Lib.Claim
public import Idealize.ShloMosaic.Lib.VecWindow
public import Idealize.ShloMosaic.Lib.Tactic.CleanTypes

@[expose] public section

set_option maxRecDepth 16384

noncomputable section

namespace Cert.FinalSampleEqual

open Cert.FinalSpec Idealize.ShloMosaic Idealize.ShloMosaic.TcCoe Idealize.ShloMosaic.Tactic Idealize.SL.Sem

/-- The reference runs, leaves its arguments alone and declares no semaphore. -/
theorem frame_reference : quiescent_ResultSampleIdeal := fun m g _ =>
  (θ_run ResultSampleIdeal.defs _ _).mono (fun r h => ⟨fun c => (h c).2, sem_eq_zero_of_no_sems rfl r.2⟩) (ResultSampleIdeal.Value.run m g)

/-- A token's row of the result, from the arrays given. -/
def row (x : Shape.Idx ⟨2, ![16384, 1024]⟩ → EReal) (y : Shape.Idx ⟨3, ![4, 4096, 1024]⟩ → EReal) (mod : Shape.Idx ⟨2, ![8, 6144]⟩ → EReal)
    (n : Shape.Idx ⟨1, ![1024]⟩ → EReal) (i : Fin 16384) : Fin 1024 → EReal :=
  closing (fun k => x (ix2 i k)) (fun k => y (ix3 ⟨i / 4096, by omega⟩ ⟨i % 4096, by omega⟩ k)) (fun k => mod (ix2 ⟨i / 4096, by omega⟩ ⟨5120 + k, by omega⟩))
    (fun k => n (ix1 k))

section Kernel

open FinalSampleIdeal FinalSampleIdeal.Gen

/-- What a point computes. -/
theorem point (x y : Vec Ideal S512x1024 .f32) (g n : Vec Ideal S1x1024 .f32) (r : Fin 512) (k : Fin 1024) :
    k0_pay1 x g y n (ix2 r k) = closing (fun k => x (ix2 r k)) (fun k => y (ix2 r k)) (fun k => g (ix2 0 k)) (fun k => n (ix2 0 k)) k := by
  unfold k0_pay1 closing normalized gated
  pointwise
  done

/-- The index maps: the tokens by point, the other arrays whole. -/
theorem index_rows (t : Fin cfg0.N) : (win0_0.index t 0 = t.val ∧ win0_0.index t 1 = 0) ∧ (win0_1.index t 0 = t.val ∧ win0_1.index t 1 = 0)
    ∧ (win0_4.index t 0 = t.val ∧ win0_4.index t 1 = 0) := by
  revert t
  exact (by decide +kernel : ∀ t : Fin grid0.N, (win0_0.index t 0 = t.val ∧ win0_0.index t 1 = 0) ∧ (win0_1.index t 0 = t.val ∧ win0_1.index t 1 = 0)
    ∧ (win0_4.index t 0 = t.val ∧ win0_4.index t 1 = 0))

theorem index_whole (t : Fin cfg0.N) : ∀ b : Fin 2, win0_2.index t b = 0 ∧ win0_3.index t b = 0 := by
  revert t
  exact (by decide +kernel : ∀ t : Fin grid0.N, ∀ b : Fin 2, win0_2.index t b = 0 ∧ win0_3.index t b = 0)

/-- The modulation's row of a point, and where its gate lies. -/
theorem offset (t : Fin cfg0.N) : k0_off1 (grid0.coords t) 0 = t.val / 8 ∧ k0_off1 (grid0.coords t) 1 = 5120 := by
  revert t
  exact (by decide +kernel : ∀ t : Fin grid0.N, k0_off1 (grid0.coords t) 0 = t.val / 8 ∧ k0_off1 (grid0.coords t) 1 = 5120)

variable (m : (ℓ : Loc nD τ sig) → Buf (Elt Ideal) ℓ) (c : Dev nD) (t : Fin cfg0.N)

/-- The host flattens the experts' output and gives the scale an axis. -/
theorem host_y (i : Fin 16384) (k : Fin 1024) :
    V m c main_v0 (ix2 i k) = m ((c.tc : Thread nD τ).loc main_arg1) (ix3 ⟨i / 4096, by omega⟩ ⟨i % 4096, by omega⟩ k) := by
  entry_read
  clean_types
  pointwise
  done

theorem host_scale (k : Fin 1024) : V m c main_v1 (ix2 0 k) = m ((c.tc : Thread nD τ).loc main_arg3) (ix1 k) := by
  entry_read
  clean_types
  pointwise
  done

/-- Token `r` of a point. -/
theorem token_lt (r : Fin 512) : 512 * t.val + r.val < 16384 := by have := lt_of_lt_of_eq t.isLt N_0; omega

/-- A point's blocks. -/
theorem x_block (r : Fin 512) (k : Fin 1024) :
    iblk m c 0 t (ix2 r k) = m ((c.tc : Thread nD τ).loc main_arg0) (ix2 ⟨512 * t.val + r, token_lt t r⟩ k) :=
  ((View.read_apply _ _).trans (cast_eq _ _)).trans (congrArg (V m c main_arg0)
    (emb_rows t.val r k (token_lt t r) (win0_0.index t) (index_rows t).1 _ fun a => win0_0.rect_emb_val t (ix2 r k) a))

theorem y_block (r : Fin 512) (k : Fin 1024) : iblk m c 1 t (ix2 r k) = V m c main_v0 (ix2 ⟨512 * t.val + r, token_lt t r⟩ k) :=
  ((View.read_apply _ _).trans (cast_eq _ _)).trans (congrArg (V m c main_v0)
    (emb_rows t.val r k (token_lt t r) (win0_1.index t) (index_rows t).2.1 _ fun a => win0_1.rect_emb_val t (ix2 r k) a))

theorem mod_block (a : Fin 8) (b : Fin 6144) : iblk m c 2 t (ix2 a b) = m ((c.tc : Thread nD τ).loc main_arg2) (ix2 a b) :=
  ((View.read_apply _ _).trans (cast_eq _ _)).trans (congrArg (V m c main_arg2)
    (emb_whole (n := 8) (l := 6144) a b (win0_2.index t) (fun b => (index_whole t b).1) _ fun x => win0_2.rect_emb_val t (ix2 a b) x))

theorem scale_block (k : Fin 1024) : iblk m c 3 t (ix2 0 k) = V m c main_v1 (ix2 0 k) :=
  ((View.read_apply _ _).trans (cast_eq _ _)).trans (congrArg (V m c main_v1)
    (emb_whole (n := 1) (l := 1024) 0 k (win0_3.index t) (fun b => (index_whole t b).2) _ fun x => win0_3.rect_emb_val t (ix2 0 k) x))

/-- The gate: the request's row of the modulation, from column 5120. -/
theorem gate_row (r : Fin 512) (k : Fin 1024) : View.ld (Val := Elt Ideal) (e' := .f32) (iblk m c 2 t)
    (Rect.unit (s := S8x6144) (k0_off1 (grid0.coords t)) S1x1024.size (k0_off1_inb (grid0.coords t))) (ix2 0 k)
      = m ((c.tc : Thread nD τ).loc main_arg2) (ix2 ⟨(512 * t.val + r) / 4096, by have := token_lt t r; omega⟩ ⟨5120 + k, by omega⟩) := by
  refine (congrArg (iblk m c 2 t) ?_).trans (mod_block m c t _ _)
  obtain ⟨h0, h1⟩ := offset t
  funext a
  apply Fin.ext
  fin_cases a
  · show k0_off1 (grid0.coords t) 0 + 1 * 0 = (512 * t.val + r) / 4096
    omega
  · show k0_off1 (grid0.coords t) 1 + 1 * k.val = 5120 + k
    omega

/-- A point's loads of whole blocks give the blocks. -/
theorem outs : outsAt0 m c t = k0_pay1 (iblk m c 0 t) (View.ld (Val := Elt Ideal) (e' := .f32) (iblk m c 2 t)
    (Rect.unit (s := S8x6144) (k0_off1 (grid0.coords t)) S1x1024.size (k0_off1_inb (grid0.coords t)))) (iblk m c 1 t) (iblk m c 3 t) := by
  have pt (i : grid0.Coords) (arg1 : Memref sig .tc .vmem S512x1024 .f32) (h1 : arg1.IsWhole) (arg2 : Memref sig .tc .vmem S512x1024 .f32) (h2 : arg2.IsWhole)
      (arg3 : Memref sig .tc .vmem S8x6144 .f32) (h3 : arg3.IsWhole) (arg4 : Memref sig .tc .vmem S1x1024 .f32) (h4 : arg4.IsWhole)
      (arg5 : Memref sig .tc .vmem S512x1024 .f32) (h5 : arg5.IsWhole) (x0 x1 : Vec Ideal S512x1024 .f32) (x2 : Vec Ideal S8x6144 .f32) (x3 : Vec Ideal S1x1024 .f32) :
      out0_A_4 c i arg1 h1 arg2 h2 arg3 h3 arg4 h4 arg5 h5 x0 x1 x2 x3
        = k0_pay1 x0 (View.ld (Val := Elt Ideal) (e' := .f32) x2 (Rect.unit (s := S8x6144) (k0_off1 i) S1x1024.size (k0_off1_inb i))) x1 x3 := by
    unfold out0_A_4
    have e : (kernelRun0_A c i arg1 h1 arg2 h2 arg3 h3 arg4 h4 arg5 h5 x0 x1 x2 x3).1
        = [⟨Rect.unit (s := S512x1024) ![0, 0] S512x1024.size inb_S512x1024_S512x1024_0_0,
            k0_pay1 (View.readAt (Elt Ideal) arg1.view (Rect.unit (s := S512x1024) ![0, 0] S512x1024.size inb_S512x1024_S512x1024_0_0).toLoadRect (h1.unread x0))
              (View.readAt (Elt Ideal) arg3.view (Rect.unit (s := S8x6144) (k0_off1 i) S1x1024.size (k0_off1_inb i)).toLoadRect (h3.unread x2))
              (View.readAt (Elt Ideal) arg2.view (Rect.unit (s := S512x1024) ![0, 0] S512x1024.size inb_S512x1024_S512x1024_0_0).toLoadRect (h2.unread x1))
              (View.readAt (Elt Ideal) arg4.view (Rect.unit (s := S1x1024) ![0, 0] S1x1024.size inb_S1x1024_S1x1024_0_0).toLoadRect (h4.unread x3))⟩] := by
      sl_kernel_rfl
    rw [e, View.read_writes_full, View.readAt_full, View.readAt_full, View.readAt_full, View.readAt_eq_ld, h1.read_unread, h2.read_unread, h3.read_unread,
      h4.read_unread]
  exact pt _ _ _ _ _ _ _ _ _ _ _ _ _ _ _

/-- What a point leaves. -/
theorem out_entry (r : Fin 512) (k : Fin 1024) : outsAt0 m c t (ix2 r k)
    = row (m ((c.tc : Thread nD τ).loc main_arg0)) (m ((c.tc : Thread nD τ).loc main_arg1)) (m ((c.tc : Thread nD τ).loc main_arg2))
        (m ((c.tc : Thread nD τ).loc main_arg3)) ⟨512 * t.val + r, token_lt t r⟩ k := by
  refine (congrFun (outs m c t) _).trans ((point _ _ _ _ r k).trans ?_)
  unfold row
  congr 1
  · exact funext fun k => x_block m c t r k
  · exact funext fun k => (y_block m c t r k).trans (host_y m c _ k)
  · exact funext fun k => gate_row m c t r k
  · exact funext fun k => (scale_block m c t k).trans (host_scale m c k)

/-- The array after the launch, token by token. -/
theorem final (r : Fin 512) (k : Fin 1024) : (dats m 0 c).arrAt 4 cfg0.N (ix2 ⟨512 * t.val + r, token_lt t r⟩ k)
    = row (m ((c.tc : Thread nD τ).loc main_arg0)) (m ((c.tc : Thread nD τ).loc main_arg1)) (m ((c.tc : Thread nD τ).loc main_arg2))
        (m ((c.tc : Thread nD τ).loc main_arg3)) ⟨512 * t.val + r, token_lt t r⟩ k := by
  have E := (dats m 0 c).arrAt_emb_eq_flushed 4 (Value.disjoint4) t (flush0_4 t) (ix2 r k)
  have hi : ((cfg0.win 4).blk t).view.emb (ix2 r k) = ix2 ⟨512 * t.val + r, token_lt t r⟩ k :=
    emb_rows t.val r k (token_lt t r) (win0_4.index t) (index_rows t).2.2 _ fun x => win0_4.rect_emb_val t (ix2 r k) x
  rw [hi] at E
  refine E.trans ((cast_eq _ _).trans ?_)
  rw [Value.flushed4]
  refine Eq.trans ?_ (out_entry m c t r k)
  generalize outsAt0 m c t = Y
  rfl

end Kernel

section Reference

open ResultSampleIdeal ResultSampleIdeal.Gen

/-- The reference's rows with the experts' output added, in their batches, -/
def sums (x : FVec Ideal S16384x1024 .f32) (y : FVec Ideal S4x4096x1024 .f32) (md : FVec Ideal S8x6144 .f32) : FVec Ideal S4x4096x1024 .f32 :=
  addf (shapeCast _ x shapeCasts_S16384x1024_S4x4096x1024) (mulf (broadcastInDim S4x4096x1024 ![0, 1, 2] bcast_S4x1x1024_S4x4096x1024_0_1_2 (broadcastInDim S4x1x1024 ![0, 2] bcast_S4x1024_S4x1x1024_0_2 (extractStridedSlice S4x1024 ![0, 5120] md slices_S8x6144_S4x1024_0_5120))) y)

theorem sums_apply (x : FVec Ideal S16384x1024 .f32) (y : FVec Ideal S4x4096x1024 .f32) (md : FVec Ideal S8x6144 .f32) (i : Fin 16384) (k : Fin 1024) :
    sums x y md (ix3 ⟨i / 4096, by omega⟩ ⟨i % 4096, by omega⟩ k) = gated (fun k => x (ix2 i k)) (fun k => y (ix3 ⟨i / 4096, by omega⟩ ⟨i % 4096, by omega⟩ k))
      (fun k => md (ix2 ⟨i / 4096, by omega⟩ ⟨5120 + k, by omega⟩)) k := by
  unfold sums gated
  pointwise
  done

/-- and the norm of rows. -/
def norm (u : FVec Ideal S4x4096x1024 .f32) (n : FVec Ideal S1024 .f32) : FVec Ideal S16384x1024 .f32 :=
  shapeCast _ (mulf (mulf u (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf u u) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 n))) shapeCasts_S4x4096x1024_S16384x1024

theorem norm_apply (u : FVec Ideal S4x4096x1024 .f32) (n : FVec Ideal S1024 .f32) (i : Fin 16384) (k : Fin 1024) :
    norm u n (ix2 i k) = normalized (fun k => u (ix3 ⟨i / 4096, by omega⟩ ⟨i % 4096, by omega⟩ k)) (fun k => n (ix1 k)) k := by
  unfold norm normalized
  pointwise
  done

theorem reference_apply (x : FVec Ideal S16384x1024 .f32) (y : FVec Ideal S4x4096x1024 .f32) (md : FVec Ideal S8x6144 .f32) (n : FVec Ideal S1024 .f32)
    (i : Fin 16384) (k : Fin 1024) : norm (sums x y md) n (ix2 i k) = row x y md n i k :=
  (norm_apply _ _ i k).trans (congrArg (fun u => normalized u _ k) (funext fun k => sums_apply x y md i k))

end Reference

/-- The kernel and the reference compute the same array. -/
theorem algebraic : algebraic_FinalSampleIdeal_ResultSampleIdeal := by
  intro m g m' g' _ hargs
  refine ⟨fun c => (FinalSampleIdeal.Gen.dats m 0 c).arrAt 4 FinalSampleIdeal.cfg0.N, FinalSampleIdeal.Value.run_blocks m g, ?_⟩
  refine (θ_run ResultSampleIdeal.defs _ _).mono (fun r h c => ?_) (ResultSampleIdeal.Value.run m' g')
  obtain ⟨h0, ha⟩ := h c
  obtain ⟨e0, e1, e2, e3⟩ := hargs c
  refine ⟨h0.trans ?_, ha⟩
  refine Eq.trans (b := norm (sums (m' ((c.tc : Thread ResultSampleIdeal.nD ResultSampleIdeal.τ).loc ResultSampleIdeal.main_arg0)) (m' ((c.tc : Thread ResultSampleIdeal.nD ResultSampleIdeal.τ).loc ResultSampleIdeal.main_arg1)) (m' ((c.tc : Thread ResultSampleIdeal.nD ResultSampleIdeal.τ).loc ResultSampleIdeal.main_arg2))) (m' ((c.tc : Thread ResultSampleIdeal.nD ResultSampleIdeal.τ).loc ResultSampleIdeal.main_arg3))) rfl ?_
  rw [e0, e1, e2, e3]
  exact rows_ext (congrArg (512 * ·) FinalSampleIdeal.Gen.N_0).symm fun t r f => (reference_apply _ _ _ _ _ f).trans (final m c t r f).symm

end Cert.FinalSampleEqual

end
-- ==== Proof.MergeSpec.lean ====
/- THE MERGE AND OUTPUT PROJECTIONS OF A TOKEN, over the extended reals.  The two directions of the scan are added; a head is normalized
   by its root mean square, scaled and gated; the rows of heads go through a matrix, the convolution's branch is added, and the sum goes
   through a second matrix; the token's row gets the gated outcome.  The kernel and the reference compute `merged`. -/
module

public import Idealize.ShloMosaic.PureOps.Ideal
public import Idealize.ShloMosaic.Lib.Pointwise

@[expose] public section

noncomputable section

namespace Cert.MergeSpec

open Idealize.ShloMosaic

/-- Lane `d` of a head with outputs `p` and `q` in the two directions, scaled by `n` and gated by `g`. -/
def headed (p q : Fin 128 → EReal) (n g : EReal) (d : Fin 128) : EReal :=
  (p d + q d) * Ideal.rsqrt (Ideal.div (∑ j, (p j + q j) * (p j + q j)) (Ideal.ofBits .f32 0x43000000#32) + Ideal.ofBits .f32 0x358637BD#32) * n * g

/-- The head of a column, and the column's lane in it. -/
def head (k : Fin 1024) : Fin 8 := ⟨k / 128, by omega⟩
def lane (k : Fin 1024) : Fin 128 := ⟨k % 128, by omega⟩

/-- The row of all heads. -/
def heads (p q g : Fin 8 → Fin 128 → EReal) (n : Fin 1024 → EReal) (k : Fin 1024) : EReal :=
  headed (p (head k)) (q (head k)) (n k) (g (head k) (lane k)) (lane k)

/-- A row `h` of heads through the matrix `w`, scaled by `s` and added to the convolution's branch `z`, -/
def mixed (h s z : Fin 1024 → EReal) (w : Fin 1024 → Fin 1024 → EReal) (j : Fin 1024) : EReal := z j + s j * ∑ k, h k * w k j

/-- and the row `x` with that, through the matrix `w`, gated by `g` and added. -/
def merged (x g u : Fin 1024 → EReal) (w : Fin 1024 → Fin 1024 → EReal) (f : Fin 1024) : EReal := x f + g f * ∑ j, u j * w j f

end Cert.MergeSpec

end
-- ==== Proof.MergePoint.lean ====
/- A GRID POINT OF THE MERGE.  A point normalizes and gates the eight heads of its 512 tokens one after the other and stores each in a
   scratch array; it then reads the scratch array whole, as rows of heads, and multiplies them with the two matrices. -/
module

public import proofs.«01_k».proof.Proof.MergeSpec
public import proofs.«01_k».proof.Proof.ProjPoint
public import proofs.«01_k».proof.Proof.Gen.PostIdeal.Value
public import Idealize.ShloMosaic.Lib.VecWindow

@[expose] public section

set_option maxRecDepth 16384

noncomputable section

namespace Cert.MergePoint

open Cert.MergeSpec Cert.PostIdeal Cert.PostIdeal.Gen Idealize.ShloMosaic Idealize.ShloMosaic.TcCoe Idealize.ShloMosaic.Tactic

/-- The blocks that a point reads and writes: a head of the scan's outputs and its gate, a head's lanes of the scale and of the scratch
    array, the row of the modulation, and whole arrays. -/
abbrev headR (h : Fin 8) : Rect S8x512x128 := Rect.unit ![h.val, 0, 0] S1x512x128.size (by intro a; fin_cases a <;> simp <;> omega)
abbrev scaleR (h : Fin 8) : Rect S1x1024 := Rect.unit ![0, 128 * h.val] S1x128.size (by intro a; fin_cases a <;> simp <;> omega)
abbrev lanesR (h : Fin 8) : Rect S512x1024 := Rect.unit ![0, 128 * h.val] S512x128.size (by intro a; fin_cases a <;> simp <;> omega)
abbrev gateR (i : grid0.Coords) : Rect S8x6144 := Rect.unit (k0_off1 i) S1x1024.size (k0_off1_inb i)
abbrev rowsR : Rect S512x1024 := Rect.unit ![0, 0] S512x1024.size inb_S512x1024_S512x1024_0_0
abbrev squareR : Rect S1024x1024 := Rect.unit ![0, 0] S1024x1024.size inb_S1024x1024_S1024x1024_0_0

/-- One head, normalized and gated. -/
theorem head_apply (p q : Vec Ideal S1x512x128 .bf16) (n : Vec Ideal S1x128 .f32) (g : Vec Ideal S1x512x128 .bf16) (r : Fin 512) (d : Fin 128) :
    k0_pay4 p q n g (ix2 r d) = headed (fun j => p (ix3 0 r j)) (fun j => q (ix3 0 r j)) (n (ix2 0 d)) (g (ix3 0 r d)) d := by
  unfold k0_pay4 headed
  pointwise
  done

/-- A block of rows times a matrix. -/
abbrev product (h : FVec Ideal S512x1024 .bf16) (w : FVec Ideal S1024x1024 .bf16) : FVec Ideal S512x1024 .f32 :=
  matmul dot_S512x1024_S1024x1024_S512x1024_1_0_0_1_n_n none h (shapeCast S1024x1024 w shapeCasts_S1024x1024_S1024x1024) (constant S512x1024 .f32 0x00000000#32)

theorem times_apply (h : FVec Ideal S512x1024 .bf16) (w : FVec Ideal S1024x1024 .bf16) (r : Fin 512) (f : Fin 1024) :
    product h w (ix2 r f) = ∑ k, h (ix2 r k) * w (ix2 k f) := by
  pointwise
  done

/-- The sum that goes through the second matrix. -/
def inner (h : Vec Ideal S512x1024 .bf16) (w : Vec Ideal S1024x1024 .bf16) (z s : Vec Ideal S512x1024 .bf16) : FVec Ideal S512x1024 .bf16 :=
  truncf .bf16 (addf (extf .f32 z bitsLt_bf16_f32) (mulf (extf .f32 s bitsLt_bf16_f32)
    (product h w))) bitsLt_bf16_f32

theorem inner_apply (h : Vec Ideal S512x1024 .bf16) (w : Vec Ideal S1024x1024 .bf16) (z s : Vec Ideal S512x1024 .bf16) (r : Fin 512) (f : Fin 1024) :
    inner h w z s (ix2 r f) = mixed (fun k => h (ix2 r k)) (fun k => s (ix2 r k)) (fun k => z (ix2 r k)) (fun k j => w (ix2 k j)) f := by
  have m (u : FVec Ideal S512x1024 .f32) : (truncf .bf16 (addf (extf .f32 z bitsLt_bf16_f32) (mulf (extf .f32 s bitsLt_bf16_f32) u)) bitsLt_bf16_f32 :
      FVec Ideal S512x1024 .bf16) (ix2 r f) = z (ix2 r f) + s (ix2 r f) * u (ix2 r f) := by
    pointwise
  unfold inner mixed
  rw [m, times_apply]

/-- What a point stores, from the rows of heads. -/
theorem stored (x : Vec Ideal S512x1024 .f32) (h : Vec Ideal S512x1024 .bf16) (w : Vec Ideal S1024x1024 .bf16) (z s : Vec Ideal S512x1024 .bf16)
    (w' : Vec Ideal S1024x1024 .bf16) (g : Vec Ideal S1x1024 .f32) (r : Fin 512) (f : Fin 1024) :
    k0_pay20 (k0_pay18 x) (k0_pay19 h w z s w' g) (ix2 r f)
      = merged (fun k => x (ix2 r k)) (fun k => g (ix2 0 k))
          (mixed (fun k => h (ix2 r k)) (fun k => s (ix2 r k)) (fun k => z (ix2 r k)) (fun k j => w (ix2 k j))) (fun j f => w' (ix2 j f)) f := by
  have e : k0_pay20 (k0_pay18 x) (k0_pay19 h w z s w' g) = addf (shapeCast S512x1024 x shapeCasts_S512x1024_S512x1024)
      (mulf (broadcastTo S512x1024 g broadcasts_S1x1024_S512x1024) (product (inner h w z s) w')) := rfl
  have m (u : FVec Ideal S512x1024 .f32) : addf (shapeCast S512x1024 x shapeCasts_S512x1024_S512x1024)
      (mulf (broadcastTo S512x1024 g broadcasts_S1x1024_S512x1024) u) (ix2 r f) = x (ix2 r f) + g (ix2 0 f) * u (ix2 r f) := by
    pointwise
  rw [e, m, times_apply]
  simp only [inner_apply]
  rfl

/-- An index of a head's block of the scratch array, in the whole. -/
theorem lanes_emb (h : Fin 8) (r : Fin 512) (d : Fin 128) : (lanesR h).emb (ix2 r d) = ix2 r ⟨128 * h + d, by omega⟩ := by
  funext a
  apply Fin.ext
  fin_cases a
  · show 0 + 1 * r.val = r.val
    omega
  · show 128 * h.val + 1 * d.val = 128 * h.val + d.val
    omega

/-- Eight heads, stored one after the other beside each other, are rows of heads. -/
theorem canon_lanes (w : Fin 8 → Vec Ideal S512x128 .bf16) (r : Fin 512) (k : Fin 1024) :
    View.canon (Val := Elt Ideal) (s := S512x1024) (e := .bf16) [⟨lanesR 7, w 7⟩, ⟨lanesR 6, w 6⟩, ⟨lanesR 5, w 5⟩, ⟨lanesR 4, w 4⟩, ⟨lanesR 3, w 3⟩,
      ⟨lanesR 2, w 2⟩, ⟨lanesR 1, w 1⟩, ⟨lanesR 0, w 0⟩] (ix2 r k) = w (head k) (ix2 r (lane k)) := by
  have at_lane (h : Fin 8) (d : Fin 128) : head ⟨128 * h + d, by omega⟩ = h ∧ lane ⟨128 * h + d, by omega⟩ = d :=
    ⟨Fin.ext (show (128 * h.val + d.val) / 128 = h.val by omega), Fin.ext (show (128 * h.val + d.val) % 128 = d.val by omega)⟩
  refine ProjPoint.canon_agree (fun y => w (head (y 1)) (ix2 (y 0) (lane (y 1)))) (ix2 r k) _ ?_ ?_
  · have piece (h : Fin 8) (j : S512x128.Idx) : w h j = w (head ((lanesR h).emb j 1)) (ix2 ((lanesR h).emb j 0) (lane ((lanesR h).emb j 1))) := by
      obtain ⟨a, b, rfl⟩ : ∃ a b, j = ix2 a b := ⟨j 0, j 1, by funext a; fin_cases a <;> rfl⟩
      rw [lanes_emb]
      show w h (ix2 a b) = w (head ⟨128 * h + b, by omega⟩) (ix2 a (lane ⟨128 * h + b, by omega⟩))
      rw [(at_lane h b).1, (at_lane h b).2]
    intro p hp
    simp only [List.mem_cons, List.not_mem_nil, or_false] at hp
    rcases hp with rfl | rfl | rfl | rfl | rfl | rfl | rfl | rfl <;> exact piece _
  · have mem : ix2 r k ∈ (lanesR (head k)).set := by
      have e : (lanesR (head k)).emb (ix2 r (lane k)) = ix2 r k :=
        (lanes_emb _ r _).trans (congrArg (ix2 r) (Fin.ext (show 128 * (k.val / 128) + k.val % 128 = k.val by omega)))
      exact e ▸ (lanesR (head k)).idx_mem _
    generalize head k = h at mem
    fin_cases h
    · exact ⟨⟨lanesR 0, w 0⟩, by simp, mem⟩
    · exact ⟨⟨lanesR 1, w 1⟩, by simp, mem⟩
    · exact ⟨⟨lanesR 2, w 2⟩, by simp, mem⟩
    · exact ⟨⟨lanesR 3, w 3⟩, by simp, mem⟩
    · exact ⟨⟨lanesR 4, w 4⟩, by simp, mem⟩
    · exact ⟨⟨lanesR 5, w 5⟩, by simp, mem⟩
    · exact ⟨⟨lanesR 6, w 6⟩, by simp, mem⟩
    · exact ⟨⟨lanesR 7, w 7⟩, by simp, mem⟩

/-- A head of a point's blocks, normalized and gated. -/
abbrev headOf (x0 x1 x2 : Vec Ideal S8x512x128 .bf16) (x7 : Vec Ideal S1x1024 .f32) (h : Fin 8) : FVec Ideal S512x128 .bf16 :=
  k0_pay4 (View.ld (Val := Elt Ideal) (e' := .bf16) x0 (headR h)) (View.ld (Val := Elt Ideal) (e' := .bf16) x1 (headR h))
    (View.ld (Val := Elt Ideal) (e' := .f32) x7 (scaleR h)) (View.ld (Val := Elt Ideal) (e' := .bf16) x2 (headR h))

/-- An index of a head's block, in the whole, and one of its lanes of the scale. -/
theorem head_emb (h : Fin 8) (r : Fin 512) (d : Fin 128) : (headR h).emb (ix3 0 r d) = ix3 h r d := by
  funext a
  apply Fin.ext
  fin_cases a
  · show h.val + 1 * 0 = h.val
    omega
  · show 0 + 1 * r.val = r.val
    omega
  · show 0 + 1 * d.val = d.val
    omega

theorem scale_emb (k : Fin 1024) : (scaleR (head k)).emb (ix2 0 (lane k)) = ix2 0 k := by
  funext a
  apply Fin.ext
  fin_cases a
  · rfl
  · show 128 * (k.val / 128) + 1 * (k.val % 128) = k.val
    omega

theorem headOf_apply (x0 x1 x2 : Vec Ideal S8x512x128 .bf16) (x7 : Vec Ideal S1x1024 .f32) (r : Fin 512) (k : Fin 1024) :
    headOf x0 x1 x2 x7 (head k) (ix2 r (lane k))
      = heads (fun h d => x0 (ix3 h r d)) (fun h d => x1 (ix3 h r d)) (fun h d => x2 (ix3 h r d)) (fun k => x7 (ix2 0 k)) k := by
  refine (head_apply _ _ _ _ r (lane k)).trans ?_
  unfold heads
  congr 1
  · exact funext fun j => congrArg x0 (head_emb _ r j)
  · exact funext fun j => congrArg x1 (head_emb _ r j)
  · exact congrArg x7 (scale_emb k)
  · exact congrArg x2 (head_emb _ r _)

section

variable (c : Dev nD) (i : grid0.Coords) (arg1 : Memref sig .tc .vmem S8x512x128 .bf16) (h1 : arg1.IsWhole) (arg2 : Memref sig .tc .vmem S8x512x128 .bf16) (h2 : arg2.IsWhole)
  (arg3 : Memref sig .tc .vmem S8x512x128 .bf16) (h3 : arg3.IsWhole) (arg4 : Memref sig .tc .vmem S512x1024 .bf16) (h4 : arg4.IsWhole)
  (arg5 : Memref sig .tc .vmem S512x1024 .bf16) (h5 : arg5.IsWhole) (arg6 : Memref sig .tc .vmem S512x1024 .f32) (h6 : arg6.IsWhole)
  (arg7 : Memref sig .tc .vmem S8x6144 .f32) (h7 : arg7.IsWhole) (arg8 : Memref sig .tc .vmem S1x1024 .f32) (h8 : arg8.IsWhole)
  (arg9 : Memref sig .tc .vmem S1x1024 .f32) (h9 : arg9.IsWhole) (arg10 : Memref sig .tc .vmem S1024x1024 .bf16) (h10 : arg10.IsWhole)
  (arg11 : Memref sig .tc .vmem S1024x1024 .bf16) (h11 : arg11.IsWhole) (arg12 : Memref sig .tc .vmem S16x1024 .f32) (h12 : arg12.IsWhole)
  (arg13 : Memref sig .tc .vmem S512x1024 .f32) (h13 : arg13.IsWhole) (arg14 : Memref sig .tc .vmem S512x2x512 .bf16) (h14 : arg14.IsWhole)
  (arg15 : Memref sig .tc .vmem S16x512 .f32) (h15 : arg15.IsWhole) (arg16 : Memref sig .tc .vmem S512x1024 .bf16) (h16 : arg16.IsWhole)
  (x0 x1 x2 : Vec Ideal S8x512x128 .bf16) (x3 x4 : Vec Ideal S512x1024 .bf16) (x5 : Vec Ideal S512x1024 .f32) (x6 : Vec Ideal S8x6144 .f32)
  (x7 x8 : Vec Ideal S1x1024 .f32) (x9 x10 : Vec Ideal S1024x1024 .bf16) (x11 : Vec Ideal S16x1024 .f32)

/-- A head as the point loads it, through its buffers. -/
abbrev headL (h : Fin 8) : FVec Ideal S512x128 .bf16 :=
  k0_pay4 (View.readAt (Elt Ideal) arg1.view (headR h).toLoadRect (h1.unread x0)) (View.readAt (Elt Ideal) arg2.view (headR h).toLoadRect (h2.unread x1))
    (View.readAt (Elt Ideal) arg8.view (scaleR h).toLoadRect (h8.unread x7)) (View.readAt (Elt Ideal) arg3.view (headR h).toLoadRect (h3.unread x2))

theorem headL_eq (h : Fin 8) : headL arg1 h1 arg2 h2 arg3 h3 arg8 h8 x0 x1 x2 x7 h = headOf x0 x1 x2 x7 h := by
  unfold headL headOf
  rw [View.readAt_eq_ld, View.readAt_eq_ld, View.readAt_eq_ld, View.readAt_eq_ld, h1.read_unread, h2.read_unread, h3.read_unread, h8.read_unread]

/-- What a point leaves. -/
theorem point (r : Fin 512) (f : Fin 1024) : out0_A_12 c i arg1 h1 arg2 h2 arg3 h3 arg4 h4 arg5 h5 arg6 h6 arg7 h7 arg8 h8 arg9 h9 arg10 h10 arg11 h11 arg12 h12 arg13 h13 arg14 h14 arg15 h15 arg16 h16 x0 x1 x2 x3 x4 x5 x6 x7 x8 x9 x10 x11 (ix2 r f)
    = merged (fun k => x5 (ix2 r k)) (fun k => View.ld (Val := Elt Ideal) (e' := .f32) x6 (gateR i) (ix2 0 k))
        (mixed (heads (fun h d => x0 (ix3 h r d)) (fun h d => x1 (ix3 h r d)) (fun h d => x2 (ix3 h r d)) (fun k => x7 (ix2 0 k)))
          (fun k => x3 (ix2 r k)) (fun k => x4 (ix2 r k)) (fun k j => x9 (ix2 k j))) (fun j f => x10 (ix2 j f)) f := by
  unfold out0_A_12
  have e : (kernelRun0_A c i arg1 h1 arg2 h2 arg3 h3 arg4 h4 arg5 h5 arg6 h6 arg7 h7 arg8 h8 arg9 h9 arg10 h10 arg11 h11 arg12 h12 arg13 h13 arg14 h14 arg15 h15 arg16 h16 x0 x1 x2 x3 x4 x5 x6 x7 x8 x9 x10 x11).1
      = [⟨rowsR, k0_pay20 (k0_pay18 (View.readAt (Elt Ideal) arg6.view rowsR.toLoadRect (h6.unread x5)))
          (k0_pay19 (arg16.view.readCov [⟨lanesR 7, headL arg1 h1 arg2 h2 arg3 h3 arg8 h8 x0 x1 x2 x7 7⟩, ⟨lanesR 6, headL arg1 h1 arg2 h2 arg3 h3 arg8 h8 x0 x1 x2 x7 6⟩,
              ⟨lanesR 5, headL arg1 h1 arg2 h2 arg3 h3 arg8 h8 x0 x1 x2 x7 5⟩, ⟨lanesR 4, headL arg1 h1 arg2 h2 arg3 h3 arg8 h8 x0 x1 x2 x7 4⟩,
              ⟨lanesR 3, headL arg1 h1 arg2 h2 arg3 h3 arg8 h8 x0 x1 x2 x7 3⟩, ⟨lanesR 2, headL arg1 h1 arg2 h2 arg3 h3 arg8 h8 x0 x1 x2 x7 2⟩,
              ⟨lanesR 1, headL arg1 h1 arg2 h2 arg3 h3 arg8 h8 x0 x1 x2 x7 1⟩, ⟨lanesR 0, headL arg1 h1 arg2 h2 arg3 h3 arg8 h8 x0 x1 x2 x7 0⟩] rowsR.toLoadRect)
            (View.readAt (Elt Ideal) arg10.view squareR.toLoadRect (h10.unread x9)) (View.readAt (Elt Ideal) arg5.view rowsR.toLoadRect (h5.unread x4))
            (View.readAt (Elt Ideal) arg4.view rowsR.toLoadRect (h4.unread x3)) (View.readAt (Elt Ideal) arg11.view squareR.toLoadRect (h11.unread x10))
            (View.readAt (Elt Ideal) arg7.view (gateR i).toLoadRect (h7.unread x6)))⟩] := by
    sl_kernel_rfl
  rw [e, View.read_writes_full]
  simp only [View.readAt_full, Memref.IsWhole.read_unread]
  rw [View.readAt_eq_ld, h7.read_unread]
  refine (stored _ _ _ _ _ _ _ r f).trans ?_
  refine congrArg (fun u => merged _ _ (mixed u _ _ _) _ f) (funext fun k => ?_)
  rw [View.readCov_eq_canon']
  have full : rowsR.toLoadRect.idx (ix2 r k) = ix2 r k := by
    funext a
    apply Fin.ext
    fin_cases a
    · show 0 + 1 * r.val = r.val
      omega
    · show 0 + 1 * k.val = k.val
      omega
  refine (congrArg _ full).trans ?_
  refine (canon_lanes (headL arg1 h1 arg2 h2 arg3 h3 arg8 h8 x0 x1 x2 x7) r k).trans ?_
  rw [headL_eq]
  exact headOf_apply x0 x1 x2 x7 r k

end

end Cert.MergePoint

end
-- ==== Proof.MergeEqual.lean ====
/- THE MERGE AND OUTPUT PROJECTIONS OF THE LATENT TOKENS.  Grid point `t` works on the 512 tokens from `512 t`, which belong to request
   `t / 8`; a token has the modulation's row of its request.
   The kernel and its reference leave the array whose rows are `merged`. -/
module

public import proofs.«01_k».proof.Defs
public import proofs.«01_k».proof.Proof.FinalSpec
public import proofs.«01_k».proof.Proof.MergePoint
public import proofs.«01_k».proof.Proof.Gen.MergeIdeal.Run
public import Idealize.ShloMosaic.Lib.Quiescent
public import Idealize.ShloMosaic.Lib.Claim
public import Idealize.ShloMosaic.Lib.StackMember
public import Idealize.ShloMosaic.Lib.Bf16Pair
public import Idealize.ShloMosaic.Lib.Bf16PairInverse
public import Idealize.ShloMosaic.Lib.Tactic.CleanTypes

@[expose] public section

set_option maxRecDepth 16384

noncomputable section

namespace Cert.MergeEqual

open Cert.MergeSpec Cert.FinalSpec Idealize.ShloMosaic Idealize.ShloMosaic.TcCoe Idealize.ShloMosaic.Tactic Idealize.SL.Sem

/-- The reference runs, leaves its arguments alone and declares no semaphore. -/
theorem frame_reference : quiescent_MergeIdeal := fun m g _ =>
  (θ_run MergeIdeal.defs _ _).mono (fun r h => ⟨fun c => (h c).2, sem_eq_zero_of_no_sems rfl r.2⟩) (MergeIdeal.Value.run m g)

/-- A token's row of heads, and its row of the result, from the arrays given. -/
def headRow (p q g : Shape.Idx ⟨3, ![8, 16384, 128]⟩ → EReal) (n : Shape.Idx ⟨2, ![1, 1024]⟩ → EReal) (i : Fin 16384) : Fin 1024 → EReal :=
  heads (fun h d => p (ix3 h i d)) (fun h d => q (ix3 h i d)) (fun h d => g (ix3 h i d)) (fun k => n (ix2 0 k))

def row (p q g : Shape.Idx ⟨3, ![8, 16384, 128]⟩ → EReal) (s z : Shape.Idx ⟨2, ![16384, 1024]⟩ → EReal) (x : Shape.Idx ⟨3, ![4, 4096, 1024]⟩ → EReal)
    (mod : Shape.Idx ⟨2, ![8, 6144]⟩ → EReal) (n : Shape.Idx ⟨2, ![1, 1024]⟩ → EReal) (w w' : Shape.Idx ⟨3, ![1, 1024, 1024]⟩ → EReal) (i : Fin 16384) :
    Fin 1024 → EReal :=
  merged (fun k => x (ix3 ⟨i / 4096, by omega⟩ ⟨i % 4096, by omega⟩ k)) (fun k => mod (ix2 ⟨i / 4096, by omega⟩ ⟨2048 + k, by omega⟩))
    (mixed (headRow p q g n i) (fun k => s (ix2 i k)) (fun k => z (ix2 i k)) (fun k j => w (ix3 0 k j))) (fun j f => w' (ix3 0 j f))

section Kernel

open PostIdeal PostIdeal.Gen

/-- The index maps: the heads and the tokens by point, the other arrays whole. -/
theorem index_heads (t : Fin cfg0.N) : (win0_0.index t 0 = 0 ∧ win0_0.index t 1 = t.val ∧ win0_0.index t 2 = 0)
    ∧ (win0_1.index t 0 = 0 ∧ win0_1.index t 1 = t.val ∧ win0_1.index t 2 = 0) ∧ (win0_2.index t 0 = 0 ∧ win0_2.index t 1 = t.val ∧ win0_2.index t 2 = 0) := by
  revert t
  exact (by decide +kernel : ∀ t : Fin grid0.N, (win0_0.index t 0 = 0 ∧ win0_0.index t 1 = t.val ∧ win0_0.index t 2 = 0)
    ∧ (win0_1.index t 0 = 0 ∧ win0_1.index t 1 = t.val ∧ win0_1.index t 2 = 0) ∧ (win0_2.index t 0 = 0 ∧ win0_2.index t 1 = t.val ∧ win0_2.index t 2 = 0))

theorem index_rows (t : Fin cfg0.N) : (win0_3.index t 0 = t.val ∧ win0_3.index t 1 = 0) ∧ (win0_4.index t 0 = t.val ∧ win0_4.index t 1 = 0)
    ∧ (win0_5.index t 0 = t.val ∧ win0_5.index t 1 = 0) ∧ (win0_12.index t 0 = t.val ∧ win0_12.index t 1 = 0) := by
  revert t
  exact (by decide +kernel : ∀ t : Fin grid0.N, (win0_3.index t 0 = t.val ∧ win0_3.index t 1 = 0) ∧ (win0_4.index t 0 = t.val ∧ win0_4.index t 1 = 0)
    ∧ (win0_5.index t 0 = t.val ∧ win0_5.index t 1 = 0) ∧ (win0_12.index t 0 = t.val ∧ win0_12.index t 1 = 0))

theorem index_whole (t : Fin cfg0.N) : ∀ b : Fin 2, win0_6.index t b = 0 ∧ win0_7.index t b = 0 ∧ win0_9.index t b = 0 ∧ win0_10.index t b = 0 := by
  revert t
  exact (by decide +kernel : ∀ t : Fin grid0.N, ∀ b : Fin 2, win0_6.index t b = 0 ∧ win0_7.index t b = 0 ∧ win0_9.index t b = 0 ∧ win0_10.index t b = 0)

/-- The modulation's row of a point, and where its gate lies. -/
theorem offset (t : Fin cfg0.N) : k0_off1 (grid0.coords t) 0 = t.val / 8 ∧ k0_off1 (grid0.coords t) 1 = 2048 := by
  revert t
  exact (by decide +kernel : ∀ t : Fin grid0.N, k0_off1 (grid0.coords t) 0 = t.val / 8 ∧ k0_off1 (grid0.coords t) 1 = 2048)

/-- An index of block `t` of the heads, in the array of all tokens. -/
theorem emb_heads (t : ℕ) (h : Fin 8) (r : Fin 512) (d : Fin 128) (ht : 512 * t + r.val < 16384) (o : Fin 3 → ℕ) (ho : o 0 = 0 ∧ o 1 = t ∧ o 2 = 0)
    (e : Shape.Idx ⟨3, ![8, 16384, 128]⟩) (he : ∀ x, (e x : ℕ) = o x * (⟨3, ![8, 512, 128]⟩ : Shape).size x + (ix3 h r d x : ℕ)) :
    e = ix3 h ⟨512 * t + r, ht⟩ d := by
  obtain ⟨h0, h1, h2⟩ := ho
  funext x
  apply Fin.ext
  refine (he x).trans ?_
  fin_cases x
  · show o 0 * 8 + (h : ℕ) = h
    rw [h0]; omega
  · show o 1 * 512 + (r : ℕ) = 512 * t + r
    rw [h1]; omega
  · show o 2 * 128 + (d : ℕ) = d
    rw [h2]; omega

variable (m : (ℓ : Loc nD τ sig) → Buf (Elt Ideal) ℓ) (c : Dev nD) (t : Fin cfg0.N)

/-- The host flattens the tokens, and drops an axis of the two matrices and rounds them. -/
theorem host_x (i : Fin 16384) (k : Fin 1024) :
    V m c main_v0 (ix2 i k) = m ((c.tc : Thread nD τ).loc main_arg5) (ix3 ⟨i / 4096, by omega⟩ ⟨i % 4096, by omega⟩ k) := by
  entry_read
  clean_types
  pointwise
  done

theorem host_branch (k j : Fin 1024) : V m c main_v2 (ix2 k j) = m ((c.tc : Thread nD τ).loc main_arg9) (ix3 0 k j) := by
  entry_read
  clean_types
  pointwise
  done

theorem host_out (k j : Fin 1024) : V m c main_v4 (ix2 k j) = m ((c.tc : Thread nD τ).loc main_arg10) (ix3 0 k j) := by
  entry_read
  clean_types
  pointwise
  done

/-- Token `r` of a point. -/
theorem token_lt (r : Fin 512) : 512 * t.val + r.val < 16384 := by have := lt_of_lt_of_eq t.isLt N_0; omega

/-- A point's blocks. -/
theorem forward_block (h : Fin 8) (r : Fin 512) (d : Fin 128) :
    iblk m c 0 t (ix3 h r d) = m ((c.tc : Thread nD τ).loc main_arg0) (ix3 h ⟨512 * t.val + r, token_lt t r⟩ d) :=
  ((View.read_apply _ _).trans (cast_eq _ _)).trans (congrArg (V m c main_arg0)
    (emb_heads t.val h r d (token_lt t r) (win0_0.index t) (index_heads t).1 _ fun a => win0_0.rect_emb_val t (ix3 h r d) a))

theorem backward_block (h : Fin 8) (r : Fin 512) (d : Fin 128) :
    iblk m c 1 t (ix3 h r d) = m ((c.tc : Thread nD τ).loc main_arg1) (ix3 h ⟨512 * t.val + r, token_lt t r⟩ d) :=
  ((View.read_apply _ _).trans (cast_eq _ _)).trans (congrArg (V m c main_arg1)
    (emb_heads t.val h r d (token_lt t r) (win0_1.index t) (index_heads t).2.1 _ fun a => win0_1.rect_emb_val t (ix3 h r d) a))

theorem gate_block (h : Fin 8) (r : Fin 512) (d : Fin 128) :
    iblk m c 2 t (ix3 h r d) = m ((c.tc : Thread nD τ).loc main_arg2) (ix3 h ⟨512 * t.val + r, token_lt t r⟩ d) :=
  ((View.read_apply _ _).trans (cast_eq _ _)).trans (congrArg (V m c main_arg2)
    (emb_heads t.val h r d (token_lt t r) (win0_2.index t) (index_heads t).2.2 _ fun a => win0_2.rect_emb_val t (ix3 h r d) a))

theorem sigmoid_block (r : Fin 512) (k : Fin 1024) :
    iblk m c 3 t (ix2 r k) = m ((c.tc : Thread nD τ).loc main_arg3) (ix2 ⟨512 * t.val + r, token_lt t r⟩ k) :=
  ((View.read_apply _ _).trans (cast_eq _ _)).trans (congrArg (V m c main_arg3)
    (emb_rows t.val r k (token_lt t r) (win0_3.index t) (index_rows t).1 _ fun a => win0_3.rect_emb_val t (ix2 r k) a))

theorem conv_block (r : Fin 512) (k : Fin 1024) :
    iblk m c 4 t (ix2 r k) = m ((c.tc : Thread nD τ).loc main_arg4) (ix2 ⟨512 * t.val + r, token_lt t r⟩ k) :=
  ((View.read_apply _ _).trans (cast_eq _ _)).trans (congrArg (V m c main_arg4)
    (emb_rows t.val r k (token_lt t r) (win0_4.index t) (index_rows t).2.1 _ fun a => win0_4.rect_emb_val t (ix2 r k) a))

theorem x_block (r : Fin 512) (k : Fin 1024) : iblk m c 5 t (ix2 r k) = V m c main_v0 (ix2 ⟨512 * t.val + r, token_lt t r⟩ k) :=
  ((View.read_apply _ _).trans (cast_eq _ _)).trans (congrArg (V m c main_v0)
    (emb_rows t.val r k (token_lt t r) (win0_5.index t) (index_rows t).2.2.1 _ fun a => win0_5.rect_emb_val t (ix2 r k) a))

theorem mod_block (a : Fin 8) (b : Fin 6144) : iblk m c 6 t (ix2 a b) = m ((c.tc : Thread nD τ).loc main_arg6) (ix2 a b) :=
  ((View.read_apply _ _).trans (cast_eq _ _)).trans (congrArg (V m c main_arg6)
    (emb_whole (n := 8) (l := 6144) a b (win0_6.index t) (fun b => (index_whole t b).1) _ fun x => win0_6.rect_emb_val t (ix2 a b) x))

theorem scale_block (k : Fin 1024) : iblk m c 7 t (ix2 0 k) = m ((c.tc : Thread nD τ).loc main_arg7) (ix2 0 k) :=
  ((View.read_apply _ _).trans (cast_eq _ _)).trans (congrArg (V m c main_arg7)
    (emb_whole (n := 1) (l := 1024) 0 k (win0_7.index t) (fun b => (index_whole t b).2.1) _ fun x => win0_7.rect_emb_val t (ix2 0 k) x))

theorem branch_block (k j : Fin 1024) : iblk m c 9 t (ix2 k j) = V m c main_v2 (ix2 k j) :=
  ((View.read_apply _ _).trans (cast_eq _ _)).trans (congrArg (V m c main_v2)
    (emb_whole (n := 1024) (l := 1024) k j (win0_9.index t) (fun b => (index_whole t b).2.2.1) _ fun x => win0_9.rect_emb_val t (ix2 k j) x))

theorem out_block (k j : Fin 1024) : iblk m c 10 t (ix2 k j) = V m c main_v4 (ix2 k j) :=
  ((View.read_apply _ _).trans (cast_eq _ _)).trans (congrArg (V m c main_v4)
    (emb_whole (n := 1024) (l := 1024) k j (win0_10.index t) (fun b => (index_whole t b).2.2.2) _ fun x => win0_10.rect_emb_val t (ix2 k j) x))

/-- The gate: the request's row of the modulation, from column 2048. -/
theorem gate_row (r : Fin 512) (k : Fin 1024) : View.ld (Val := Elt Ideal) (e' := .f32) (iblk m c 6 t) (MergePoint.gateR (grid0.coords t)) (ix2 0 k)
    = m ((c.tc : Thread nD τ).loc main_arg6) (ix2 ⟨(512 * t.val + r) / 4096, by have := token_lt t r; omega⟩ ⟨2048 + k, by omega⟩) := by
  refine (congrArg (iblk m c 6 t) ?_).trans (mod_block m c t _ _)
  obtain ⟨h0, h1⟩ := offset t
  funext a
  apply Fin.ext
  fin_cases a
  · show k0_off1 (grid0.coords t) 0 + 1 * 0 = (512 * t.val + r) / 4096
    omega
  · show k0_off1 (grid0.coords t) 1 + 1 * k.val = 2048 + k
    omega

/-- A token's row of the result, from the arrays in memory. -/
abbrev rowAt (i : Fin 16384) : Fin 1024 → EReal :=
  row (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg9))
    (m ((c.tc : Thread nD τ).loc main_arg10)) i

/-- What a point leaves. -/
theorem out_entry (r : Fin 512) (k : Fin 1024) : (outsAt0 m c t).1 (ix2 r k) = rowAt m c ⟨512 * t.val + r, token_lt t r⟩ k := by
  unfold outsAt0
  dsimp only
  rw [MergePoint.point]
  unfold rowAt row headRow
  congr 1
  · exact funext fun k => (x_block m c t r k).trans (host_x m c _ k)
  · exact funext fun k => gate_row m c t r k
  · congr 1
    · congr 1
      · exact funext fun h => funext fun d => forward_block m c t h r d
      · exact funext fun h => funext fun d => backward_block m c t h r d
      · exact funext fun h => funext fun d => gate_block m c t h r d
      · exact funext fun k => scale_block m c t k
    · exact funext fun k => sigmoid_block m c t r k
    · exact funext fun k => conv_block m c t r k
    · exact funext fun k => funext fun j => (branch_block m c t k j).trans (host_branch m c k j)
  · exact funext fun k => funext fun j => (out_block m c t k j).trans (host_out m c k j)

/-- The array after the launch, token by token. -/
theorem final (r : Fin 512) (k : Fin 1024) :
    (dats m 0 c).arrAt 12 cfg0.N (ix2 ⟨512 * t.val + r, token_lt t r⟩ k) = rowAt m c ⟨512 * t.val + r, token_lt t r⟩ k := by
  have E := (dats m 0 c).arrAt_emb_eq_flushed 12 (Value.disjoint12) t (flush0_12 t) (ix2 r k)
  have hi : ((cfg0.win 12).blk t).view.emb (ix2 r k) = ix2 ⟨512 * t.val + r, token_lt t r⟩ k :=
    emb_rows t.val r k (token_lt t r) (win0_12.index t) (index_rows t).2.2.2 _ fun x => win0_12.rect_emb_val t (ix2 r k) x
  rw [hi] at E
  refine E.trans ((cast_eq _ _).trans ?_)
  rw [Value.flushed12]
  refine Eq.trans ?_ (out_entry m c t r k)
  generalize outsAt0 m c t = Y
  rfl

end Kernel

section Reference

open MergeIdeal MergeIdeal.Gen

/-- The reference's heads of all tokens, the two directions added, -/
def sums (p q : FVec Ideal S8x16384x128 .bf16) : FVec Ideal S16384x8x128 .f32 :=
  addf (transpose S16384x8x128 [1, 0, 2] (extf .f32 p bitsLt_bf16_f32) transposes_S8x16384x128_S16384x8x128_1_0_2)
    (transpose S16384x8x128 [1, 0, 2] (extf .f32 q bitsLt_bf16_f32) transposes_S8x16384x128_S16384x8x128_1_0_2)

theorem sums_apply (p q : FVec Ideal S8x16384x128 .bf16) (i : Fin 16384) (h : Fin 8) (d : Fin 128) :
    sums p q (ix3 i h d) = p (ix3 h i d) + q (ix3 h i d) := by
  unfold sums
  pointwise
  done

/-- normalized, -/
def normedHeads (u : FVec Ideal S16384x8x128 .f32) : FVec Ideal S16384x1024 .f32 :=
  shapeCast _ (mulf u (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf u u) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x358637BD#32)))))) shapeCasts_S16384x8x128_S16384x1024

theorem normedHeads_apply (u : FVec Ideal S16384x8x128 .f32) (i : Fin 16384) (k : Fin 1024) :
    normedHeads u (ix2 i k) = u (ix3 i (head k) (lane k))
      * Ideal.rsqrt (Ideal.div (∑ j, u (ix3 i (head k) j) * u (ix3 i (head k) j)) (Ideal.ofBits .f32 0x43000000#32) + Ideal.ofBits .f32 0x358637BD#32) := by
  unfold normedHeads head lane
  pointwise
  done

/-- scaled and gated, -/
def gatedHeads (v : FVec Ideal S16384x1024 .f32) (n : FVec Ideal S1x1024 .f32) (g : FVec Ideal S8x16384x128 .bf16) : FVec Ideal S16384x1024 .f32 :=
  mulf (mulf v (broadcastInDim S16384x1024 ![0, 1] bcast_S1x1024_S16384x1024_0_1 (broadcastInDim S1x1024 ![1] bcast_S1024_S1x1024_1 (shapeCast _ n shapeCasts_S1x1024_S1024)))) (shapeCast _ (transpose S16384x8x128 [1, 0, 2] (extf .f32 g bitsLt_bf16_f32) transposes_S8x16384x128_S16384x8x128_1_0_2) shapeCasts_S16384x8x128_S16384x1024)

theorem gatedHeads_apply (v : FVec Ideal S16384x1024 .f32) (n : FVec Ideal S1x1024 .f32) (g : FVec Ideal S8x16384x128 .bf16) (i : Fin 16384) (k : Fin 1024) :
    gatedHeads v n g (ix2 i k) = v (ix2 i k) * n (ix2 0 k) * g (ix3 (head k) i (lane k)) := by
  unfold gatedHeads head lane
  pointwise
  done

theorem heads_apply (p q g : FVec Ideal S8x16384x128 .bf16) (n : FVec Ideal S1x1024 .f32) (i : Fin 16384) (k : Fin 1024) :
    gatedHeads (normedHeads (sums p q)) n g (ix2 i k) = headRow p q g n i k := by
  rw [gatedHeads_apply, normedHeads_apply]
  simp only [sums_apply]
  rfl

/-- Rows times a matrix. -/
def times (A : FVec Ideal S16384x1024 .f32) (M : FVec Ideal S1x1024x1024 .f32) : FVec Ideal S16384x1024 .f32 :=
  Host.dotGeneral dot_S16384x1024_S1024x1024_S16384x1024_1_0_0_1_n_n none A (shapeCast _ M shapeCasts_S1x1024x1024_S1024x1024)

theorem times_apply (A : FVec Ideal S16384x1024 .f32) (M : FVec Ideal S1x1024x1024 .f32) (i : Fin 16384) (f : Fin 1024) :
    times A M (ix2 i f) = ∑ k, A (ix2 i k) * M (ix3 0 k f) := by
  have r (k : Fin 1024) : (shapeCast S1024x1024 M shapeCasts_S1x1024x1024_S1024x1024) (ix2 k f) = M (ix3 0 k f) := by
    pointwise
  unfold times
  revert r
  generalize (shapeCast S1024x1024 M shapeCasts_S1x1024x1024_S1024x1024) = N
  intro r
  refine (StackMember.dotGeneral_plain_apply none A N i f).trans ?_
  exact Finset.sum_congr rfl fun k _ => congrArg (A (ix2 i k) * ·) (r k)

/-- the convolution's branch and what the first matrix leaves, gated, -/
def mixedRows (s z : FVec Ideal S16384x1024 .bf16) (y : FVec Ideal S16384x1024 .f32) : FVec Ideal S16384x1024 .f32 :=
  addf (extf .f32 z bitsLt_bf16_f32) (mulf (extf .f32 s bitsLt_bf16_f32) y)

theorem mixedRows_apply (s z : FVec Ideal S16384x1024 .bf16) (y : FVec Ideal S16384x1024 .f32) (i : Fin 16384) (k : Fin 1024) :
    mixedRows s z y (ix2 i k) = z (ix2 i k) + s (ix2 i k) * y (ix2 i k) := by
  unfold mixedRows
  pointwise
  done

/-- and the tokens with what the second leaves, gated. -/
def mergedRows (x : FVec Ideal S4x4096x1024 .f32) (md : FVec Ideal S8x6144 .f32) (y : FVec Ideal S16384x1024 .f32) : FVec Ideal S16384x1024 .f32 :=
  shapeCast _ (addf x (mulf (broadcastInDim S4x4096x1024 ![0, 1, 2] bcast_S4x1x1024_S4x4096x1024_0_1_2 (broadcastInDim S4x1x1024 ![0, 2] bcast_S4x1024_S4x1x1024_0_2 (extractStridedSlice S4x1024 ![0, 2048] md slices_S8x6144_S4x1024_0_2048))) (shapeCast _ y shapeCasts_S16384x1024_S4x4096x1024))) shapeCasts_S4x4096x1024_S16384x1024

theorem mergedRows_apply (x : FVec Ideal S4x4096x1024 .f32) (md : FVec Ideal S8x6144 .f32) (y : FVec Ideal S16384x1024 .f32) (i : Fin 16384) (k : Fin 1024) :
    mergedRows x md y (ix2 i k) = x (ix3 ⟨i / 4096, by omega⟩ ⟨i % 4096, by omega⟩ k)
      + md (ix2 ⟨i / 4096, by omega⟩ ⟨2048 + k, by omega⟩) * y (ix2 i k) := by
  unfold mergedRows
  pointwise
  done

/-- The whole reference. -/
def result (p q g : FVec Ideal S8x16384x128 .bf16) (s z : FVec Ideal S16384x1024 .bf16) (x : FVec Ideal S4x4096x1024 .f32) (md : FVec Ideal S8x6144 .f32)
    (n : FVec Ideal S1x1024 .f32) (w w' : FVec Ideal S1x1024x1024 .f32) : FVec Ideal S16384x1024 .f32 :=
  mergedRows x md (times (mixedRows s z (times (gatedHeads (normedHeads (sums p q)) n g) w)) w')

theorem result_apply (p q g : FVec Ideal S8x16384x128 .bf16) (s z : FVec Ideal S16384x1024 .bf16) (x : FVec Ideal S4x4096x1024 .f32)
    (md : FVec Ideal S8x6144 .f32) (n : FVec Ideal S1x1024 .f32) (w w' : FVec Ideal S1x1024x1024 .f32) (i : Fin 16384) (k : Fin 1024) :
    result p q g s z x md n w w' (ix2 i k) = row p q g s z x md n w w' i k := by
  unfold result
  rw [mergedRows_apply, times_apply]
  simp only [mixedRows_apply, times_apply, heads_apply]
  rfl

end Reference

/-- The kernel and the reference compute the same array. -/
theorem algebraic : algebraic_PostIdeal_MergeIdeal := by
  intro m g m' g' _ hargs
  refine ⟨fun c => (PostIdeal.Gen.dats m 0 c).arrAt 12 PostIdeal.cfg0.N,
    (θ_run PostIdeal.defs _ _).mono (fun r h c => ⟨(h c).1, (h c).2.2.2⟩) (PostIdeal.Value.run_blocks m g), ?_⟩
  refine (θ_run MergeIdeal.defs _ _).mono (fun r h c => ?_) (MergeIdeal.Value.run m' g')
  obtain ⟨h0, ha⟩ := h c
  obtain ⟨e0, e1, e2, e3, e4, e5, e6, e7, _, e9, e10, _⟩ := hargs c
  refine ⟨h0.trans ?_, ha⟩
  refine Eq.trans (b := result (m' ((c.tc : Thread MergeIdeal.nD MergeIdeal.τ).loc MergeIdeal.main_arg0)) (m' ((c.tc : Thread MergeIdeal.nD MergeIdeal.τ).loc MergeIdeal.main_arg1))
    (m' ((c.tc : Thread MergeIdeal.nD MergeIdeal.τ).loc MergeIdeal.main_arg2)) (m' ((c.tc : Thread MergeIdeal.nD MergeIdeal.τ).loc MergeIdeal.main_arg3))
    (m' ((c.tc : Thread MergeIdeal.nD MergeIdeal.τ).loc MergeIdeal.main_arg4)) (m' ((c.tc : Thread MergeIdeal.nD MergeIdeal.τ).loc MergeIdeal.main_arg5))
    (m' ((c.tc : Thread MergeIdeal.nD MergeIdeal.τ).loc MergeIdeal.main_arg6)) (m' ((c.tc : Thread MergeIdeal.nD MergeIdeal.τ).loc MergeIdeal.main_arg7))
    (m' ((c.tc : Thread MergeIdeal.nD MergeIdeal.τ).loc MergeIdeal.main_arg9)) (m' ((c.tc : Thread MergeIdeal.nD MergeIdeal.τ).loc MergeIdeal.main_arg10))) rfl ?_
  rw [e0, e1, e2, e3, e4, e5, e6, e7, e9, e10]
  exact rows_ext (congrArg (512 * ·) PostIdeal.Gen.N_0).symm fun t r f => (result_apply _ _ _ _ _ _ _ _ _ _ _ f).trans (final m c t r f).symm

/-- The kernel at bits: the packed pairs that it also stores are pairs of bf16 numbers. -/
theorem preserves : preserves_Post_PostIdeal :=
  ⟨IdealRules.bf16_pair.bufferStatement _ _, IdealRules.bf16_pair.bufferStatement _ _, IdealRules.bf16_pair.statement _ _, IdealRules.bf16_pack.statement _⟩

end Cert.MergeEqual

end
-- ==== Proof.lean ====
/- The certificate's claim, from the frames that the programs' runs give, and the equality of the results (`Equal.lean`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.ExpertsIdeal
public import proofs.«01_k».proof.Proof.Gen.ExpertsIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjectionsIdeal
public import proofs.«01_k».proof.Proof.Gen.ProjectionsIdeal.Run
public import proofs.«01_k».proof.Proof.Gen.Pre_finite_bounds
public import proofs.«01_k».proof.Proof.Gen.FinalPrompt
public import proofs.«01_k».proof.Proof.Gen.FinalPrompt.Skeleton
public import proofs.«01_k».proof.Proof.Gen.FinalPrompt.Launch
public import proofs.«01_k».proof.Proof.Gen.FinalPrompt.Points
public import proofs.«01_k».proof.Proof.Gen.FinalPrompt.Frame
public import proofs.«01_k».proof.Proof.Gen.FinalPromptIdeal
public import proofs.«01_k».proof.Proof.Gen.FinalPromptIdeal.Skeleton
public import proofs.«01_k».proof.Proof.Gen.FinalPromptIdeal.Launch
public import proofs.«01_k».proof.Proof.Gen.FinalPromptIdeal.Points
public import proofs.«01_k».proof.Proof.Gen.FinalPromptIdeal.Frame
public import proofs.«01_k».proof.Proof.Gen.FinalPromptIdeal.Value
public import proofs.«01_k».proof.Proof.Gen.ResultPromptIdeal
public import proofs.«01_k».proof.Proof.Gen.ResultPromptIdeal.Run
public import proofs.«01_k».proof.Proof.Gen.FinalSample
public import proofs.«01_k».proof.Proof.Gen.FinalSample.Skeleton
public import proofs.«01_k».proof.Proof.Gen.FinalSample.Launch
public import proofs.«01_k».proof.Proof.Gen.FinalSample.Points
public import proofs.«01_k».proof.Proof.Gen.FinalSample.Frame
public import proofs.«01_k».proof.Proof.Gen.FinalSampleIdeal
public import proofs.«01_k».proof.Proof.Gen.FinalSampleIdeal.Skeleton
public import proofs.«01_k».proof.Proof.Gen.FinalSampleIdeal.Launch
public import proofs.«01_k».proof.Proof.Gen.FinalSampleIdeal.Points
public import proofs.«01_k».proof.Proof.Gen.FinalSampleIdeal.Frame
public import proofs.«01_k».proof.Proof.Gen.FinalSampleIdeal.Value
public import proofs.«01_k».proof.Proof.Gen.ResultSampleIdeal
public import proofs.«01_k».proof.Proof.Gen.ResultSampleIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.MergeIdeal
public import proofs.«01_k».proof.Proof.Gen.MergeIdeal.Run
public import proofs.«01_k».proof.Proof.Equal
public import proofs.«01_k».proof.Proof.FfnEqual
public import proofs.«01_k».proof.Proof.ProjEqual
public import proofs.«01_k».proof.Proof.FinalPromptEqual
public import proofs.«01_k».proof.Proof.FinalSampleEqual
public import proofs.«01_k».proof.Proof.MergeEqual
public import Idealize.ShloMosaic.Adequacy
public import Idealize.ShloMosaic.Init

@[expose] public section

noncomputable section

namespace Cert.Proof

open Idealize.ShloMosaic Idealize.SL.Sem Cert.Kernel

/-- The programs run and leave their arguments alone; each kernel and its reference compute the same results. -/
theorem claim : Cert.Claim := ⟨Cert.Kernel.Gen.facts, Cert.KernelIdeal.Gen.facts, Cert.ReferenceIdeal.Gen.facts, Cert.Ffn.Gen.facts,
  Cert.FfnIdeal.Gen.facts, Cert.ExpertsIdeal.Gen.facts, Cert.Proj.Gen.facts, Cert.ProjIdeal.Gen.facts, Cert.ProjectionsIdeal.Gen.facts,
  Cert.FinalPrompt.Gen.facts, Cert.FinalPromptIdeal.Gen.facts, Cert.ResultPromptIdeal.Gen.facts, Cert.FinalSample.Gen.facts,
  Cert.FinalSampleIdeal.Gen.facts, Cert.ResultSampleIdeal.Gen.facts, Cert.Post.Gen.facts, Cert.PostIdeal.Gen.facts,
  Cert.MergeIdeal.Gen.facts, Cert.Pre_finite.Gen.facts, Cert.Pre_finite_bounds.Gen.facts,
  fun m g _ => Cert.Kernel.Gen.frame m g,
  fun m g _ => Cert.KernelIdeal.Gen.frame m g,
  fun m g _ => Cert.KernelIdeal.Gen.frame m g,
  fun m g _ => Cert.Equal.frame_reference m g,
  fun m g _ => Cert.Equal.frame_reference m g,
  fun m g _ => Cert.Ffn.Gen.frame m g,
  fun m g _ => Cert.FfnIdeal.Gen.frame m g,
  Cert.FfnEqual.frame_reference,
  fun m g _ => Cert.Proj.Gen.frame m g,
  fun m g _ => Cert.ProjIdeal.Gen.frame m g,
  fun m g _ => Cert.ProjIdeal.Gen.frame m g,
  Cert.ProjEqual.frame_reference,
  fun m g _ => Cert.ProjEqual.frame_reference m g trivial,
  fun m g _ => Cert.FinalPrompt.Gen.frame m g,
  fun m g _ => Cert.FinalPromptIdeal.Gen.frame m g,
  Cert.FinalPromptEqual.frame_reference,
  fun m g _ => Cert.FinalSample.Gen.frame m g,
  fun m g _ => Cert.FinalSampleIdeal.Gen.frame m g,
  Cert.FinalSampleEqual.frame_reference,
  fun m g _ => Cert.Post.Gen.frame m g,
  fun m g _ => Cert.PostIdeal.Gen.frame m g,
  Cert.MergeEqual.frame_reference,
  trivial,
  Cert.Equal.algebraic,
  trivial,
  Cert.FfnEqual.algebraic,
  Cert.ProjEqual.preserves,
  Cert.ProjEqual.algebraic,
  trivial,
  Cert.FinalPromptEqual.algebraic,
  trivial,
  Cert.FinalSampleEqual.algebraic,
  Cert.MergeEqual.preserves,
  Cert.MergeEqual.algebraic⟩

end Cert.Proof

end
